-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "neg_inf" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "pos_inf" .f32 0x7149F2CA#32 ⊤
  ∧ IdealRules.named_const.Statement Cert.KernelIdeal.κ "stop" .f32 0x42800000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v53) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v14) = v1 c
          ∧ r.2.mem ((c.tc : Thread Cert.ProjReferenceIdeal.nD Cert.ProjReferenceIdeal.τ).loc Cert.ProjReferenceIdeal.main_v23) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S4x8192x1536 : Shape := ⟨3, ![4, 8192, 1536]⟩
abbrev S128x1536 : Shape := ⟨2, ![128, 1536]⟩
abbrev S_ : Shape := ⟨0, ![]⟩

class Facts : Prop where
  bitsLt_bf16_f32 : FTy.bits .bf16 < FTy.bits .f32
  bcast_S_S4x8192x1536 : S_.BroadcastsInDim S4x8192x1536 (![] : Fin 0 → Fin S4x8192x1536.rank)
  bcast_S_S128x1536 : S_.BroadcastsInDim S128x1536 (![] : Fin 0 → Fin S128x1536.rank)

variable [Facts]

def fn {F : FTy → Type} [FloatOps F] (main_arg0 : FVec F S4x8192x1536 .bf16) (main_arg1 : FVec F S128x1536 .bf16) : IVec S4x8192x1536 1 × IVec S128x1536 1 :=
  let main_v0 : FVec F S4x8192x1536 .f32 := (extf .f32 · bitsLt_bf16_f32) main_arg0
  let main_v1 : FVec F S4x8192x1536 .f32 := Host.absf main_v0
  let main_cst : FVec F S_ .f32 := constant S_ .f32 0x7F800000#32
  let main_v2 : FVec F S4x8192x1536 .f32 := broadcastInDim S4x8192x1536 ![] bcast_S_S4x8192x1536 main_cst
  let main_v3 : IVec S4x8192x1536 1 := cmpf .olt main_v1 main_v2
  let main_v4 : FVec F S128x1536 .f32 := (extf .f32 · bitsLt_bf16_f32) main_arg1
  let main_v5 : FVec F S128x1536 .f32 := Host.absf main_v4
  let main_cst_0 : FVec F S_ .f32 := constant S_ .f32 0x7F800000#32
  let main_v6 : FVec F S128x1536 .f32 := broadcastInDim S128x1536 ![] bcast_S_S128x1536 main_cst_0
  let main_v7 : IVec S128x1536 1 := cmpf .olt main_v5 main_v6
  (main_v3, main_v7)
-- ==== Kernel.lean ====
abbrev S4x8192x1536 : Shape := ⟨3, ![4, 8192, 1536]⟩
abbrev S128x1536 : Shape := ⟨2, ![128, 1536]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x8192x512 : Shape := ⟨3, ![4, 8192, 512]⟩
abbrev S1x1024x128 : Shape := ⟨3, ![1, 1024, 128]⟩
abbrev S1x8192x128 : Shape := ⟨3, ![1, 8192, 128]⟩
abbrev S128x128 : Shape := ⟨2, ![128, 128]⟩
abbrev S2x1024x128 : Shape := ⟨3, ![2, 1024, 128]⟩
abbrev S1024x128 : Shape := ⟨2, ![1024, 128]⟩
abbrev S256x128 : Shape := ⟨2, ![256, 128]⟩
abbrev S1x256x128 : Shape := ⟨3, ![1, 256, 128]⟩
abbrev S1x128x128 : Shape := ⟨3, ![1, 128, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 11
  | .vmem => 14
  | .smem => 0
  | _ => 0

abbrev bufTy : (tb : Table) → Fin (tcTables nBuf tb) → BufTy
  | .hbm, ⟨0, _⟩ => ⟨S4x8192x1536, .bf16⟩
  | .hbm, ⟨1, _⟩ => ⟨S128x1536, .bf16⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S4x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x256, .bf16⟩
  | .local _ .vmem, ⟨11, _⟩ => ⟨S1x1024x128, .bf16⟩
  | .local _ .vmem, ⟨12, _⟩ => ⟨S1x1024x128, .bf16⟩
  | .local _ .vmem, ⟨13, _⟩ => ⟨S2x1024x128, .f32⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v23 : BitVec 32 := Scalar.muli arg2 c1024_i32
  let c0_i32_12 : BitVec 32 := 0#32
  let v28 : BitVec 32 := Scalar.addi v23 c0_i32_12
  v28
def k0_off1 (i : grid0.Coords) (c0_i32_12 : BitVec 32) : Fin 3 → Nat :=
  let c0_13 : Index := 0#32
  let arg2 : BitVec 32 := BitVec.ofNat 32 (i 2).val
  let c1024_i32 : BitVec 32 := 1024#32
  let v23 : BitVec 32 := Scalar.muli arg2 c1024_i32
  let v28 : BitVec 32 := Scalar.addi v23 c0_i32_12
  let v29 : BitVec 32 := v28
  let v30 : Index := Scalar.indexCast v29
  let c0_14 : Index := 0#32
  ![0, v30.toNat, 0]
def k0_mult2 (i : grid0.Coords) : BitVec 32 :=
  let arg2 : BitVec 32 := BitVec.ofNat 32 (i 2).val
  let c1024_i32 : BitVec 32 := 1024#32
  let v23 : BitVec 32 := Scalar.muli arg2 c1024_i32
  let c0_i32_15 : BitVec 32 := 0#32
  let v33 : BitVec 32 := Scalar.addi v23 c0_i32_15
  v33
def k0_mult3 (i : grid0.Coords) : BitVec 32 :=
  let arg2 : BitVec 32 := BitVec.ofNat 32 (i 2).val
  let c1024_i32 : BitVec 32 := 1024#32
  let v23 : BitVec 32 := Scalar.muli arg2 c1024_i32
  let c0_i32_18 : BitVec 32 := 0#32
  let v38 : BitVec 32 := Scalar.addi v23 c0_i32_18
  v38
def k0_mult4 (i : grid0.Coords) : BitVec 32 :=
  let arg2 : BitVec 32 := BitVec.ofNat 32 (i 2).val
  let c1024_i32 : BitVec 32 := 1024#32
  let v23 : BitVec 32 := Scalar.muli arg2 c1024_i32
  let c0_i32_21 : BitVec 32 := 0#32
  let v43 : BitVec 32 := Scalar.addi v23 c0_i32_21
  v43
def k0_mult5 (i : grid0.Coords) : BitVec 32 :=
  let arg2 : BitVec 32 := BitVec.ofNat 32 (i 2).val
  let c1024_i32 : BitVec 32 := 1024#32
  let v23 : BitVec 32 := Scalar.muli arg2 c1024_i32
  let c256_i32 : BitVec 32 := 256#32
  let v48 : BitVec 32 := Scalar.addi v23 c256_i32
  v48
def k0_mult6 (i : grid0.Coords) : BitVec 32 :=
  let arg2 : BitVec 32 := BitVec.ofNat 32 (i 2).val
  let c1024_i32 : BitVec 32 := 1024#32
  let v23 : BitVec 32 := Scalar.muli arg2 c1024_i32
  let c256_i32_26 : BitVec 32 := 256#32
  let v53 : BitVec 32 := Scalar.addi v23 c256_i32_26
  v53
def k0_mult7 (i : grid0.Coords) : BitVec 32 :=
  let arg2 : BitVec 32 := BitVec.ofNat 32 (i 2).val
  let c1024_i32 : BitVec 32 := 1024#32
  let v23 : BitVec 32 := Scalar.muli arg2 c1024_i32
  let c256_i32_29 : BitVec 32 := 256#32
  let v58 : BitVec 32 := Scalar.addi v23 c256_i32_29
  v58
def k0_mult8 (i : grid0.Coords) : BitVec 32 :=
  let arg2 : BitVec 32 := BitVec.ofNat 32 (i 2).val
  let c1024_i32 : BitVec 32 := 1024#32
  let v23 : BitVec 32 := Scalar.muli arg2 c1024_i32
  let c256_i32_32 : BitVec 32 := 256#32
  let v63 : BitVec 32 := Scalar.addi v23 c256_i32_32
  v63
def k0_mult9 (i : grid0.Coords) : BitVec 32 :=
  let arg2 : BitVec 32 := BitVec.ofNat 32 (i 2).val
  let c1024_i32 : BitVec 32 := 1024#32
  let v23 : BitVec 32 := Scalar.muli arg2 c1024_i32
  let c512_i32 : BitVec 32 := 512#32
  let v68 : BitVec 32 := Scalar.addi v23 c512_i32
  v68
def k0_mult10 (i : grid0.Coords) : BitVec 32 :=
  let arg2 : BitVec 32 := BitVec.ofNat 32 (i 2).val
  let c1024_i32 : BitVec 32 := 1024#32
  let v23 : BitVec 32 := Scalar.muli arg2 c1024_i32
  let c512_i32_37 : BitVec 32 := 512#32
  let v73 : BitVec 32 := Scalar.addi v23 c512_i32_37
  v73
def k0_mult11 (i : grid0.Coords) : BitVec 32 :=
  let arg2 : BitVec 32 := BitVec.ofNat 32 (i 2).val
  let c1024_i32 : BitVec 32 := 1024#32
  let v23 : BitVec 32 := Scalar.muli arg2 c1024_i32
  let c512_i32_40 : BitVec 32 := 512#32
  let v78 : BitVec 32 := Scalar.addi v23 c512_i32_40
  v78
def k0_mult12 (i : grid0.Coords) : BitVec 32 :=
  let arg2 : BitVec 32 := BitVec.ofNat 32 (i 2).val
  let c1024_i32 : BitVec 32 := 1024#32
  let v23 : BitVec 32 := Scalar.muli arg2 c1024_i32
  let c512_i32_43 : BitVec 32 := 512#32
  let v83 : BitVec 32 := Scalar.addi v23 c512_i32_43
  v83
def k0_mult13 (i : grid0.Coords) : BitVec 32 :=
  let arg2 : BitVec 32 := BitVec.ofNat 32 (i 2).val
  let c1024_i32 : BitVec 32 := 1024#32
  let v23 : BitVec 32 := Scalar.muli arg2 c1024_i32
  let c768_i32 : BitVec 32 := 768#32
  let v88 : BitVec 32 := Scalar.addi v23 c768_i32
  v88
def k0_mult14 (i : grid0.Coords) : BitVec 32 :=
  let arg2 : BitVec 32 := BitVec.ofNat 32 (i 2).val
  let c1024_i32 : BitVec 32 := 1024#32
  let v23 : BitVec 32 := Scalar.muli arg2 c1024_i32
  let c768_i32_48 : BitVec 32 := 768#32
  let v93 : BitVec 32 := Scalar.addi v23 c768_i32_48
  v93
def k0_mult15 (i : grid0.Coords) : BitVec 32 :=
  let arg2 : BitVec 32 := BitVec.ofNat 32 (i 2).val
  let c1024_i32 : BitVec 32 := 1024#32
  let v23 : BitVec 32 := Scalar.muli arg2 c1024_i32
  let c768_i32_51 : BitVec 32 := 768#32
  let v98 : BitVec 32 := Scalar.addi v23 c768_i32_51
  v98
def k0_mult16 (i : grid0.Coords) : BitVec 32 :=
  let arg2 : BitVec 32 := BitVec.ofNat 32 (i 2).val
  let c1024_i32 : BitVec 32 := 1024#32
  let v23 : BitVec 32 := Scalar.muli arg2 c1024_i32
  let c768_i32_54 : BitVec 32 := 768#32
  let v103 : BitVec 32 := Scalar.addi v23 c768_i32_54
  v103
def k0_mult17 (i : grid0.Coords) : BitVec 32 :=
  let arg2 : BitVec 32 := BitVec.ofNat 32 (i 2).val
  let c1024_i32 : BitVec 32 := 1024#32
  let v23 : BitVec 32 := Scalar.muli arg2 c1024_i32
  let c0_i32_57 : BitVec 32 := 0#32
  let v108 : BitVec 32 := Scalar.addi v23 c0_i32_57
  let c128_i32 : BitVec 32 := 128#32
  let v109 : BitVec 32 := Scalar.subi v108 c128_i32
  let c0_i32_58 : BitVec 32 := 0#32
  let v110 : BitVec 32 := Scalar.maxsi v109 c0_i32_58
  v110
def k0_off2 (i : grid0.Coords) (c0_i32_57 : BitVec 32) : Fin 3 → Nat :=
  let c0_59 : Index := 0#32
  let arg2 : BitVec 32 := BitVec.ofNat 32 (i 2).val
  let c1024_i32 : BitVec 32 := 1024#32
  let v23 : BitVec 32 := Scalar.muli arg2 c1024_i32
  let v108 : BitVec 32 := Scalar.addi v23 c0_i32_57
  let c128_i32 : BitVec 32 := 128#32
  let v109 : BitVec 32 := Scalar.subi v108 c128_i32
  let c0_i32_58 : BitVec 32 := 0#32
  let v110 : BitVec 32 := Scalar.maxsi v109 c0_i32_58
  let v111 : BitVec 32 := v110
  let v112 : Index := Scalar.indexCast v111
  let c0_60 : Index := 0#32
  ![0, v112.toNat, 0]
def k0_mult18 (i : grid0.Coords) : BitVec 32 :=
  let arg2 : BitVec 32 := BitVec.ofNat 32 (i 2).val
  let c1024_i32 : BitVec 32 := 1024#32
  let v23 : BitVec 32 := Scalar.muli arg2 c1024_i32
  let c0_i32_63 : BitVec 32 := 0#32
  let v118 : BitVec 32 := Scalar.addi v23 c0_i32_63
  let c128_i32_64 : BitVec 32 := 128#32
  let v119 : BitVec 32 := Scalar.subi v118 c128_i32_64
  let c0_i32_65 : BitVec 32 := 0#32
  let v120 : BitVec 32 := Scalar.maxsi v119 c0_i32_65
  v120
def k0_mult19 (i : grid0.Coords) : BitVec 32 :=
  let arg2 : BitVec 32 := BitVec.ofNat 32 (i 2).val
  let c1024_i32 : BitVec 32 := 1024#32
  let v23 : BitVec 32 := Scalar.muli arg2 c1024_i32
  let c256_i32_70 : BitVec 32 := 256#32
  let v128 : BitVec 32 := Scalar.addi v23 c256_i32_70
  let c128_i32_71 : BitVec 32 := 128#32
  let v129 : BitVec 32 := Scalar.subi v128 c128_i32_71
  let c0_i32_72 : BitVec 32 := 0#32
  let v130 : BitVec 32 := Scalar.maxsi v129 c0_i32_72
  v130
def k0_mult20 (i : grid0.Coords) : BitVec 32 :=
  let arg2 : BitVec 32 := BitVec.ofNat 32 (i 2).val
  let c1024_i32 : BitVec 32 := 1024#32
  let v23 : BitVec 32 := Scalar.muli arg2 c1024_i32
  let c256_i32_77 : BitVec 32 := 256#32
  let v138 : BitVec 32 := Scalar.addi v23 c256_i32_77
  let c128_i32_78 : BitVec 32 := 128#32
  let v139 : BitVec 32 := Scalar.subi v138 c128_i32_78
  let c0_i32_79 : BitVec 32 := 0#32
  let v140 : BitVec 32 := Scalar.maxsi v139 c0_i32_79
  v140
def k0_mult21 (i : grid0.Coords) : BitVec 32 :=
  let arg2 : BitVec 32 := BitVec.ofNat 32 (i 2).val
  let c1024_i32 : BitVec 32 := 1024#32
  let v23 : BitVec 32 := Scalar.muli arg2 c1024_i32
  let c512_i32_84 : BitVec 32 := 512#32
  let v148 : BitVec 32 := Scalar.addi v23 c512_i32_84
  let c128_i32_85 : BitVec 32 := 128#32
  let v149 : BitVec 32 := Scalar.subi v148 c128_i32_85
  let c0_i32_86 : BitVec 32 := 0#32
  let v150 : BitVec 32 := Scalar.maxsi v149 c0_i32_86
  v150
def k0_mult22 (i : grid0.Coords) : BitVec 32 :=
  let arg2 : BitVec 32 := BitVec.ofNat 32 (i 2).val
  let c1024_i32 : BitVec 32 := 1024#32
  let v23 : BitVec 32 := Scalar.muli arg2 c1024_i32
  let c512_i32_91 : BitVec 32 := 512#32
  let v158 : BitVec 32 := Scalar.addi v23 c512_i32_91
  let c128_i32_92 : BitVec 32 := 128#32
  let v159 : BitVec 32 := Scalar.subi v158 c128_i32_92
  let c0_i32_93 : BitVec 32 := 0#32
  let v160 : BitVec 32 := Scalar.maxsi v159 c0_i32_93
  v160
def k0_mult23 (i : grid0.Coords) : BitVec 32 :=
  let arg2 : BitVec 32 := BitVec.ofNat 32 (i 2).val
  let c1024_i32 : BitVec 32 := 1024#32
  let v23 : BitVec 32 := Scalar.muli arg2 c1024_i32
  let c768_i32_98 : BitVec 32 := 768#32
  let v168 : BitVec 32 := Scalar.addi v23 c768_i32_98
  let c128_i32_99 : BitVec 32 := 128#32
  let v169 : BitVec 32 := Scalar.subi v168 c128_i32_99
  let c0_i32_100 : BitVec 32 := 0#32
  let v170 : BitVec 32 := Scalar.maxsi v169 c0_i32_100
  v170
def k0_mult24 (i : grid0.Coords) : BitVec 32 :=
  let arg2 : BitVec 32 := BitVec.ofNat 32 (i 2).val
  let c1024_i32 : BitVec 32 := 1024#32
  let v23 : BitVec 32 := Scalar.muli arg2 c1024_i32
  let c768_i32_105 : BitVec 32 := 768#32
  let v178 : BitVec 32 := Scalar.addi v23 c768_i32_105
  let c128_i32_106 : BitVec 32 := 128#32
  let v179 : BitVec 32 := Scalar.subi v178 c128_i32_106
  let c0_i32_107 : BitVec 32 := 0#32
  let v180 : BitVec 32 := Scalar.maxsi v179 c0_i32_107
  v180
def k0_mult25 (i : grid0.Coords) (arg11 : BitVec 32) : BitVec 32 :=
  let arg2 : BitVec 32 := BitVec.ofNat 32 (i 2).val
  let c4_i32 : BitVec 32 := 4#32
  let v724 : BitVec 32 := Scalar.muli arg2 c4_i32
  let c4_i32_340 : BitVec 32 := 4#32
  let v725 : BitVec 32 := Scalar.addi v724 c4_i32_340
  let c1_i32 : BitVec 32 := 1#32
  let v726 : BitVec 32 := Scalar.subi v725 c1_i32
  let c1_i32_354 : BitVec 32 := 1#32
  let v742 : BitVec 32 := Scalar.subi v726 c1_i32_354
  let v743 : BitVec 32 := Scalar.subi v742 arg11
  let c256_i32_355 : BitVec 32 := 256#32
  let v744 : BitVec 32 := Scalar.muli v743 c256_i32_355
  v744

def k0_off3 (i : grid0.Coords) (arg11 : BitVec 32) : Fin 3 → Nat :=
  let c0_356 : Index := 0#32
  let arg2 : BitVec 32 := BitVec.ofNat 32 (i 2).val
  let c4_i32 : BitVec 32 := 4#32
  let v724 : BitVec 32 := Scalar.muli arg2 c4_i32
  let c4_i32_340 : BitVec 32 := 4#32
  let v725 : BitVec 32 := Scalar.addi v724 c4_i32_340
  let c1_i32 : BitVec 32 := 1#32
  let v726 : BitVec 32 := Scalar.subi v725 c1_i32
  let c1_i32_354 : BitVec 32 := 1#32
  let v742 : BitVec 32 := Scalar.subi v726 c1_i32_354
  let v743 : BitVec 32 := Scalar.subi v742 arg11
  let c256_i32_355 : BitVec 32 := 256#32
  let v744 : BitVec 32 := Scalar.muli v743 c256_i32_355
  let v745 : BitVec 32 := v744
  let v746 : Index := Scalar.indexCast v745
  let c0_357 : Index := 0#32
  ![0, v746.toNat, 0]
def k0_mult26 (i : grid0.Coords) (arg11 : BitVec 32) : BitVec 32 :=
  let arg2 : BitVec 32 := BitVec.ofNat 32 (i 2).val
  let c4_i32 : BitVec 32 := 4#32
  let v724 : BitVec 32 := Scalar.muli arg2 c4_i32
  let c4_i32_340 : BitVec 32 := 4#32
  let v725 : BitVec 32 := Scalar.addi v724 c4_i32_340
  let c1_i32 : BitVec 32 := 1#32
  let v726 : BitVec 32 := Scalar.subi v725 c1_i32
  let c1_i32_354 : BitVec 32 := 1#32
  let v742 : BitVec 32 := Scalar.subi v726 c1_i32_354
  let v743 : BitVec 32 := Scalar.subi v742 arg11
  let c256_i32_358 : BitVec 32 := 256#32
  let v749 : BitVec 32 := Scalar.muli v743 c256_i32_358
  v749

def k0_chk1 (i : grid0.Coords) (arg11 : BitVec 32) : Prop :=
  (256 ∣ (k0_mult25 i arg11).toNat) ∧
  (∀ a, (k0_off3 i arg11) a + S1x256x128.size a ≤ S1x8192x128.size a) ∧
  (256 ∣ (k0_mult26 i arg11).toNat)
theorem k0_mult25_dvd : ∀ (i : grid0.Coords) (arg11 : BitVec 32) (k0_hw1 : k0_chk1 i arg11), 256 ∣ (k0_mult25 i arg11).toNat := fun i arg11 k0_hw1 => k0_hw1.1
theorem k0_off3_inb : ∀ (i : grid0.Coords) (arg11 : BitVec 32) (k0_hw1 : k0_chk1 i arg11), ∀ a, (k0_off3 i arg11) a + S1x256x128.size a ≤ S1x8192x128.size a := fun i arg11 k0_hw1 => k0_hw1.2.1
theorem k0_mult26_dvd : ∀ (i : grid0.Coords) (arg11 : BitVec 32) (k0_hw1 : k0_chk1 i arg11), 256 ∣ (k0_mult26 i arg11).toNat := fun i arg11 k0_hw1 => k0_hw1.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_inf" => some ⊥
  | "pos_inf" => some ⊤
  | "scale" => some (((1 / 8) * (Real.log 2)⁻¹ : ℝ) : EReal)
  | "stop" => some ⊤
  | _ => none
-- ==== ReferenceIdeal.lean ====
abbrev S4x8192x1536 : Shape := ⟨3, ![4, 8192, 1536]⟩
abbrev S128x1536 : Shape := ⟨2, ![128, 1536]⟩
abbrev S16x1536 : Shape := ⟨2, ![16, 1536]⟩
abbrev S1x16x1536 : Shape := ⟨3, ![1, 16, 1536]⟩
abbrev S4x16x1536 : Shape := ⟨3, ![4, 16, 1536]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S4x16x512 : Shape := ⟨3, ![4, 16, 512]⟩
abbrev S4x8208x512 : Shape := ⟨3, ![4, 8208, 512]⟩
abbrev S4x8208x8x64 : Shape := ⟨4, ![4, 8208, 8, 64]⟩
abbrev S4x8x8208x64 : Shape := ⟨4, ![4, 8, 8208, 64]⟩
abbrev S4x8x8192x8208 : Shape := ⟨4, ![4, 8, 8192, 8208]⟩
abbrev S_ : Shape := ⟨0, ![]⟩
abbrev S8192x8208 : Shape := ⟨2, ![8192, 8208]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x1536, .bf16⟩
  | .hbm, ⟨1, _⟩ => ⟨S128x1536, .bf16⟩
  | .hbm, ⟨2, _⟩ => ⟨S16x1536, .bf16⟩
  | .hbm, ⟨3, _⟩ => ⟨S1x16x1536, .bf16⟩
  | .hbm, ⟨4, _⟩ => ⟨S1x16x1536, .f32⟩
  | .hbm, ⟨5, _⟩ => ⟨S4x16x1536, .f32⟩
  | .hbm, ⟨6, _⟩ => ⟨S4x8192x512, .bf16⟩
  | .hbm, ⟨7, _⟩ => ⟨S4x8192x512, .f32⟩
  | .hbm, ⟨8, _⟩ => ⟨S4x8192x8x64, .f32⟩
  | .hbm, ⟨9, _⟩ => ⟨S4x8x8192x64, .f32⟩
  | .hbm, ⟨10, _⟩ => ⟨S4x16x512, .f32⟩
  | .hbm, ⟨11, _⟩ => ⟨S4x8192x512, .bf16⟩
  | .hbm, ⟨12, _⟩ => ⟨S4x8192x512, .f32⟩
  | .hbm, ⟨13, _⟩ => ⟨S4x8208x512, .f32⟩
  | .hbm, ⟨14, _⟩ => ⟨S4x8208x8x64, .f32⟩
  | .hbm, ⟨15, _⟩ => ⟨S4x8x8208x64, .f32⟩
  | .hbm, ⟨16, _⟩ => ⟨S4x16x512, .f32⟩
  | .hbm, ⟨17, _⟩ => ⟨S4x8192x512, .bf16⟩
  | .hbm, ⟨18, _⟩ => ⟨S4x8192x512, .f32⟩
  | .hbm, ⟨19, _⟩ => ⟨S4x8208x512, .f32⟩
  | .hbm, ⟨20, _⟩ => ⟨S4x8208x8x64, .f32⟩
  | .hbm, ⟨21, _⟩ => ⟨S4x8x8208x64, .f32⟩
  | .hbm, ⟨22, _⟩ => ⟨S4x8x8192x8208, .f32⟩
  | .hbm, ⟨23, _⟩ => ⟨S_, .f32⟩
  | .hbm, ⟨24, _⟩ => ⟨S4x8x8192x8208, .f32⟩
  | .hbm, ⟨25, _⟩ => ⟨S4x8x8192x8208, .f32⟩
  | .hbm, ⟨26, _⟩ => ⟨S8192x8208, .i32⟩
  | .hbm, ⟨27, _⟩ => ⟨S8192x8208, .i32⟩
  | .hbm, ⟨28, _⟩ => ⟨S_, .i32⟩
  | .hbm, ⟨29, _⟩ => ⟨S8192x8208, .i32⟩
  | .hbm, ⟨30, _⟩ => ⟨S8192x8208, .i32⟩
  | .hbm, ⟨31, _⟩ => ⟨S8192x8208, .i1⟩
  | .hbm, ⟨32, _⟩ => ⟨S_, .f32⟩
  | .hbm, ⟨33, _⟩ => ⟨S4x8x8192x8208, .f32⟩
  | .hbm, ⟨34, _⟩ => ⟨S4x8x8192x8208, .f32⟩
  | .hbm, ⟨35, _⟩ => ⟨S4x8x8192x8208, .f32⟩
  | .hbm, ⟨36, _⟩ => ⟨S4x8x8192x8208, .f32⟩
  | .hbm, ⟨37, _⟩ => ⟨S4x8x8192x8208, .i1⟩
  | .hbm, ⟨38, _⟩ => ⟨S4x8x8192x8208, .f32⟩
  | .hbm, ⟨39, _⟩ => ⟨S4x8x8192x8208, .f32⟩
  | .hbm, ⟨40, _⟩ => ⟨S4x8x8192x8208, .f32⟩
  | .hbm, ⟨41, _⟩ => ⟨S4x8x8192x8208, .f32⟩
  | .hbm, ⟨42, _⟩ => ⟨S4x8x8192x8208, .f32⟩
  | .hbm, ⟨43, _⟩ => ⟨S4x8x8192x8208, .f32⟩
  | .hbm, ⟨44, _⟩ => ⟨S4x8x8192x8208, .f32⟩
  | .hbm, ⟨45, _⟩ => ⟨S4x8x8192x8208, .f32⟩
  | .hbm, ⟨46, _⟩ => ⟨S_, .f32⟩
  | .hbm, ⟨47, _⟩ => ⟨S_, .f32⟩
  | .hbm, ⟨48, _⟩ => ⟨S4x8x8192x8208, .i1⟩
  | .hbm, ⟨49, _⟩ => ⟨S4x8x8192x8208, .f32⟩
  | .hbm, ⟨50, _⟩ => ⟨S4x8x8192x8208, .f32⟩
  | .hbm, ⟨51, _⟩ => ⟨S_, .f32⟩
  | .hbm, ⟨52, _⟩ => ⟨S_, .f32⟩
  | .hbm, ⟨53, _⟩ => ⟨S4x8x8192x8208, .f32⟩
  | .hbm, ⟨54, _⟩ => ⟨S4x8x8192x8208, .f32⟩
  | .hbm, ⟨55, _⟩ => ⟨S4x8x8192x8208, .f32⟩
  | .hbm, ⟨56, _⟩ => ⟨S_, .f32⟩
  | .hbm, ⟨57, _⟩ => ⟨S4x8x8192x8208, .f32⟩
  | .hbm, ⟨58, _⟩ => ⟨S4x8x8192x8208, .f32⟩
  | .hbm, ⟨59, _⟩ => ⟨S4x8x8192x8208, .f32⟩
  | .hbm, ⟨60, _⟩ => ⟨S4x8x8192x8208, .f32⟩
  | .hbm, ⟨61, _⟩ => ⟨S4x8x8192x8208, .i1⟩
  | .hbm, ⟨62, _⟩ => ⟨S4x8x8192x8208, .f32⟩
  | .hbm, ⟨63, _⟩ => ⟨S4x8x8192x8208, .f32⟩
  | .hbm, ⟨64, _⟩ => ⟨S4x8x8192x8208, .f32⟩
  | .hbm, ⟨65, _⟩ => ⟨S4x8x8192x8208, .f32⟩
  | .hbm, ⟨66, _⟩ => ⟨S4x8x8192x8208, .f32⟩
  | .hbm, ⟨67, _⟩ => ⟨S4x8x8192x8208, .f32⟩
  | .hbm, ⟨68, _⟩ => ⟨S4x8x8192x8208, .f32⟩
  | .hbm, ⟨69, _⟩ => ⟨S4x8x8192x8208, .f32⟩
  | .hbm, ⟨70, _⟩ => ⟨S4x8x8192x8208, .f32⟩
  | .hbm, ⟨71, _⟩ => ⟨S4x8x8192x8208, .f32⟩
  | .hbm, ⟨72, _⟩ => ⟨S4x8x8192x8208, .f32⟩
  | .hbm, ⟨73, _⟩ => ⟨S_, .f32⟩
  | .hbm, ⟨74, _⟩ => ⟨S_, .f32⟩
  | .hbm, ⟨75, _⟩ => ⟨S4x8x8192x8208, .i1⟩
  | .hbm, ⟨76, _⟩ => ⟨S4x8x8192x8208, .f32⟩
  | .hbm, ⟨77, _⟩ => ⟨S4x8x8192x8208, .f32⟩
  | .hbm, ⟨78, _⟩ => ⟨S4x8x8192x64, .f32⟩
  | .hbm, ⟨79, _⟩ => ⟨S4x8192x8x64, .f32⟩
  | .hbm, ⟨80, _⟩ => ⟨S4x8192x512, .f32⟩
  | .hbm, ⟨81, _⟩ => ⟨S4x8192x512, .bf16⟩
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v28 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_call2_cst : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_call3_v0 : Ref sig .tc := ⟨.hbm, 55, rfl⟩
abbrev main_call3_call0_cst : Ref sig .tc := ⟨.hbm, 56, rfl⟩
abbrev main_call3_call0_v0 : Ref sig .tc := ⟨.hbm, 57, rfl⟩
abbrev main_call3_call0_v1 : Ref sig .tc := ⟨.hbm, 58, rfl⟩
abbrev main_call3_call0_v2 : Ref sig .tc := ⟨.hbm, 59, rfl⟩
abbrev main_call3_call0_v3 : Ref sig .tc := ⟨.hbm, 60, rfl⟩
abbrev main_call3_call0_v4 : Ref sig .tc := ⟨.hbm, 61, rfl⟩
abbrev main_call3_call0_v5 : Ref sig .tc := ⟨.hbm, 62, rfl⟩
abbrev main_call3_call0_v6 : Ref sig .tc := ⟨.hbm, 63, rfl⟩
abbrev main_call3_call0_v7 : Ref sig .tc := ⟨.hbm, 64, rfl⟩
abbrev main_call3_call0_v8 : Ref sig .tc := ⟨.hbm, 65, rfl⟩
abbrev main_call3_call0_v9 : Ref sig .tc := ⟨.hbm, 66, rfl⟩
abbrev main_call3_call0_v10 : Ref sig .tc := ⟨.hbm, 67, rfl⟩
abbrev main_call3_call0_v11 : Ref sig .tc := ⟨.hbm, 68, rfl⟩
abbrev main_call3_v1 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_1 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 20
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1x1024, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1x1024, .f32⟩
  | .hbm, ⟨13, _⟩ => ⟨S32768x2048, .f32⟩
  | .hbm, ⟨14, _⟩ => ⟨S32768x1024, .f32⟩
  | .hbm, ⟨15, _⟩ => ⟨S32768x1024, .f32⟩
  | .hbm, ⟨16, _⟩ => ⟨S32768x512, .f32⟩
  | .hbm, ⟨17, _⟩ => ⟨S32768x1024, .f32⟩
  | .hbm, ⟨18, _⟩ => ⟨S32768x1024, .f32⟩
  | .hbm, ⟨19, _⟩ => ⟨S32768x512, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x2816, .f32⟩
  | .hbm, ⟨56, _⟩ => ⟨S32768x2816, .f32⟩
  | .hbm, ⟨57, _⟩ => ⟨S32768x2816, .f32⟩
  | .hbm, ⟨58, _⟩ => ⟨S_, .f32⟩
  | .hbm, ⟨59, _⟩ => ⟨S32768x2816, .f32⟩
  | .hbm, ⟨60, _⟩ => ⟨S32768x2816, .f32⟩
  | .hbm, ⟨61, _⟩ => ⟨S_, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S32768x2816, .f32⟩
  | .hbm, ⟨67, _⟩ => ⟨S32768x1024, .f32⟩
  | .hbm, ⟨68, _⟩ => ⟨S32768x1024, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]
-- ==== Proj.lean ====
abbrev S32768x1024 : Shape := ⟨2, ![32768, 1024]⟩
abbrev S1x1024 : Shape := ⟨2, ![1, 1024]⟩
abbrev S1024x5376 : Shape := ⟨2, ![1024, 5376]⟩
abbrev S32768x1536 : Shape := ⟨2, ![32768, 1536]⟩
abbrev S32768x1792 : Shape := ⟨2, ![32768, 1792]⟩
abbrev S32768x2048 : Shape := ⟨2, ![32768, 2048]⟩
abbrev S1024x1024 : Shape := ⟨2, ![1024, 1024]⟩
abbrev S1024x1536 : Shape := ⟨2, ![1024, 1536]⟩
abbrev S1024x1792 : Shape := ⟨2, ![1024, 1792]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5376, .f32⟩
  | .hbm, ⟨3, _⟩ => ⟨S1024x5376, .bf16⟩
  | .hbm, ⟨4, _⟩ => ⟨S32768x1536, .bf16⟩
  | .hbm, ⟨5, _⟩ => ⟨S32768x1792, .f32⟩
  | .hbm, ⟨6, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5376, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1792, .f32⟩
  | .local _ .vmem, ⟨7, _⟩ => ⟨S1024x1792, .f32⟩
  | .local _ .vmem, ⟨8, _⟩ => ⟨S1024x2048, .bf16⟩
  | .local _ .vmem, ⟨9, _⟩ => ⟨S1024x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjReferenceIdeal.lean ====
abbrev S32768x1024 : Shape := ⟨2, ![32768, 1024]⟩
abbrev S1x1024 : Shape := ⟨2, ![1, 1024]⟩
abbrev S1024x5376 : Shape := ⟨2, ![1024, 5376]⟩
abbrev S_ : Shape := ⟨0, ![]⟩
abbrev S32768 : Shape := ⟨1, ![32768]⟩
abbrev S32768x1 : Shape := ⟨2, ![32768, 1]⟩
abbrev S32768x5376 : Shape := ⟨2, ![32768, 5376]⟩
abbrev S32768x1536 : Shape := ⟨2, ![32768, 1536]⟩
abbrev S32768x1792 : Shape := ⟨2, ![32768, 1792]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5376, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x5376, .f32⟩
  | .hbm, ⟨19, _⟩ => ⟨S32768x1536, .f32⟩
  | .hbm, ⟨20, _⟩ => ⟨S32768x1792, .f32⟩
  | .hbm, ⟨21, _⟩ => ⟨S32768x2048, .f32⟩
  | .hbm, ⟨22, _⟩ => ⟨S32768x1536, .bf16⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.SB.Rows.lean ====
/-
  A row of numbers divided by its root mean square and scaled by a gain, as the extended reals have it, and the two ways
  the programs spell it over all the rows of an array, a kernel's and a host's, each read at one entry. The same for a
  matrix product and for the logistic function.
-/
module

public import Idealize.ShloMosaic.Lib.MatmulPlain
public import Idealize.ShloMosaic.Lib.StackMember
public import Idealize.ShloMosaic.Lib.ValueIdx
public import Idealize.ShloMosaic.Lib.ValueIdxCoords
public import Idealize.ShloMosaic.Lib.IdealHost
public import Idealize.ShloMosaic.Lib.KernelVsHost
public import Idealize.ShloMosaic.Lib.Pipeline.Value
public import Idealize.ShloMosaic.Lib.Pointwise.Reduce
public import Idealize.ShloMosaic.Lib.Pointwise.Reshape
public import Idealize.ShloMosaic.Lib.Pointwise.ShapeOpsCore

@[expose] public section

noncomputable section

namespace Cert.SB.Rows

open Idealize.ShloMosaic hiding ix0 ix1 ix2 ix3 ix4 ix5
open Idealize.ShloMosaic.ValueIdx
open scoped BigOperators

/-- The number of columns, and what is added to the mean square, as the programs' words have them. -/
def cols : EReal := Ideal.ofBits .f32 0x44800000#32
def eps : EReal := Ideal.ofBits .f32 0x358637BD#32

/-- One over a row's root mean square. -/
def scale (y : Fin 1024 → EReal) : EReal := Ideal.rsqrt (Ideal.div (∑ k, y k * y k) cols + eps)

/-- A row over its root mean square, times a gain. -/
def norm (y g : Fin 1024 → EReal) (j : Fin 1024) : EReal := y j * scale y * g j

abbrev Sh2 (M N : ℕ) : Shape := ⟨2, ![M, N]⟩
abbrev Sh1 (M : ℕ) : Shape := ⟨1, ![M]⟩

/-- A kernel's spelling of one over every row's root mean square. -/
def scaleK {M : ℕ} (y : FVec Ideal (Sh2 M 1024) .f32) (hr : (Sh2 M 1024).Reduces [1] (Sh1 M)) (hs : (Sh1 M).ShapeCasts (Sh2 M 1)) :
    FVec Ideal (Sh2 M 1) .f32 :=
  rsqrt (addf (divf (shapeCast (Sh2 M 1) (multiReduction .add [1] (Sh1 M) (mulf y y) 0x00000000#32 hr (.inl rfl) rfl) hs)
    (broadcast (Sh2 M 1) (Scalar.ofBits .f32 0x44800000#32))) (broadcast (Sh2 M 1) (Scalar.ofBits .f32 0x358637BD#32)))

theorem scaleK_apply {M : ℕ} (y : FVec Ideal (Sh2 M 1024) .f32) (hr : (Sh2 M 1024).Reduces [1] (Sh1 M)) (hs : (Sh1 M).ShapeCasts (Sh2 M 1))
    (r : Fin M) : scaleK y hr hs (ix2 r 0) = scale fun k => y (ix2 r k) := by
  have e : shapeCast (Sh2 M 1) (multiReduction .add [1] (Sh1 M) (mulf y y) 0x00000000#32 hr (.inl rfl) rfl) hs (ix2 r (0 : Fin 1))
      = ∑ k : Fin 1024, y (ix2 r k) * y (ix2 r k) := by
    refine (shapeCast_apply _ hs (ix2 r (0 : Fin 1)) (ix1 r) ?_).trans ?_
    · rw [Shape.rowMajor_val_one, Shape.rowMajor_val_two]; simp; rfl
    · exact Ideal.reduceAdd_r2_a1 hr _ _
  show Ideal.rsqrt (Ideal.div (shapeCast (Sh2 M 1) _ hs (ix2 r (0 : Fin 1))) cols + eps) = _
  rw [e]
  rfl

theorem bcol_apply {M : ℕ} {α : Type} (x : (Sh2 M 1).Idx → α) (h : (Sh2 M 1).Broadcasts (Sh2 M 1024)) (r : Fin M) (j : Fin 1024) :
    broadcastTo (Sh2 M 1024) x h (ix2 r j) = x (ix2 r 0) := by
  refine broadcastTo_apply x h _ _ fun a => ?_
  match a with
  | ⟨0, _⟩ =>
    show r.val = if M = 1 then 0 else r.val
    split
    · have := r.isLt; omega
    · rfl
  | ⟨1, _⟩ => rfl

theorem brow_apply {M : ℕ} {α : Type} (x : (Sh2 1 1024).Idx → α) (h : (Sh2 1 1024).Broadcasts (Sh2 M 1024)) (r : Fin M) (j : Fin 1024) :
    broadcastTo (Sh2 M 1024) x h (ix2 r j) = x (ix2 0 j) := by
  refine broadcastTo_apply x h _ _ fun a => ?_
  match a with
  | ⟨0, _⟩ => rfl
  | ⟨1, _⟩ => rfl

/-- A kernel's spelling of the scaled rows, at one entry. -/
theorem normK_apply {M : ℕ} (y : FVec Ideal (Sh2 M 1024) .f32) (g : FVec Ideal (Sh2 1 1024) .f32)
    (hr : (Sh2 M 1024).Reduces [1] (Sh1 M)) (hs : (Sh1 M).ShapeCasts (Sh2 M 1)) (hb : (Sh2 M 1).Broadcasts (Sh2 M 1024))
    (hg : (Sh2 1 1024).Broadcasts (Sh2 M 1024)) (r : Fin M) (j : Fin 1024) :
    mulf (mulf y (broadcastTo (Sh2 M 1024) (scaleK y hr hs) hb)) (broadcastTo (Sh2 M 1024) g hg) (ix2 r j)
      = norm (fun k => y (ix2 r k)) (fun k => g (ix2 0 k)) j := by
  show y (ix2 r j) * broadcastTo (Sh2 M 1024) (scaleK y hr hs) hb (ix2 r j) * broadcastTo (Sh2 M 1024) g hg (ix2 r j) = _
  rw [bcol_apply, brow_apply, scaleK_apply]
  rfl

/-- The host's spelling of one over every row's root mean square. -/
def scaleH {M : ℕ} (y : FVec Ideal (Sh2 M 1024) .f32) (hr : (Sh2 M 1024).ReducesTo [1] (Sh1 M)) (hu : 0 < (⟨0, ![]⟩ : Shape).numel)
    (hc : (Sh1 M).BroadcastsInDim (Sh2 M 1) ![0]) (hz : (⟨0, ![]⟩ : Shape).BroadcastsInDim (Sh2 M 1) ![]) : FVec Ideal (Sh2 M 1) .f32 :=
  Host.rsqrt (addf (Host.divf
    (broadcastInDim (Sh2 M 1) ![0] hc (Host.reduceAdd (mulf y y) (constant ⟨0, ![]⟩ .f32 0x00000000#32) hr hu))
    (broadcastInDim (Sh2 M 1) ![] hz (constant ⟨0, ![]⟩ .f32 0x44800000#32)))
    (broadcastInDim (Sh2 M 1) ![] hz (constant ⟨0, ![]⟩ .f32 0x358637BD#32)))

/-- The host's spelling of the scaled rows of an array. -/
def normH {M : ℕ} (y : FVec Ideal (Sh2 M 1024) .f32) (g : FVec Ideal (Sh2 1 1024) .f32) (hr : (Sh2 M 1024).ReducesTo [1] (Sh1 M))
    (hu : 0 < (⟨0, ![]⟩ : Shape).numel) (hc : (Sh1 M).BroadcastsInDim (Sh2 M 1) ![0])
    (hz : (⟨0, ![]⟩ : Shape).BroadcastsInDim (Sh2 M 1) ![]) (hb : (Sh2 M 1).BroadcastsInDim (Sh2 M 1024) ![0, 1])
    (hg : (Sh2 1 1024).BroadcastsInDim (Sh2 M 1024) ![0, 1]) : FVec Ideal (Sh2 M 1024) .f32 :=
  mulf (mulf y (broadcastInDim (Sh2 M 1024) ![0, 1] hb (scaleH y hr hu hc hz))) (broadcastInDim (Sh2 M 1024) ![0, 1] hg g)

theorem bcolH_apply {M : ℕ} {α : Type} (x : (Sh2 M 1).Idx → α) (h : (Sh2 M 1).BroadcastsInDim (Sh2 M 1024) ![0, 1]) (r : Fin M) (j : Fin 1024) :
    broadcastInDim (Sh2 M 1024) ![0, 1] h x (ix2 r j) = x (ix2 r 0) := by
  refine broadcastInDim_apply _ h x _ _ fun a => ?_
  match a with
  | ⟨0, _⟩ =>
    show r.val = if M = 1 then 0 else r.val
    split
    · have := r.isLt; omega
    · rfl
  | ⟨1, _⟩ => rfl

theorem scaleH_apply {M : ℕ} (y : FVec Ideal (Sh2 M 1024) .f32) (hr : (Sh2 M 1024).ReducesTo [1] (Sh1 M)) (hu : 0 < (⟨0, ![]⟩ : Shape).numel)
    (hc : (Sh1 M).BroadcastsInDim (Sh2 M 1) ![0]) (hz : (⟨0, ![]⟩ : Shape).BroadcastsInDim (Sh2 M 1) ![]) (r : Fin M) :
    scaleH y hr hu hc hz (ix2 r 0) = scale fun k => y (ix2 r k) := by
  have e : broadcastInDim (Sh2 M 1) ![0] hc (Host.reduceAdd (mulf y y) (constant ⟨0, ![]⟩ .f32 0x00000000#32) hr hu) (ix2 r (0 : Fin 1))
      = ∑ k : Fin 1024, y (ix2 r k) * y (ix2 r k) := by
    refine (broadcastInDim_apply _ hc _ (ix2 r (0 : Fin 1)) (ix1 r) fun a => ?_).trans ?_
    · match a with
      | ⟨0, _⟩ =>
        show r.val = if M = 1 then 0 else r.val
        split
        · have := r.isLt; omega
        · rfl
    · refine (Ideal.hostReduceAdd_r2_a1 hr _ _ _).trans ?_
      rw [show (constant (F := Ideal) ⟨0, ![]⟩ .f32 0x00000000#32 (Shape.Idx.first hu)) = (0 : EReal) from Ideal.ofBits_zero_f32, zero_add]
      rfl
  show Ideal.rsqrt (Ideal.div (broadcastInDim (Sh2 M 1) ![0] hc (Host.reduceAdd (mulf y y) (constant ⟨0, ![]⟩ .f32 0x00000000#32) hr hu)
    (ix2 r (0 : Fin 1))) cols + eps) = _
  rw [e]
  rfl

theorem normH_apply {M : ℕ} (y : FVec Ideal (Sh2 M 1024) .f32) (g : FVec Ideal (Sh2 1 1024) .f32) (hr : (Sh2 M 1024).ReducesTo [1] (Sh1 M))
    (hu : 0 < (⟨0, ![]⟩ : Shape).numel) (hc : (Sh1 M).BroadcastsInDim (Sh2 M 1) ![0])
    (hz : (⟨0, ![]⟩ : Shape).BroadcastsInDim (Sh2 M 1) ![]) (hb : (Sh2 M 1).BroadcastsInDim (Sh2 M 1024) ![0, 1])
    (hg : (Sh2 1 1024).BroadcastsInDim (Sh2 M 1024) ![0, 1]) (r : Fin M) (j : Fin 1024) :
    normH y g hr hu hc hz hb hg (ix2 r j) = norm (fun k => y (ix2 r k)) (fun k => g (ix2 0 k)) j := by
  show y (ix2 r j) * broadcastInDim (Sh2 M 1024) ![0, 1] hb (scaleH y hr hu hc hz) (ix2 r j)
    * broadcastInDim (Sh2 M 1024) ![0, 1] hg g (ix2 r j) = _
  rw [bcolH_apply, broadcastInDim_oneRow_apply, scaleH_apply]
  rfl

/-- A kernel's product of two matrices, started at zero, at one entry. -/
theorem mmK_apply {M K N : ℕ} {φ₁ φ₂ : FTy} (A : FVec Ideal (Sh2 M K) φ₁) (B : FVec Ideal (Sh2 K N) φ₂) (r : Fin M) (n : Fin N) :
    FloatOps.matmul (DotDims.plain M K N) none A B (constant (Sh2 M N) .f32 0x00000000#32) (ix2 r n)
      = ∑ k : Fin K, A (ix2 r k) * B (ix2 k n) := by
  rw [Ideal.matmul_plain_apply, show (constant (F := Ideal) (Sh2 M N) .f32 0x00000000#32 (ix2 r n)) = (0 : EReal) from Ideal.ofBits_zero_f32,
    zero_add]

/-- The host's spelling of the logistic function, at one entry. -/
theorem sigH_apply {s : Shape} (x : FVec Ideal s .f32) (hz hz' : (⟨0, ![]⟩ : Shape).BroadcastsInDim s ![]) (i : s.Idx) :
    Host.divf (broadcastInDim s ![] hz (constant ⟨0, ![]⟩ .f32 0x3F800000#32))
      (addf (broadcastInDim s ![] hz' (constant ⟨0, ![]⟩ .f32 0x3F800000#32)) (Host.exp (Host.negf x))) i = Ideal.logistic (x i) := by
  show Ideal.div (Ideal.ofBits .f32 0x3F800000#32) (Ideal.ofBits .f32 0x3F800000#32 + Ideal.exp (-(x i))) = _
  rw [Ideal.ofBits_one_f32]
  rfl

/-- A load of some of the columns of a block, and of some of its rows, at one entry. -/
theorem ld_cols {R C N o : ℕ} {Val : EltTy → Type} {e : EltTy} (x : (Sh2 R C).Idx → Val e)
    (inb : ∀ a, (![0, o] : Fin 2 → ℕ) a + (Sh2 R N).size a ≤ (Sh2 R C).size a) (k : Fin R) (n : Fin N) (h : o + n.val < C) :
    View.ld x (Rect.unit (s := Sh2 R C) ![0, o] (Sh2 R N).size inb) (ix2 k n) = x (ix2 k ⟨o + n.val, h⟩) := by
  refine congrArg x (funext fun a => Fin.ext ?_)
  match a with
  | ⟨0, _⟩ => show 0 + 1 * k.val = k.val; omega
  | ⟨1, _⟩ => show o + 1 * n.val = o + n.val; omega

theorem ld_rows {R C N o : ℕ} {Val : EltTy → Type} {e : EltTy} (x : (Sh2 R C).Idx → Val e)
    (inb : ∀ a, (![o, 0] : Fin 2 → ℕ) a + (Sh2 N C).size a ≤ (Sh2 R C).size a) (k : Fin N) (n : Fin C) (h : o + k.val < R) :
    View.ld x (Rect.unit (s := Sh2 R C) ![o, 0] (Sh2 N C).size inb) (ix2 k n) = x (ix2 ⟨o + k.val, h⟩ n) := by
  refine congrArg x (funext fun a => Fin.ext ?_)
  match a with
  | ⟨0, _⟩ => show o + 1 * k.val = o + k.val; omega
  | ⟨1, _⟩ => show 0 + 1 * n.val = n.val; omega

theorem ld_all {R C : ℕ} {Val : EltTy → Type} {e : EltTy} (x : (Sh2 R C).Idx → Val e)
    (inb : ∀ a, (![0, 0] : Fin 2 → ℕ) a + (Sh2 R C).size a ≤ (Sh2 R C).size a) :
    View.ld x (Rect.unit (s := Sh2 R C) ![0, 0] (Sh2 R C).size inb) = x :=
  View.ld_unit_zero (S := Sh2 R C) (by funext a; match a with | ⟨0, _⟩ => rfl | ⟨1, _⟩ => rfl) inb x

theorem canon_all {R C : ℕ} {e : EltTy} (x : (Sh2 R C).Idx → Elt Ideal e)
    (inb : ∀ a, (![0, 0] : Fin 2 → ℕ) a + (Sh2 R C).size a ≤ (Sh2 R C).size a) :
    View.canon [(⟨Rect.unit (s := Sh2 R C) ![0, 0] (Sh2 R C).size inb, x⟩ : View.Piece (Elt Ideal) (Sh2 R C) e)] = x :=
  View.canon_cons_unit_zero (S := Sh2 R C) (by funext a; match a with | ⟨0, _⟩ => rfl | ⟨1, _⟩ => rfl) inb x []

end Cert.SB.Rows

end
-- ==== Proof.SB.Proj.Kernel.lean ====
/-
  The projection: a block of rows times the columns of the weight that one result takes, read at one entry, and the three
  arrays the launch leaves.
-/
module

public import proofs.«01_k».proof.Proof.Gen.ProjIdeal.Value
public import proofs.«01_k».proof.Proof.SB.Rows
public import Idealize.ShloMosaic.Lib.Pipeline.ValueKit

@[expose] public section

set_option maxRecDepth 16384

noncomputable section

namespace Cert.ProjIdeal.SB

open Cert.ProjIdeal Cert.ProjIdeal.Gen
open Idealize.ShloMosaic hiding ix0 ix1 ix2 ix3 ix4 ix5
open Idealize.ShloMosaic.ValueIdx
open Idealize.ShloMosaic.TcCoe Idealize.ShloMosaic.Tactic
open Idealize.SL Idealize.SL.Sem
open Cert.SB.Rows
open scoped BigOperators

/-! ## One block -/

theorem pay1_apply (x : Vec Ideal S1024x1024 .f32) (g : Vec Ideal S1x1024 .f32) (r j : Fin 1024) :
    k0_pay1 x g (ix2 r j) = norm (fun k => x (ix2 r k)) (fun k => g (ix2 0 k)) j :=
  normK_apply (M := 1024) x g _ _ _ _ r j

theorem pay2_apply (x : Vec Ideal S1024x1024 .f32) (g : Vec Ideal S1x1024 .f32) (w : Vec Ideal S1024x1536 .bf16) (r : Fin 1024) (n : Fin 1536) :
    k0_pay2 x g w (ix2 r n) = ∑ k : Fin 1024, norm (fun k => x (ix2 r k)) (fun k => g (ix2 0 k)) k * w (ix2 k n) := by
  have e : k0_pay2 x g w (ix2 r n) = FloatOps.matmul (DotDims.plain 1024 1024 1536) none (k0_pay1 x g)
      (shapeCast S1024x1536 w shapeCasts_S1024x1536_S1024x1536) (constant (Sh2 1024 1536) .f32 0x00000000#32) (ix2 r n) := rfl
  rw [e, shapeCast_self, mmK_apply]
  exact Finset.sum_congr rfl fun k _ => by rw [pay1_apply]

theorem pay3_apply (x : Vec Ideal S1024x1024 .f32) (g : Vec Ideal S1x1024 .f32) (w : Vec Ideal S1024x1792 .bf16) (r : Fin 1024) (n : Fin 1792) :
    k0_pay3 x g w (ix2 r n) = ∑ k : Fin 1024, norm (fun k => x (ix2 r k)) (fun k => g (ix2 0 k)) k * w (ix2 k n) := by
  have e : k0_pay3 x g w (ix2 r n) = FloatOps.matmul (DotDims.plain 1024 1024 1792) none (k0_pay1 x g)
      (shapeCast S1024x1792 w shapeCasts_S1024x1792_S1024x1792) (constant (Sh2 1024 1792) .f32 0x00000000#32) (ix2 r n) := rfl
  rw [e, shapeCast_self, mmK_apply]
  exact Finset.sum_congr rfl fun k _ => by rw [pay1_apply]

theorem pay4_apply (x : Vec Ideal S1024x1024 .f32) (g : Vec Ideal S1x1024 .f32) (w : Vec Ideal S1024x2048 .bf16) (r : Fin 1024) (n : Fin 2048) :
    k0_pay4 x g w (ix2 r n)
      = Ideal.logistic (∑ k : Fin 1024, norm (fun k => x (ix2 r k)) (fun k => g (ix2 0 k)) k * w (ix2 k n)) := by
  have e : k0_pay4 x g w (ix2 r n) = Ideal.logistic (FloatOps.matmul (DotDims.plain 1024 1024 2048) none (k0_pay1 x g)
      (shapeCast S1024x2048 w shapeCasts_S1024x2048_S1024x2048) (constant (Sh2 1024 2048) .f32 0x00000000#32) (ix2 r n)) := rfl
  rw [e, shapeCast_self, mmK_apply]
  exact congrArg _ (Finset.sum_congr rfl fun k _ => by rw [pay1_apply])

theorem out3_apply (x0 : Vec Ideal S1024x1024 .f32) (x1 : Vec Ideal S1x1024 .f32) (x2 : Vec Ideal S1024x5376 .bf16) (r : Fin 1024) (n : Fin 1536) :
    out0_3 x0 x1 x2 (ix2 r n)
      = ∑ k : Fin 1024, norm (fun k => x0 (ix2 r k)) (fun k => x1 (ix2 0 k)) k * x2 (ix2 k ⟨0 + n.val, by omega⟩) := by
  unfold out0_3
  refine (congrFun (canon_all (R := 1024) (C := 1536) _ _) _).trans ((pay2_apply _ _ _ r n).trans ?_)
  rw [ld_all (R := 1024) (C := 1024) x0, ld_all (R := 1) (C := 1024) x1]
  exact Finset.sum_congr rfl fun k _ => congrArg _ (ld_cols (R := 1024) (C := 5376) (N := 1536) x2 _ k n _)

theorem out4_apply (x0 : Vec Ideal S1024x1024 .f32) (x1 : Vec Ideal S1x1024 .f32) (x2 : Vec Ideal S1024x5376 .bf16) (r : Fin 1024) (n : Fin 1792) :
    out0_4 x0 x1 x2 (ix2 r n)
      = ∑ k : Fin 1024, norm (fun k => x0 (ix2 r k)) (fun k => x1 (ix2 0 k)) k * x2 (ix2 k ⟨1536 + n.val, by omega⟩) := by
  unfold out0_4
  refine (congrFun (canon_all (R := 1024) (C := 1792) _ _) _).trans ((pay3_apply _ _ _ r n).trans ?_)
  rw [ld_all (R := 1024) (C := 1024) x0, ld_all (R := 1) (C := 1024) x1]
  exact Finset.sum_congr rfl fun k _ => congrArg _ (ld_cols (R := 1024) (C := 5376) (N := 1792) x2 _ k n _)

theorem out5_apply (x0 : Vec Ideal S1024x1024 .f32) (x1 : Vec Ideal S1x1024 .f32) (x2 : Vec Ideal S1024x5376 .bf16) (r : Fin 1024) (n : Fin 2048) :
    out0_5 x0 x1 x2 (ix2 r n)
      = Ideal.logistic (∑ k : Fin 1024, norm (fun k => x0 (ix2 r k)) (fun k => x1 (ix2 0 k)) k * x2 (ix2 k ⟨3328 + n.val, by omega⟩)) := by
  unfold out0_5
  refine (congrFun (canon_all (R := 1024) (C := 2048) _ _) _).trans ((pay4_apply _ _ _ r n).trans ?_)
  rw [ld_all (R := 1024) (C := 1024) x0, ld_all (R := 1) (C := 1024) x1]
  exact congrArg Ideal.logistic (Finset.sum_congr rfl fun k _ => congrArg _ (ld_cols (R := 1024) (C := 5376) (N := 2048) x2 _ k n _))

/-! ## Which block each operand has at a point -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)

variable (m : (ℓ : Loc nD τ sig) → Buf (Elt Ideal) ℓ) (c : Dev nD) (t : Fin cfg0.N)

abbrev aX : S32768x1024.Idx → EReal := m ((c : Thread nD τ).loc main_arg0)
abbrev aG : S1x1024.Idx → EReal := m ((c : Thread nD τ).loc main_arg1)
abbrev aW : S1024x5376.Idx → EReal := m ((c : Thread nD τ).loc main_arg2)

theorem tlt : t.val < 32 := t.isLt

/-- The row of the whole array that row `r` of block `t` is. -/
abbrev row (r : Fin 1024) : Fin 32768 := ⟨t.val * 1024 + r.val, by have := tlt t; omega⟩

theorem x_read (r k : Fin 1024) : iblk m c 0 t (ix2 r k) = aX m c (ix2 (row t r) k) := by
  show V m c main_arg0 ((win0_0.blk t).view.emb (ix2 r k)) = _
  rw [V_main_arg0]
  congr 1
  blk_ext [at0]

theorem g_read (k : Fin 1024) : iblk m c 1 t (ix2 0 k) = aG m c (ix2 0 k) := by
  show V m c main_arg1 ((win0_1.blk t).view.emb (ix2 0 k)) = _
  rw [V_main_arg1]
  congr 1
  blk_ext [at1]

theorem w_read (k : Fin 1024) (n : Fin 5376) : iblk m c 2 t (ix2 k n) = aW m c (ix2 k n) := by
  have e : V m c main_v0 = (truncf .bf16 (m ((c : Thread nD τ).loc main_arg2)) bitsLt_bf16_f32 : FVec Ideal S1024x5376 .bf16) := by
    entry_read
    try rfl
  show V m c main_v0 ((win0_2.blk t).view.emb (ix2 k n)) = _
  rw [e]
  show m ((c : Thread nD τ).loc main_arg2) _ = _
  congr 1
  blk_ext [at2]

/-! ## The arrays -/

/-- A row of the product of the scaled rows with the weight, at one column. -/
def proj (x : S32768x1024.Idx → EReal) (g : S1x1024.Idx → EReal) (w : S1024x5376.Idx → EReal) (r : Fin 32768) (n : Fin 5376) : EReal :=
  ∑ k : Fin 1024, norm (fun k => x (ix2 r k)) (fun k => g (ix2 0 k)) k * w (ix2 k n)

def proj0 (x : S32768x1024.Idx → EReal) (g : S1x1024.Idx → EReal) (w : S1024x5376.Idx → EReal) : S32768x1536.Idx → EReal :=
  fun j => proj x g w (j 0) ⟨0 + (j 1).val, by have h : (j 1).val < 1536 := (j 1).isLt; omega⟩
def proj1 (x : S32768x1024.Idx → EReal) (g : S1x1024.Idx → EReal) (w : S1024x5376.Idx → EReal) : S32768x1792.Idx → EReal :=
  fun j => proj x g w (j 0) ⟨1536 + (j 1).val, by have h : (j 1).val < 1792 := (j 1).isLt; omega⟩
def proj2 (x : S32768x1024.Idx → EReal) (g : S1x1024.Idx → EReal) (w : S1024x5376.Idx → EReal) : S32768x2048.Idx → EReal :=
  fun j => Ideal.logistic (proj x g w (j 0) ⟨3328 + (j 1).val, by have h : (j 1).val < 2048 := (j 1).isLt; omega⟩)

theorem block_sum (r : Fin 1024) (n : Fin 5376) :
    ∑ k : Fin 1024, norm (fun k => iblk m c 0 t (ix2 r k)) (fun k => iblk m c 1 t (ix2 0 k)) k * iblk m c 2 t (ix2 k n)
      = proj (aX m c) (aG m c) (aW m c) (row t r) n := by
  unfold proj
  have e0 : (fun k => iblk m c 0 t (ix2 r k)) = fun k => aX m c (ix2 (row t r) k) := funext fun k => x_read m c t r k
  have e1 : (fun k => iblk m c 1 t (ix2 0 k)) = fun k => aG m c (ix2 0 k) := funext fun k => g_read m c t k
  refine Finset.sum_congr rfl fun k _ => ?_
  exact congrArg₂ (· * ·) (congrArg₂ (fun a b => norm a b k) e0 e1) (w_read m c t k n)

theorem point3 (y : S1024x1536.Idx) : (out0_3 (iblk m c 0 t) (iblk m c 1 t) (iblk m c 2 t) y : EReal)
    = proj0 (aX m c) (aG m c) (aW m c) ((win0_3.blk t).view.emb y) := by
  have e0 : (win0_3.blk t).view.emb y 0 = row t (y 0) := by
    apply Fin.ext
    blk_simp [at3]
  have e1 : ((win0_3.blk t).view.emb y 1).val = (y 1).val := by
    blk_simp [at3]
  refine (congrArg (out0_3 (iblk m c 0 t) (iblk m c 1 t) (iblk m c 2 t)) (ValueIdx.eq_ix2 y)).trans ?_
  refine (out3_apply _ _ _ (y 0) (y 1)).trans ?_
  refine (block_sum m c t (y 0) _).trans ?_
  show _ = proj _ _ _ ((win0_3.blk t).view.emb y 0) ⟨0 + ((win0_3.blk t).view.emb y 1).val, _⟩
  rw [e0]
  exact congrArg (fun n => proj (aX m c) (aG m c) (aW m c) (row t (y 0)) n) (Fin.ext (congrArg (0 + ·) e1.symm))

theorem arr3 : (dats m 0 c).arrAt 3 cfg0.N = proj0 (aX m c) (aG m c) (aW m c) := by
  refine (dats m 0 c).arrAt_eq_of_covers 3 _ (by decide +kernel) fun t _ y => ?_
  blk_simp
  rw [after0_3]
  exact point3 m c t y

theorem point4 (y : S1024x1792.Idx) : (out0_4 (iblk m c 0 t) (iblk m c 1 t) (iblk m c 2 t) y : EReal)
    = proj1 (aX m c) (aG m c) (aW m c) ((win0_4.blk t).view.emb y) := by
  have e0 : (win0_4.blk t).view.emb y 0 = row t (y 0) := by
    apply Fin.ext
    blk_simp [at4]
  have e1 : ((win0_4.blk t).view.emb y 1).val = (y 1).val := by
    blk_simp [at4]
  refine (congrArg (out0_4 (iblk m c 0 t) (iblk m c 1 t) (iblk m c 2 t)) (ValueIdx.eq_ix2 y)).trans ?_
  refine (out4_apply _ _ _ (y 0) (y 1)).trans ?_
  refine (block_sum m c t (y 0) _).trans ?_
  show _ = proj _ _ _ ((win0_4.blk t).view.emb y 0) ⟨1536 + ((win0_4.blk t).view.emb y 1).val, _⟩
  rw [e0]
  exact congrArg (fun n => proj (aX m c) (aG m c) (aW m c) (row t (y 0)) n) (Fin.ext (congrArg (1536 + ·) e1.symm))

theorem arr4 : (dats m 0 c).arrAt 4 cfg0.N = proj1 (aX m c) (aG m c) (aW m c) := by
  refine (dats m 0 c).arrAt_eq_of_covers 4 _ (by decide +kernel) fun t _ y => ?_
  blk_simp
  rw [after0_4]
  exact point4 m c t y

theorem point5 (y : S1024x2048.Idx) : (out0_5 (iblk m c 0 t) (iblk m c 1 t) (iblk m c 2 t) y : EReal)
    = proj2 (aX m c) (aG m c) (aW m c) ((win0_5.blk t).view.emb y) := by
  have e0 : (win0_5.blk t).view.emb y 0 = row t (y 0) := by
    apply Fin.ext
    blk_simp [at5]
  have e1 : ((win0_5.blk t).view.emb y 1).val = (y 1).val := by
    blk_simp [at5]
  refine (congrArg (out0_5 (iblk m c 0 t) (iblk m c 1 t) (iblk m c 2 t)) (ValueIdx.eq_ix2 y)).trans ?_
  refine (out5_apply _ _ _ (y 0) (y 1)).trans ?_
  refine (congrArg Ideal.logistic (block_sum m c t (y 0) _)).trans ?_
  show _ = Ideal.logistic (proj _ _ _ ((win0_5.blk t).view.emb y 0) ⟨3328 + ((win0_5.blk t).view.emb y 1).val, _⟩)
  rw [e0]
  exact congrArg (fun n => Ideal.logistic (proj (aX m c) (aG m c) (aW m c) (row t (y 0)) n)) (Fin.ext (congrArg (3328 + ·) e1.symm))

theorem arr5 : (dats m 0 c).arrAt 5 cfg0.N = proj2 (aX m c) (aG m c) (aW m c) := by
  refine (dats m 0 c).arrAt_eq_of_covers 5 _ (by decide +kernel) fun t _ y => ?_
  blk_simp
  rw [after0_5]
  exact point5 m c t y

end Cert.ProjIdeal.SB

end
-- ==== Proof.SB.Proj.Reference.lean ====
/-
  The projection's reference, read at one entry: the same three arrays as the launch leaves.
-/
module

public import proofs.«01_k».proof.Proof.Gen.ProjReferenceIdeal.Run
public import proofs.«01_k».proof.Proof.SB.Proj.Kernel

@[expose] public section

set_option maxRecDepth 16384

noncomputable section

namespace Cert.ProjReferenceIdeal.SB

open Cert.ProjReferenceIdeal Cert.ProjReferenceIdeal.Gen
open Idealize.ShloMosaic hiding ix0 ix1 ix2 ix3 ix4 ix5
open Idealize.ShloMosaic.ValueIdx
open Idealize.ShloMosaic.TcCoe
open Idealize.SL Idealize.SL.Sem
open Cert.SB.Rows
open scoped BigOperators

/-- The scaled rows and their product with the weight. -/
def rows (x : FVec Ideal S32768x1024 .f32) (g : FVec Ideal S1x1024 .f32) : FVec Ideal S32768x1024 .f32 :=
  normH (M := 32768) x g reducesTo_S32768x1024_S32768_d1 h_S_ bcast_S32768_S32768x1_0 bcast_S_S32768x1 bcast_S32768x1_S32768x1024_0_1
    bcast_S1x1024_S32768x1024_0_1
def prod (x : FVec Ideal S32768x1024 .f32) (g : FVec Ideal S1x1024 .f32) (w : FVec Ideal S1024x5376 .f32) : FVec Ideal S32768x5376 .f32 :=
  Host.dotGeneral dot_S32768x1024_S1024x5376_S32768x5376_1_0_0_1_n_n none (rows x g) w

theorem prod_apply (x : FVec Ideal S32768x1024 .f32) (g : FVec Ideal S1x1024 .f32) (w : FVec Ideal S1024x5376 .f32) (r : Fin 32768) (n : Fin 5376) :
    prod x g w (ix2 r n) = Cert.ProjIdeal.SB.proj x g w r n := by
  refine (StackMember.dotGeneral_plain_apply (m := 32768) (k := 1024) (n := 5376) none (rows x g) w r n).trans ?_
  unfold Cert.ProjIdeal.SB.proj
  exact Finset.sum_congr rfl fun k _ => congrArg (· * w (ix2 k n)) (normH_apply (M := 32768) x g _ _ _ _ _ _ r k)

theorem cut_apply {N o : ℕ} (y : FVec Ideal S32768x5376 .f32) (h : S32768x5376.Slices ![0, o] (Sh2 32768 N)) (j : (Sh2 32768 N).Idx)
    (hj : o + (j 1).val < 5376) : extractStridedSlice (Sh2 32768 N) ![0, o] y h j = y (ix2 (j 0) ⟨o + (j 1).val, hj⟩) := by
  rw [Pointwise.extractStridedSlice_apply]
  congr 1
  funext a
  match a with
  | ⟨0, _⟩ => exact Fin.ext (Nat.zero_add _)
  | ⟨1, _⟩ => rfl

variable (m : (ℓ : Loc nD τ sig) → Buf (Elt Ideal) ℓ) (ρ : Dev nD → PrngReg)

abbrev aX (c : Dev nD) : FVec Ideal S32768x1024 .f32 := m ((c.tc : Thread nD τ).loc main_arg0)
abbrev aG (c : Dev nD) : FVec Ideal S1x1024 .f32 := m ((c.tc : Thread nD τ).loc main_arg1)
abbrev aW (c : Dev nD) : FVec Ideal S1024x5376 .f32 := m ((c.tc : Thread nD τ).loc main_arg2)

theorem res0 (x : FVec Ideal S32768x1024 .f32) (g : FVec Ideal S1x1024 .f32) (w : FVec Ideal S1024x5376 .f32) :
    (truncf .bf16 (extractStridedSlice S32768x1536 ![0, 0] (prod x g w) slices_S32768x5376_S32768x1536_0_0) bitsLt_bf16_f32
      : FVec Ideal S32768x1536 .bf16) = Cert.ProjIdeal.SB.proj0 x g w := by
  funext j
  have h : (j 1).val < 1536 := (j 1).isLt
  exact (cut_apply (N := 1536) (o := 0) (prod x g w) slices_S32768x5376_S32768x1536_0_0 j (by omega)).trans (prod_apply x g w (j 0) _)

theorem res1 (x : FVec Ideal S32768x1024 .f32) (g : FVec Ideal S1x1024 .f32) (w : FVec Ideal S1024x5376 .f32) :
    (extractStridedSlice S32768x1792 ![0, 1536] (prod x g w) slices_S32768x5376_S32768x1792_0_1536
      : FVec Ideal S32768x1792 .f32) = Cert.ProjIdeal.SB.proj1 x g w := by
  funext j
  have h : (j 1).val < 1792 := (j 1).isLt
  exact (cut_apply (N := 1792) (o := 1536) (prod x g w) slices_S32768x5376_S32768x1792_0_1536 j (by omega)).trans (prod_apply x g w (j 0) _)

theorem res2 (x : FVec Ideal S32768x1024 .f32) (g : FVec Ideal S1x1024 .f32) (w : FVec Ideal S1024x5376 .f32) :
    (truncf .bf16 (Host.divf (broadcastInDim S32768x2048 ![] bcast_S_S32768x2048 (constant S_ .f32 0x3F800000#32))
      (addf (broadcastInDim S32768x2048 ![] bcast_S_S32768x2048 (constant S_ .f32 0x3F800000#32))
        (Host.exp (Host.negf (extractStridedSlice S32768x2048 ![0, 3328] (prod x g w) slices_S32768x5376_S32768x2048_0_3328))))) bitsLt_bf16_f32
      : FVec Ideal S32768x2048 .bf16) = Cert.ProjIdeal.SB.proj2 x g w := by
  funext j
  have h : (j 1).val < 2048 := (j 1).isLt
  refine (sigH_apply (s := S32768x2048) _ bcast_S_S32768x2048 bcast_S_S32768x2048 j).trans (congrArg Ideal.logistic ?_)
  exact (cut_apply (N := 2048) (o := 3328) (prod x g w) slices_S32768x5376_S32768x2048_0_3328 j (by omega)).trans (prod_apply x g w (j 0) _)

/-- Every execution of the reference ends with the three arrays, its arguments as they were. -/
theorem run_spec : θ_run (defs (F := Ideal)) (onTc (τ := τ) (main (F := Ideal))) ⟨m, fun _ => 0, ρ⟩ fun r => ∀ c : Dev nD,
      r.2.mem ((c.tc : Thread nD τ).loc main_v16) = Cert.ProjIdeal.SB.proj0 (aX m c) (aG m c) (aW m c)
      ∧ r.2.mem ((c.tc : Thread nD τ).loc main_v14) = Cert.ProjIdeal.SB.proj1 (aX m c) (aG m c) (aW m c)
      ∧ r.2.mem ((c.tc : Thread nD τ).loc main_v23) = Cert.ProjIdeal.SB.proj2 (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res0 _ _ _), (h c).2.1.trans (res1 _ _ _), (h c).2.2.1.trans (res2 _ _ _), (h c).2.2.2⟩)
    (Cert.ProjReferenceIdeal.Value.run (F := Ideal) m ρ)

end Cert.ProjReferenceIdeal.SB

end
-- ==== Proof.SB.Merge.Spec.lean ====
/-
  One row of the merge of the two branches and of the feed-forward layer after it, as the extended reals have it, and the
  array these rows make.
-/
module

public import proofs.«01_k».proof.Proof.SB.Rows

@[expose] public section

noncomputable section

namespace Cert.SB.Merge

open Idealize.ShloMosaic hiding ix0 ix1 ix2 ix3 ix4 ix5
open Idealize.ShloMosaic.ValueIdx
open Cert.SB.Rows
open scoped BigOperators

/-- The two branches' rows, each projected and gated, and added. -/
def mixed (o₁ o₂ : Fin 512 → EReal) (g₁ g₂ : Fin 1024 → EReal) (w₁ w₂ : Fin 512 → Fin 1024 → EReal) (j : Fin 1024) : EReal :=
  g₁ j * (∑ l, o₁ l * w₁ l j) + g₂ j * ∑ l, o₂ l * w₂ l j

/-- A row with another row's product with a weight, scaled, added to it. -/
def mid (x y : Fin 1024 → EReal) (w : Fin 1024 → Fin 1024 → EReal) (g : Fin 1024 → EReal) (j : Fin 1024) : EReal :=
  x j + norm (fun n => ∑ k, y k * w k n) g j

/-- One activation of the feed-forward layer, from a row and one column of each of its first two weights. -/
def act (y p q : Fin 1024 → EReal) : EReal := (∑ k, y k * p k) * Ideal.logistic (∑ k, y k * p k) * ∑ k, y k * q k

/-- The feed-forward layer on a scaled row, scaled and added to the row. -/
def ffn (h g : Fin 1024 → EReal) (p q : Fin 1024 → Fin 2816 → EReal) (d : Fin 2816 → Fin 1024 → EReal) (g' : Fin 1024 → EReal) (j : Fin 1024) : EReal :=
  h j + norm (fun j => ∑ n, act (norm h g) (fun k => p k n) (fun k => q k n) * d n j) g' j

/-- The array: row `r` from row `r` of the operands. -/
def merge (x : (Sh2 32768 1024).Idx → EReal) (o₁ o₂ : (Sh2 32768 512).Idx → EReal) (gt : (Sh2 32768 2048).Idx → EReal)
    (w₁ w₂ : (Sh2 512 1024).Idx → EReal) (w : (Sh2 1024 1024).Idx → EReal) (gm gp : (Sh2 1 1024).Idx → EReal)
    (p q : (Sh2 1024 2816).Idx → EReal) (d : (Sh2 2816 1024).Idx → EReal) (gf : (Sh2 1 1024).Idx → EReal)
    (r : Fin 32768) (j : Fin 1024) : EReal :=
  ffn (mid (fun k => x (ix2 r k))
      (mixed (fun l => o₁ (ix2 r l)) (fun l => o₂ (ix2 r l)) (fun k => gt (ix2 r ⟨0 + k.val, by omega⟩)) (fun k => gt (ix2 r ⟨1024 + k.val, by omega⟩))
        (fun l n => w₁ (ix2 l n)) (fun l n => w₂ (ix2 l n)))
      (fun k n => w (ix2 k n)) (fun k => gm (ix2 0 k)))
    (fun k => gp (ix2 0 k)) (fun k n => p (ix2 k n)) (fun k n => q (ix2 k n)) (fun n k => d (ix2 n k)) (fun k => gf (ix2 0 k)) j

/-- A sum over the 2816 hidden columns is the sum over the first 1024, the next 1024 and the last 768. -/
theorem sum_chunks (f : Fin 2816 → EReal) :
    ∑ n, f n = (∑ n : Fin 1024, f ⟨0 + n.val, by omega⟩) + (∑ n : Fin 1024, f ⟨1024 + n.val, by omega⟩) + ∑ n : Fin 768, f ⟨2048 + n.val, by omega⟩ := by
  refine (Fin.sum_univ_add (a := 2048) (b := 768) f).trans (congrArg₂ (· + ·) ?_ rfl)
  refine (Fin.sum_univ_add (a := 1024) (b := 1024) fun i => f (Fin.castAdd 768 i)).trans (congrArg₂ (· + ·) ?_ rfl)
  exact Finset.sum_congr rfl fun n _ => congrArg f (Fin.ext (Nat.zero_add n.val).symm)

end Cert.SB.Merge

end
-- ==== Proof.SB.Merge.Block.lean ====
/-
  What the merge's kernel computes of one block of rows, read at one entry: row by row it is the merge and the
  feed-forward layer, the hidden columns taken in three parts.
-/
module

public import proofs.«01_k».proof.Proof.Gen.MergeIdeal.Value
public import proofs.«01_k».proof.Proof.SB.Merge.Spec

@[expose] public section

set_option maxRecDepth 16384

noncomputable section

namespace Cert.MergeIdeal.SB

open Cert.MergeIdeal Cert.MergeIdeal.Gen
open Idealize.ShloMosaic hiding ix0 ix1 ix2 ix3 ix4 ix5
open Idealize.ShloMosaic.ValueIdx
open Cert.SB.Rows Cert.SB.Merge
open scoped BigOperators

/-- A product of a block with a weight, as the kernel writes it. -/
abbrev mm {M K N : ℕ} (A : FVec Ideal (Sh2 M K) .bf16) (B : FVec Ideal (Sh2 K N) .bf16) : FVec Ideal (Sh2 M N) .f32 :=
  FloatOps.matmul (DotDims.plain M K N) none A B (constant (Sh2 M N) .f32 0x00000000#32)

theorem mm_apply {M K N : ℕ} (A : FVec Ideal (Sh2 M K) .bf16) (B : FVec Ideal (Sh2 K N) .bf16) (r : Fin M) (n : Fin N) :
    mm A B (ix2 r n) = ∑ k, A (ix2 r k) * B (ix2 k n) :=
  mmK_apply A B r n

theorem pay2_apply (o₁ : Vec Ideal S512x512 .bf16) (w₁ : Vec Ideal S512x1024 .bf16) (o₂ : Vec Ideal S512x512 .bf16) (w₂ : Vec Ideal S512x1024 .bf16)
    (g₁ g₂ : Vec Ideal S512x1024 .bf16) (w : Vec Ideal S1024x1024 .bf16) (x : Vec Ideal S512x1024 .f32) (gm : Vec Ideal S1x1024 .f32) (r : Fin 512) (j : Fin 1024) :
    k0_pay2 o₁ w₁ o₂ w₂ g₁ g₂ w x gm (ix2 r j)
      = mid (fun k => x (ix2 r k))
          (mixed (fun l => o₁ (ix2 r l)) (fun l => o₂ (ix2 r l)) (fun k => g₁ (ix2 r k)) (fun k => g₂ (ix2 r k))
            (fun l n => w₁ (ix2 l n)) (fun l n => w₂ (ix2 l n)))
          (fun k n => w (ix2 k n)) (fun k => gm (ix2 0 k)) j := by
  let A : FVec Ideal S512x1024 .bf16 := truncf .bf16 (addf (mulf (extf .f32 g₁ bitsLt_bf16_f32) (mm (M := 512) (K := 512) (N := 1024) o₁ (shapeCast S512x1024 w₁ shapeCasts_S512x1024_S512x1024)))
    (mulf (extf .f32 g₂ bitsLt_bf16_f32) (mm (M := 512) (K := 512) (N := 1024) o₂ (shapeCast S512x1024 w₂ shapeCasts_S512x1024_S512x1024)))) bitsLt_bf16_f32
  let y : FVec Ideal S512x1024 .f32 := mm (M := 512) (K := 1024) (N := 1024) A (shapeCast S1024x1024 w shapeCasts_S1024x1024_S1024x1024)
  have e : k0_pay2 o₁ w₁ o₂ w₂ g₁ g₂ w x gm (ix2 r j) = x (ix2 r j) + mulf (mulf y (broadcastTo S512x1024 (scaleK (M := 512) y reduces_S512x1024_S512 shapeCasts_S512_S512x1)
      broadcasts_S512x1_S512x1024)) (broadcastTo S512x1024 gm broadcasts_S1x1024_S512x1024) (ix2 r j) := rfl
  have hA : ∀ k, A (ix2 r k) = mixed (fun l => o₁ (ix2 r l)) (fun l => o₂ (ix2 r l)) (fun k => g₁ (ix2 r k)) (fun k => g₂ (ix2 r k))
      (fun l n => w₁ (ix2 l n)) (fun l n => w₂ (ix2 l n)) k := fun k => by
    show g₁ (ix2 r k) * mm (M := 512) (K := 512) (N := 1024) o₁ (shapeCast S512x1024 w₁ shapeCasts_S512x1024_S512x1024) (ix2 r k)
      + g₂ (ix2 r k) * mm (M := 512) (K := 512) (N := 1024) o₂ (shapeCast S512x1024 w₂ shapeCasts_S512x1024_S512x1024) (ix2 r k) = _
    rw [shapeCast_self, shapeCast_self, mm_apply, mm_apply]
    rfl
  have hy : (fun n => y (ix2 r n)) = fun n => ∑ k, mixed (fun l => o₁ (ix2 r l)) (fun l => o₂ (ix2 r l)) (fun k => g₁ (ix2 r k)) (fun k => g₂ (ix2 r k))
      (fun l n => w₁ (ix2 l n)) (fun l n => w₂ (ix2 l n)) k * w (ix2 k n) := funext fun n => by
    show mm (M := 512) (K := 1024) (N := 1024) A (shapeCast S1024x1024 w shapeCasts_S1024x1024_S1024x1024) (ix2 r n) = _
    rw [shapeCast_self, mm_apply]
    exact Finset.sum_congr rfl fun k _ => congrArg (· * w (ix2 k n)) (hA k)
  rw [e]
  refine congrArg (x (ix2 r j) + ·) ((normK_apply (M := 512) y gm _ _ _ _ r j).trans ?_)
  rw [hy]

theorem pay3_apply (h : FVec Ideal S512x1024 .f32) (g : Vec Ideal S1x1024 .f32) (r : Fin 512) (j : Fin 1024) :
    k0_pay3 h g (ix2 r j) = norm (fun k => h (ix2 r k)) (fun k => g (ix2 0 k)) j := by
  have e : k0_pay3 h g (ix2 r j) = mulf (mulf h (broadcastTo S512x1024 (scaleK (M := 512) h reduces_S512x1024_S512 shapeCasts_S512_S512x1)
      broadcasts_S512x1_S512x1024)) (broadcastTo S512x1024 g broadcasts_S1x1024_S512x1024) (ix2 r j) := rfl
  rw [e]
  exact normK_apply (M := 512) h g _ _ _ _ r j

/-- One part of the hidden columns, as the kernel writes it. -/
abbrev part {N : ℕ} (y : FVec Ideal (Sh2 512 1024) .bf16) (p q : FVec Ideal (Sh2 1024 N) .bf16) : FVec Ideal (Sh2 512 N) .bf16 :=
  truncf .bf16 (mulf (mulf (mm y p) (logistic (mm y p))) (mm y q)) bitsLt_bf16_f32

theorem gated_apply {s : Shape} (a b : FVec Ideal s .f32) (i : s.Idx) :
    (truncf .bf16 (mulf (mulf a (logistic a)) b) bitsLt_bf16_f32 : FVec Ideal s .bf16) i = a i * Ideal.logistic (a i) * b i := rfl

theorem part_apply {N : ℕ} (y : FVec Ideal (Sh2 512 1024) .bf16) (p q : FVec Ideal (Sh2 1024 N) .bf16) (r : Fin 512) (n : Fin N) :
    part y p q (ix2 r n) = act (fun k => y (ix2 r k)) (fun k => p (ix2 k n)) (fun k => q (ix2 k n)) := by
  refine (gated_apply (s := Sh2 512 N) (mm y p) (mm y q) (ix2 r n)).trans ?_
  exact congrArg₂ (· * ·) (congrArg (fun a => a * Ideal.logistic a) (mm_apply y p r n)) (mm_apply y q r n)

theorem down_apply {N : ℕ} (y : FVec Ideal (Sh2 512 1024) .bf16) (p q : FVec Ideal (Sh2 1024 N) .bf16) (d : FVec Ideal (Sh2 N 1024) .bf16)
    (r : Fin 512) (j : Fin 1024) :
    mm (part y p q) d (ix2 r j) = ∑ n : Fin N, act (fun k => y (ix2 r k)) (fun k => p (ix2 k n)) (fun k => q (ix2 k n)) * d (ix2 n j) := by
  refine (mm_apply _ _ r j).trans (Finset.sum_congr rfl fun n _ => ?_)
  rw [part_apply]

/-- The whole block after the first stage, as a sum of the three parts. -/
theorem pay1_apply (h : FVec Ideal S512x1024 .f32) (g : Vec Ideal S1x1024 .f32) (p0 q0 d0 p1 q1 d1 : Vec Ideal S1024x1024 .bf16)
    (p2 q2 : Vec Ideal S1024x768 .bf16) (d2 : Vec Ideal S768x1024 .bf16) (g' : Vec Ideal S1x1024 .f32) (r : Fin 512) (j : Fin 1024) :
    k0_pay1 h (k0_pay3 h g) (k0_pay4 h g p0 q0 d0) (k0_pay5 h g p1 q1) (k0_pay6 d1) p2 q2 d2 g' (ix2 r j)
      = h (ix2 r j) + norm (fun j =>
          (∑ n : Fin 1024, act (norm (fun k => h (ix2 r k)) fun k => g (ix2 0 k)) (fun k => p0 (ix2 k n)) (fun k => q0 (ix2 k n)) * d0 (ix2 n j))
          + (∑ n : Fin 1024, act (norm (fun k => h (ix2 r k)) fun k => g (ix2 0 k)) (fun k => p1 (ix2 k n)) (fun k => q1 (ix2 k n)) * d1 (ix2 n j))
          + ∑ n : Fin 768, act (norm (fun k => h (ix2 r k)) fun k => g (ix2 0 k)) (fun k => p2 (ix2 k n)) (fun k => q2 (ix2 k n)) * d2 (ix2 n j))
          (fun k => g' (ix2 0 k)) j := by
  let A : FVec Ideal S512x1024 .bf16 := k0_pay3 h g
  let y : FVec Ideal S512x1024 .f32 := addf (addf
    (mm (M := 512) (part A (shapeCast S1024x1024 p0 shapeCasts_S1024x1024_S1024x1024) (shapeCast S1024x1024 q0 shapeCasts_S1024x1024_S1024x1024))
      (shapeCast S1024x1024 d0 shapeCasts_S1024x1024_S1024x1024))
    (mm (M := 512) (part A (shapeCast S1024x1024 p1 shapeCasts_S1024x1024_S1024x1024) (shapeCast S1024x1024 q1 shapeCasts_S1024x1024_S1024x1024))
      (shapeCast S1024x1024 d1 shapeCasts_S1024x1024_S1024x1024)))
    (mm (M := 512) (part A (shapeCast S1024x768 p2 shapeCasts_S1024x768_S1024x768) (shapeCast S1024x768 q2 shapeCasts_S1024x768_S1024x768))
      (shapeCast S768x1024 d2 shapeCasts_S768x1024_S768x1024))
  have e : k0_pay1 h (k0_pay3 h g) (k0_pay4 h g p0 q0 d0) (k0_pay5 h g p1 q1) (k0_pay6 d1) p2 q2 d2 g' (ix2 r j)
      = h (ix2 r j) + mulf (mulf y (broadcastTo S512x1024 (scaleK (M := 512) y reduces_S512x1024_S512 shapeCasts_S512_S512x1)
      broadcasts_S512x1_S512x1024)) (broadcastTo S512x1024 g' broadcasts_S1x1024_S512x1024) (ix2 r j) := rfl
  have hA : (fun k => A (ix2 r k)) = norm (fun k => h (ix2 r k)) fun k => g (ix2 0 k) := funext fun k => pay3_apply h g r k
  have hy : (fun n => y (ix2 r n)) = fun j =>
          (∑ n : Fin 1024, act (norm (fun k => h (ix2 r k)) fun k => g (ix2 0 k)) (fun k => p0 (ix2 k n)) (fun k => q0 (ix2 k n)) * d0 (ix2 n j))
          + (∑ n : Fin 1024, act (norm (fun k => h (ix2 r k)) fun k => g (ix2 0 k)) (fun k => p1 (ix2 k n)) (fun k => q1 (ix2 k n)) * d1 (ix2 n j))
          + ∑ n : Fin 768, act (norm (fun k => h (ix2 r k)) fun k => g (ix2 0 k)) (fun k => p2 (ix2 k n)) (fun k => q2 (ix2 k n)) * d2 (ix2 n j) :=
    funext fun n => by
      rw [← hA]
      refine congrArg₂ (· + ·) (congrArg₂ (· + ·) ((down_apply A _ _ _ r n).trans ?_) ((down_apply A _ _ _ r n).trans ?_)) ((down_apply A _ _ _ r n).trans ?_)
      · rw [shapeCast_self, shapeCast_self, shapeCast_self]
      · rw [shapeCast_self, shapeCast_self, shapeCast_self]
      · rw [shapeCast_self, shapeCast_self, shapeCast_self]
  rw [e]
  refine congrArg (h (ix2 r j) + ·) ((normK_apply (M := 512) y g' _ _ _ _ r j).trans ?_)
  rw [hy]

/-- The block the kernel stores, from its operands' blocks. -/
theorem out14_apply (x0 : Vec Ideal S512x1024 .f32) (x1 x2 : Vec Ideal S512x512 .bf16) (x3 x4 x5 x6 : Vec Ideal S512x1024 .bf16)
    (x7 : Vec Ideal S1024x1024 .bf16) (x8 x9 : Vec Ideal S1x1024 .f32) (x10 x11 : Vec Ideal S1024x2816 .bf16) (x12 : Vec Ideal S2816x1024 .bf16)
    (x13 : Vec Ideal S1x1024 .f32) (r : Fin 512) (j : Fin 1024) :
    out0_14 x0 x1 x2 x3 x4 x5 x6 x7 x8 x9 x10 x11 x12 x13 (ix2 r j)
      = ffn (mid (fun k => x0 (ix2 r k))
          (mixed (fun l => x1 (ix2 r l)) (fun l => x2 (ix2 r l)) (fun k => x3 (ix2 r k)) (fun k => x4 (ix2 r k))
            (fun l n => x5 (ix2 l n)) (fun l n => x6 (ix2 l n)))
          (fun k n => x7 (ix2 k n)) (fun k => x8 (ix2 0 k)))
        (fun k => x9 (ix2 0 k)) (fun k n => x10 (ix2 k n)) (fun k n => x11 (ix2 k n)) (fun n k => x12 (ix2 n k)) (fun k => x13 (ix2 0 k)) j := by
  let h : FVec Ideal S512x1024 .f32 := k0_pay7 x0 x1 x2 x3 x4 x5 x6 x7 x8 x9 x10 x11 x12 x13
  have hh : (fun k => h (ix2 r k)) = mid (fun k => x0 (ix2 r k))
      (mixed (fun l => x1 (ix2 r l)) (fun l => x2 (ix2 r l)) (fun k => x3 (ix2 r k)) (fun k => x4 (ix2 r k))
        (fun l n => x5 (ix2 l n)) (fun l n => x6 (ix2 l n)))
      (fun k n => x7 (ix2 k n)) (fun k => x8 (ix2 0 k)) := funext fun k => by
    show k0_pay2 (View.ld x1 r0_0) (View.ld x5 r0_1) (View.ld x2 r0_0) (View.ld x6 r0_1) (View.ld x3 r0_1) (View.ld x4 r0_1) (View.ld x7 r0_2)
      (View.ld x0 r0_1) (View.ld x8 r0_3) (ix2 r k) = _
    rw [ld_all (R := 512) (C := 512) x1, ld_all (R := 512) (C := 512) x2, ld_all (R := 512) (C := 1024) x5, ld_all (R := 512) (C := 1024) x6,
      ld_all (R := 512) (C := 1024) x3, ld_all (R := 512) (C := 1024) x4, ld_all (R := 1024) (C := 1024) x7, ld_all (R := 512) (C := 1024) x0,
      ld_all (R := 1) (C := 1024) x8]
    exact pay2_apply x1 x5 x2 x6 x3 x4 x7 x0 x8 r k
  refine (congrFun (canon_all (R := 512) (C := 1024) _ _) _).trans ((pay1_apply h (View.ld x9 r0_3) _ _ _ _ _ _ _ _ _ (View.ld x13 r0_3) r j).trans ?_)
  rw [ld_all (R := 1) (C := 1024) x9, ld_all (R := 1) (C := 1024) x13, hh, show h (ix2 r j) = _ from congrFun hh j]
  unfold ffn
  refine congrArg (_ + ·) (congrArg (fun f => norm f (fun k => x13 (ix2 0 k)) j) (funext fun j => ?_))
  refine Eq.trans ?_ (sum_chunks _).symm
  refine congrArg₂ (· + ·) (congrArg₂ (· + ·) (Finset.sum_congr rfl fun n _ => ?_) (Finset.sum_congr rfl fun n _ => ?_)) (Finset.sum_congr rfl fun n _ => ?_)
  · exact congrArg₂ (· * ·) (congrArg₂ (act _) (funext fun k => ld_cols (R := 1024) (C := 2816) (N := 1024) x10 _ k n _)
      (funext fun k => ld_cols (R := 1024) (C := 2816) (N := 1024) x11 _ k n _)) (ld_rows (R := 2816) (C := 1024) (N := 1024) x12 _ n j _)
  · exact congrArg₂ (· * ·) (congrArg₂ (act _) (funext fun k => ld_cols (R := 1024) (C := 2816) (N := 1024) x10 _ k n _)
      (funext fun k => ld_cols (R := 1024) (C := 2816) (N := 1024) x11 _ k n _)) (ld_rows (R := 2816) (C := 1024) (N := 1024) x12 _ n j _)
  · exact congrArg₂ (· * ·) (congrArg₂ (act _) (funext fun k => ld_cols (R := 1024) (C := 2816) (N := 768) x10 _ k n _)
      (funext fun k => ld_cols (R := 1024) (C := 2816) (N := 768) x11 _ k n _)) (ld_rows (R := 2816) (C := 1024) (N := 768) x12 _ n j _)

end Cert.MergeIdeal.SB

end
-- ==== Proof.SB.Merge.Kernel.lean ====
/-
  The array the merge's launch leaves: row by row the merge and the feed-forward layer of the launch's arguments.
-/
module

public import proofs.«01_k».proof.Proof.SB.Merge.Block
public import Idealize.ShloMosaic.Lib.Pipeline.ValueKit

@[expose] public section

set_option maxRecDepth 16384

noncomputable section

namespace Cert.MergeIdeal.SB

open Cert.MergeIdeal Cert.MergeIdeal.Gen
open Idealize.ShloMosaic hiding ix0 ix1 ix2 ix3 ix4 ix5
open Idealize.ShloMosaic.ValueIdx
open Idealize.ShloMosaic.TcCoe Idealize.ShloMosaic.Tactic
open Idealize.SL Idealize.SL.Sem
open Cert.SB.Rows Cert.SB.Merge
open scoped BigOperators

/-! ## Which block each operand has at a point -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 1] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![t.val, 0] := (by decide +kernel : ∀ t : Fin grid0.N, _)

variable (m : (ℓ : Loc nD τ sig) → Buf (Elt Ideal) ℓ) (c : Dev nD) (t : Fin cfg0.N)

abbrev aX : S32768x1024.Idx → EReal := m ((c : Thread nD τ).loc main_arg0)
abbrev aO1 : S32768x512.Idx → EReal := m ((c : Thread nD τ).loc main_arg1)
abbrev aO2 : S32768x512.Idx → EReal := m ((c : Thread nD τ).loc main_arg2)
abbrev aGt : S32768x2048.Idx → EReal := m ((c : Thread nD τ).loc main_arg3)
abbrev aW1 : S512x1024.Idx → EReal := m ((c : Thread nD τ).loc main_arg4)
abbrev aW2 : S512x1024.Idx → EReal := m ((c : Thread nD τ).loc main_arg5)
abbrev aW : S1024x1024.Idx → EReal := m ((c : Thread nD τ).loc main_arg6)
abbrev aGm : S1x1024.Idx → EReal := m ((c : Thread nD τ).loc main_arg7)
abbrev aGp : S1x1024.Idx → EReal := m ((c : Thread nD τ).loc main_arg8)
abbrev aP : S1024x2816.Idx → EReal := m ((c : Thread nD τ).loc main_arg9)
abbrev aQ : S1024x2816.Idx → EReal := m ((c : Thread nD τ).loc main_arg10)
abbrev aD : S2816x1024.Idx → EReal := m ((c : Thread nD τ).loc main_arg11)
abbrev aGf : S1x1024.Idx → EReal := m ((c : Thread nD τ).loc main_arg12)

theorem tlt : t.val < 64 := t.isLt

/-- The row of the whole array that row `r` of block `t` is. -/
abbrev row (r : Fin 512) : Fin 32768 := ⟨t.val * 512 + r.val, by have := tlt t; omega⟩

theorem read0 (r : Fin 512) (k : Fin 1024) : iblk m c 0 t (ix2 r k) = aX m c (ix2 (row t r) k) := by
  show V m c main_arg0 ((win0_0.blk t).view.emb (ix2 r k)) = _
  rw [V_main_arg0]
  congr 1
  blk_ext [at0]

theorem read1 (r k : Fin 512) : iblk m c 1 t (ix2 r k) = aO1 m c (ix2 (row t r) k) := by
  show V m c main_arg1 ((win0_1.blk t).view.emb (ix2 r k)) = _
  rw [V_main_arg1]
  congr 1
  blk_ext [at1]

theorem read2 (r k : Fin 512) : iblk m c 2 t (ix2 r k) = aO2 m c (ix2 (row t r) k) := by
  show V m c main_arg2 ((win0_2.blk t).view.emb (ix2 r k)) = _
  rw [V_main_arg2]
  congr 1
  blk_ext [at2]

theorem read3 (r : Fin 512) (k : Fin 1024) : iblk m c 3 t (ix2 r k) = aGt m c (ix2 (row t r) ⟨0 + k.val, by omega⟩) := by
  show V m c main_arg3 ((win0_3.blk t).view.emb (ix2 r k)) = _
  rw [V_main_arg3]
  congr 1
  blk_ext [at3]

theorem read4 (r : Fin 512) (k : Fin 1024) : iblk m c 4 t (ix2 r k) = aGt m c (ix2 (row t r) ⟨1024 + k.val, by omega⟩) := by
  show V m c main_arg3 ((win0_4.blk t).view.emb (ix2 r k)) = _
  rw [V_main_arg3]
  congr 1
  blk_ext [at4]

theorem read5 (k : Fin 512) (n : Fin 1024) : iblk m c 5 t (ix2 k n) = aW1 m c (ix2 k n) := by
  have e : V m c main_v0 = (truncf .bf16 (m ((c : Thread nD τ).loc main_arg4)) bitsLt_bf16_f32 : FVec Ideal S512x1024 .bf16) := by
    entry_read
    try rfl
  show V m c main_v0 ((win0_5.blk t).view.emb (ix2 k n)) = _
  rw [e]
  show m ((c : Thread nD τ).loc main_arg4) _ = _
  congr 1
  blk_ext [at5]

theorem read6 (k : Fin 512) (n : Fin 1024) : iblk m c 6 t (ix2 k n) = aW2 m c (ix2 k n) := by
  have e : V m c main_v1 = (truncf .bf16 (m ((c : Thread nD τ).loc main_arg5)) bitsLt_bf16_f32 : FVec Ideal S512x1024 .bf16) := by
    entry_read
    try rfl
  show V m c main_v1 ((win0_6.blk t).view.emb (ix2 k n)) = _
  rw [e]
  show m ((c : Thread nD τ).loc main_arg5) _ = _
  congr 1
  blk_ext [at6]

theorem read7 (k n : Fin 1024) : iblk m c 7 t (ix2 k n) = aW m c (ix2 k n) := by
  have e : V m c main_v2 = (truncf .bf16 (m ((c : Thread nD τ).loc main_arg6)) bitsLt_bf16_f32 : FVec Ideal S1024x1024 .bf16) := by
    entry_read
    try rfl
  show V m c main_v2 ((win0_7.blk t).view.emb (ix2 k n)) = _
  rw [e]
  show m ((c : Thread nD τ).loc main_arg6) _ = _
  congr 1
  blk_ext [at7]

theorem read8 (k : Fin 1024) : iblk m c 8 t (ix2 0 k) = aGm m c (ix2 0 k) := by
  show V m c main_arg7 ((win0_8.blk t).view.emb (ix2 0 k)) = _
  rw [V_main_arg7]
  congr 1
  blk_ext [at8]

theorem read9 (k : Fin 1024) : iblk m c 9 t (ix2 0 k) = aGp m c (ix2 0 k) := by
  show V m c main_arg8 ((win0_9.blk t).view.emb (ix2 0 k)) = _
  rw [V_main_arg8]
  congr 1
  blk_ext [at9]

theorem read10 (k : Fin 1024) (n : Fin 2816) : iblk m c 10 t (ix2 k n) = aP m c (ix2 k n) := by
  have e : V m c main_v3 = (truncf .bf16 (m ((c : Thread nD τ).loc main_arg9)) bitsLt_bf16_f32 : FVec Ideal S1024x2816 .bf16) := by
    entry_read
    try rfl
  show V m c main_v3 ((win0_10.blk t).view.emb (ix2 k n)) = _
  rw [e]
  show m ((c : Thread nD τ).loc main_arg9) _ = _
  congr 1
  blk_ext [at10]

theorem read11 (k : Fin 1024) (n : Fin 2816) : iblk m c 11 t (ix2 k n) = aQ m c (ix2 k n) := by
  have e : V m c main_v4 = (truncf .bf16 (m ((c : Thread nD τ).loc main_arg10)) bitsLt_bf16_f32 : FVec Ideal S1024x2816 .bf16) := by
    entry_read
    try rfl
  show V m c main_v4 ((win0_11.blk t).view.emb (ix2 k n)) = _
  rw [e]
  show m ((c : Thread nD τ).loc main_arg10) _ = _
  congr 1
  blk_ext [at11]

theorem read12 (n : Fin 2816) (k : Fin 1024) : iblk m c 12 t (ix2 n k) = aD m c (ix2 n k) := by
  have e : V m c main_v5 = (truncf .bf16 (m ((c : Thread nD τ).loc main_arg11)) bitsLt_bf16_f32 : FVec Ideal S2816x1024 .bf16) := by
    entry_read
    try rfl
  show V m c main_v5 ((win0_12.blk t).view.emb (ix2 n k)) = _
  rw [e]
  show m ((c : Thread nD τ).loc main_arg11) _ = _
  congr 1
  blk_ext [at12]

theorem read13 (k : Fin 1024) : iblk m c 13 t (ix2 0 k) = aGf m c (ix2 0 k) := by
  show V m c main_arg12 ((win0_13.blk t).view.emb (ix2 0 k)) = _
  rw [V_main_arg12]
  congr 1
  blk_ext [at13]

/-! ## The array -/

/-- The merge of the launch's arguments. -/
def out : S32768x1024.Idx → EReal := fun j =>
  merge (aX m c) (aO1 m c) (aO2 m c) (aGt m c) (aW1 m c) (aW2 m c) (aW m c) (aGm m c) (aGp m c) (aP m c) (aQ m c) (aD m c) (aGf m c) (j 0) (j 1)

/-- Equal rows merge to equal rows. -/
theorem ffn_congr {x x' : Fin 1024 → EReal} {o o' q q' : Fin 512 → EReal} {g g' h h' : Fin 1024 → EReal} {w w' v v' : Fin 512 → Fin 1024 → EReal}
    {z z' : Fin 1024 → Fin 1024 → EReal} {a a' b b' : Fin 1024 → EReal} {p p' s s' : Fin 1024 → Fin 2816 → EReal} {d d' : Fin 2816 → Fin 1024 → EReal}
    {f f' : Fin 1024 → EReal} (e0 : x = x') (e1 : o = o') (e2 : q = q') (e3 : g = g') (e4 : h = h') (e5 : w = w') (e6 : v = v') (e7 : z = z')
    (e8 : a = a') (e9 : b = b') (e10 : p = p') (e11 : s = s') (e12 : d = d') (e13 : f = f') (j : Fin 1024) :
    ffn (mid x (mixed o q g h w v) z a) b p s d f j = ffn (mid x' (mixed o' q' g' h' w' v') z' a') b' p' s' d' f' j := by
  subst e0 e1 e2 e3 e4 e5 e6 e7 e8 e9 e10 e11 e12 e13
  rfl

theorem point14 (y : S512x1024.Idx) :
    (out0_14 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) y : EReal) = out m c ((win0_14.blk t).view.emb y) := by
  have e0 : (win0_14.blk t).view.emb y 0 = row t (y 0) := by
    apply Fin.ext
    blk_simp [at14]
  have e1 : (win0_14.blk t).view.emb y 1 = y 1 := by
    apply Fin.ext
    blk_simp [at14]
  refine (congrArg (out0_14 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)) (ValueIdx.eq_ix2 y)).trans ?_
  refine (out14_apply _ _ _ _ _ _ _ _ _ _ _ _ _ _ (y 0) (y 1)).trans ?_
  show _ = merge (aX m c) (aO1 m c) (aO2 m c) (aGt m c) (aW1 m c) (aW2 m c) (aW m c) (aGm m c) (aGp m c) (aP m c) (aQ m c) (aD m c) (aGf m c)
    ((win0_14.blk t).view.emb y 0) ((win0_14.blk t).view.emb y 1)
  rw [e0, e1]
  exact ffn_congr (funext fun k => read0 m c t (y 0) k) (funext fun l => read1 m c t (y 0) l) (funext fun l => read2 m c t (y 0) l)
    (funext fun k => read3 m c t (y 0) k) (funext fun k => read4 m c t (y 0) k) (funext fun l => funext fun n => read5 m c t l n)
    (funext fun l => funext fun n => read6 m c t l n) (funext fun k => funext fun n => read7 m c t k n) (funext fun k => read8 m c t k)
    (funext fun k => read9 m c t k) (funext fun k => funext fun n => read10 m c t k n) (funext fun k => funext fun n => read11 m c t k n)
    (funext fun n => funext fun k => read12 m c t n k) (funext fun k => read13 m c t k) (y 1)

theorem arr14 : (dats m 0 c).arrAt 14 cfg0.N = out m c := by
  refine (dats m 0 c).arrAt_eq_of_covers 14 _ (by decide +kernel) fun t _ y => ?_
  blk_simp
  rw [after0_14]
  exact point14 m c t y

end Cert.MergeIdeal.SB

end
-- ==== Proof.SB.Merge.Reference.lean ====
/-
  The reference of the merge and the feed-forward layer, run and read in five stretches, then at one entry: the same array
  as the launch leaves.
-/
module

public import proofs.«01_k».proof.Proof.Gen.MergeReferenceIdeal
public import proofs.«01_k».proof.Proof.Gen.ProjReferenceIdeal.Run
public import proofs.«01_k».proof.Proof.SB.Proj.Reference
public import proofs.«01_k».proof.Proof.SB.Merge.Spec

@[expose] public section

set_option maxRecDepth 16384

noncomputable section

namespace Cert.MergeReferenceIdeal.SB

open Cert.MergeReferenceIdeal Cert.MergeReferenceIdeal.Gen
open Idealize.ShloMosaic hiding ix0 ix1 ix2 ix3 ix4 ix5
open Idealize.ShloMosaic.ValueIdx
open Idealize.ShloMosaic.TcCoe Idealize.ShloMosaic.StableHlo
open Idealize.SL Idealize.SL.Sem
open Cert.SB.Rows Cert.SB.Merge
open scoped BigOperators

/-! ## The operations, in five stretches -/

section
variable {F : FTy → Type} [FloatOps F]

/-- The gated sum of the two projected branches, times the output weight. -/
abbrev opsA : List (HloOp τ sig (Elt F)) :=
  [ unary main_arg3 main_v0 ((extf .f32 · bitsLt_bf16_f32) : (⟨S32768x2048, .bf16⟩ : BufTy).Contents (Elt F) → (⟨S32768x2048, .f32⟩ : BufTy).Contents (Elt F)),
    unary main_v0 main_v1 ((extractStridedSlice S32768x1024 ![0, 0] · slices_S32768x2048_S32768x1024_0_0) : (⟨S32768x2048, .f32⟩ : BufTy).Contents (Elt F) → (⟨S32768x1024, .f32⟩ : BufTy).Contents (Elt F)),
    unary main_v0 main_v2 ((extractStridedSlice S32768x1024 ![0, 1024] · slices_S32768x2048_S32768x1024_0_1024) : (⟨S32768x2048, .f32⟩ : BufTy).Contents (Elt F) → (⟨S32768x1024, .f32⟩ : BufTy).Contents (Elt F)),
    unary main_arg1 main_v3 ((extf .f32 · bitsLt_bf16_f32) : (⟨S32768x512, .bf16⟩ : BufTy).Contents (Elt F) → (⟨S32768x512, .f32⟩ : BufTy).Contents (Elt F)),
    binary main_v3 main_arg4 main_v4 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    binary main_v1 main_v4 main_v5 (mulf : (⟨S32768x1024, .f32⟩ : BufTy).Contents (Elt F) → (⟨S32768x1024, .f32⟩ : BufTy).Contents (Elt F) → (⟨S32768x1024, .f32⟩ : BufTy).Contents (Elt F)),
    unary main_arg2 main_v6 ((extf .f32 · bitsLt_bf16_f32) : (⟨S32768x512, .bf16⟩ : BufTy).Contents (Elt F) → (⟨S32768x512, .f32⟩ : BufTy).Contents (Elt F)),
    binary main_v6 main_arg5 main_v7 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    binary main_v2 main_v7 main_v8 (mulf : (⟨S32768x1024, .f32⟩ : BufTy).Contents (Elt F) → (⟨S32768x1024, .f32⟩ : BufTy).Contents (Elt F) → (⟨S32768x1024, .f32⟩ : BufTy).Contents (Elt F)),
    binary main_v5 main_v8 main_v9 (addf : (⟨S32768x1024, .f32⟩ : BufTy).Contents (Elt F) → (⟨S32768x1024, .f32⟩ : BufTy).Contents (Elt F) → (⟨S32768x1024, .f32⟩ : BufTy).Contents (Elt F)),
    binary main_v9 main_arg6 main_v10 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)) ]

/-- What the stretch writes. -/
abbrev outA : List (Ref sig .tc) := [main_v0, main_v1, main_v2, main_v3, main_v4, main_v5, main_v6, main_v7, main_v8, main_v9, main_v10]

theorem keepA (V : Valuation τ sig (Elt F)) {r : Ref sig .tc} (hr : r ∉ outA) : after opsA V (Proc.devRef .tc r) = V (Proc.devRef .tc r) :=
  after_of_writes_sub opsA V (forall_writes_sub_of_map rfl) hr

theorem subA : (opsA : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., binary_bufs_sub .., binary_bufs_sub .., binary_bufs_sub .., binary_bufs_sub ..⟩

theorem freshA : (opsA : List (HloOp τ sig (Elt F))).Forall fun op => op.fresh = ∅ := forall_fresh_of_map rfl

/-- Those rows scaled, added to the first argument. -/
abbrev opsB : List (HloOp τ sig (Elt F)) :=
  [ binary main_v10 main_v10 main_v11 (mulf : (⟨S32768x1024, .f32⟩ : BufTy).Contents (Elt F) → (⟨S32768x1024, .f32⟩ : BufTy).Contents (Elt F) → (⟨S32768x1024, .f32⟩ : BufTy).Contents (Elt F)),
    nullary main_cst (constant S_ .f32 0x00000000#32),
    binary main_v11 main_cst main_v12 ((fun x v => Host.reduceAdd x v reducesTo_S32768x1024_S32768_d1 h_S_) : (⟨S32768x1024, .f32⟩ : BufTy).Contents (Elt F) → (⟨S_, .f32⟩ : BufTy).Contents (Elt F) → (⟨S32768, .f32⟩ : BufTy).Contents (Elt F)),
    unary main_v12 main_v13 (broadcastInDim S32768x1 ![0] bcast_S32768_S32768x1_0 : (⟨S32768, .f32⟩ : BufTy).Contents (Elt F) → (⟨S32768x1, .f32⟩ : BufTy).Contents (Elt F)),
    nullary main_cst_0 (constant S_ .f32 0x44800000#32),
    unary main_cst_0 main_v14 (broadcastInDim S32768x1 ![] bcast_S_S32768x1 : (⟨S_, .f32⟩ : BufTy).Contents (Elt F) → (⟨S32768x1, .f32⟩ : BufTy).Contents (Elt F)),
    binary main_v13 main_v14 main_v15 (Host.divf : (⟨S32768x1, .f32⟩ : BufTy).Contents (Elt F) → (⟨S32768x1, .f32⟩ : BufTy).Contents (Elt F) → (⟨S32768x1, .f32⟩ : BufTy).Contents (Elt F)),
    nullary main_cst_1 (constant S_ .f32 0x358637BD#32),
    unary main_cst_1 main_v16 (broadcastInDim S32768x1 ![] bcast_S_S32768x1 : (⟨S_, .f32⟩ : BufTy).Contents (Elt F) → (⟨S32768x1, .f32⟩ : BufTy).Contents (Elt F)),
    binary main_v15 main_v16 main_v17 (addf : (⟨S32768x1, .f32⟩ : BufTy).Contents (Elt F) → (⟨S32768x1, .f32⟩ : BufTy).Contents (Elt F) → (⟨S32768x1, .f32⟩ : BufTy).Contents (Elt F)),
    unary main_v17 main_v18 (Host.rsqrt : (⟨S32768x1, .f32⟩ : BufTy).Contents (Elt F) → (⟨S32768x1, .f32⟩ : BufTy).Contents (Elt F)),
    unary main_v18 main_v19 (broadcastInDim S32768x1024 ![0, 1] bcast_S32768x1_S32768x1024_0_1 : (⟨S32768x1, .f32⟩ : BufTy).Contents (Elt F) → (⟨S32768x1024, .f32⟩ : BufTy).Contents (Elt F)),
    binary main_v10 main_v19 main_v20 (mulf : (⟨S32768x1024, .f32⟩ : BufTy).Contents (Elt F) → (⟨S32768x1024, .f32⟩ : BufTy).Contents (Elt F) → (⟨S32768x1024, .f32⟩ : BufTy).Contents (Elt F)),
    unary main_arg7 main_v21 (broadcastInDim S32768x1024 ![0, 1] bcast_S1x1024_S32768x1024_0_1 : (⟨S1x1024, .f32⟩ : BufTy).Contents (Elt F) → (⟨S32768x1024, .f32⟩ : BufTy).Contents (Elt F)),
    binary main_v20 main_v21 main_v22 (mulf : (⟨S32768x1024, .f32⟩ : BufTy).Contents (Elt F) → (⟨S32768x1024, .f32⟩ : BufTy).Contents (Elt F) → (⟨S32768x1024, .f32⟩ : BufTy).Contents (Elt F)),
    binary main_arg0 main_v22 main_v23 (addf : (⟨S32768x1024, .f32⟩ : BufTy).Contents (Elt F) → (⟨S32768x1024, .f32⟩ : BufTy).Contents (Elt F) → (⟨S32768x1024, .f32⟩ : BufTy).Contents (Elt F)) ]

/-- What the stretch writes. -/
abbrev outB : List (Ref sig .tc) := [main_v11, main_cst, main_v12, main_v13, main_cst_0, main_v14, main_v15, main_cst_1, main_v16, main_v17, main_v18, main_v19, main_v20, main_v21, main_v22, main_v23]

theorem keepB (V : Valuation τ sig (Elt F)) {r : Ref sig .tc} (hr : r ∉ outB) : after opsB V (Proc.devRef .tc r) = V (Proc.devRef .tc r) :=
  after_of_writes_sub opsB V (forall_writes_sub_of_map rfl) hr

theorem subB : (opsB : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub ..⟩

theorem freshB : (opsB : List (HloOp τ sig (Elt F))).Forall fun op => op.fresh = ∅ := forall_fresh_of_map rfl

/-- Those rows scaled. -/
abbrev opsC : List (HloOp τ sig (Elt F)) :=
  [ binary main_v23 main_v23 main_v24 (mulf : (⟨S32768x1024, .f32⟩ : BufTy).Contents (Elt F) → (⟨S32768x1024, .f32⟩ : BufTy).Contents (Elt F) → (⟨S32768x1024, .f32⟩ : BufTy).Contents (Elt F)),
    nullary main_cst_2 (constant S_ .f32 0x00000000#32),
    binary main_v24 main_cst_2 main_v25 ((fun x v => Host.reduceAdd x v reducesTo_S32768x1024_S32768_d1 h_S_) : (⟨S32768x1024, .f32⟩ : BufTy).Contents (Elt F) → (⟨S_, .f32⟩ : BufTy).Contents (Elt F) → (⟨S32768, .f32⟩ : BufTy).Contents (Elt F)),
    unary main_v25 main_v26 (broadcastInDim S32768x1 ![0] bcast_S32768_S32768x1_0 : (⟨S32768, .f32⟩ : BufTy).Contents (Elt F) → (⟨S32768x1, .f32⟩ : BufTy).Contents (Elt F)),
    nullary main_cst_3 (constant S_ .f32 0x44800000#32),
    unary main_cst_3 main_v27 (broadcastInDim S32768x1 ![] bcast_S_S32768x1 : (⟨S_, .f32⟩ : BufTy).Contents (Elt F) → (⟨S32768x1, .f32⟩ : BufTy).Contents (Elt F)),
    binary main_v26 main_v27 main_v28 (Host.divf : (⟨S32768x1, .f32⟩ : BufTy).Contents (Elt F) → (⟨S32768x1, .f32⟩ : BufTy).Contents (Elt F) → (⟨S32768x1, .f32⟩ : BufTy).Contents (Elt F)),
    nullary main_cst_4 (constant S_ .f32 0x358637BD#32),
    unary main_cst_4 main_v29 (broadcastInDim S32768x1 ![] bcast_S_S32768x1 : (⟨S_, .f32⟩ : BufTy).Contents (Elt F) → (⟨S32768x1, .f32⟩ : BufTy).Contents (Elt F)),
    binary main_v28 main_v29 main_v30 (addf : (⟨S32768x1, .f32⟩ : BufTy).Contents (Elt F) → (⟨S32768x1, .f32⟩ : BufTy).Contents (Elt F) → (⟨S32768x1, .f32⟩ : BufTy).Contents (Elt F)),
    unary main_v30 main_v31 (Host.rsqrt : (⟨S32768x1, .f32⟩ : BufTy).Contents (Elt F) → (⟨S32768x1, .f32⟩ : BufTy).Contents (Elt F)),
    unary main_v31 main_v32 (broadcastInDim S32768x1024 ![0, 1] bcast_S32768x1_S32768x1024_0_1 : (⟨S32768x1, .f32⟩ : BufTy).Contents (Elt F) → (⟨S32768x1024, .f32⟩ : BufTy).Contents (Elt F)),
    binary main_v23 main_v32 main_v33 (mulf : (⟨S32768x1024, .f32⟩ : BufTy).Contents (Elt F) → (⟨S32768x1024, .f32⟩ : BufTy).Contents (Elt F) → (⟨S32768x1024, .f32⟩ : BufTy).Contents (Elt F)),
    unary main_arg8 main_v34 (broadcastInDim S32768x1024 ![0, 1] bcast_S1x1024_S32768x1024_0_1 : (⟨S1x1024, .f32⟩ : BufTy).Contents (Elt F) → (⟨S32768x1024, .f32⟩ : BufTy).Contents (Elt F)),
    binary main_v33 main_v34 main_v35 (mulf : (⟨S32768x1024, .f32⟩ : BufTy).Contents (Elt F) → (⟨S32768x1024, .f32⟩ : BufTy).Contents (Elt F) → (⟨S32768x1024, .f32⟩ : BufTy).Contents (Elt F)) ]

/-- What the stretch writes. -/
abbrev outC : List (Ref sig .tc) := [main_v24, main_cst_2, main_v25, main_v26, main_cst_3, main_v27, main_v28, main_cst_4, main_v29, main_v30, main_v31, main_v32, main_v33, main_v34, main_v35]

theorem keepC (V : Valuation τ sig (Elt F)) {r : Ref sig .tc} (hr : r ∉ outC) : after opsC V (Proc.devRef .tc r) = V (Proc.devRef .tc r) :=
  after_of_writes_sub opsC V (forall_writes_sub_of_map rfl) hr

theorem subC : (opsC : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub ..⟩

theorem freshC : (opsC : List (HloOp τ sig (Elt F))).Forall fun op => op.fresh = ∅ := forall_fresh_of_map rfl

/-- The hidden columns, and their product with the last weight. -/
abbrev opsD : List (HloOp τ sig (Elt F)) :=
  [ binary main_v35 main_arg9 main_v36 ((fun l r => Host.dotGeneral dot_S32768x1024_S1024x2816_S32768x2816_1_0_0_1_n_n none l r) : (⟨S32768x1024, .f32⟩ : BufTy).Contents (Elt F) → (⟨S1024x2816, .f32⟩ : BufTy).Contents (Elt F) → (⟨S32768x2816, .f32⟩ : BufTy).Contents (Elt F)),
    TRef.unary (TRef.of (T := ⟨S32768x2816, .f32⟩) main_v36) (TRef.of (T := ⟨S32768x2816, .f32⟩) main_call0_v0) Host.negf,
    TRef.unary (TRef.of (T := ⟨S32768x2816, .f32⟩) main_call0_v0) (TRef.of (T := ⟨S32768x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S32768x2816, .f32⟩) main_call0_v2) (broadcastInDim S32768x2816 ![] bcast_S_S32768x2816),
    TRef.binary (TRef.of (T := ⟨S32768x2816, .f32⟩) main_call0_v2) (TRef.of (T := ⟨S32768x2816, .f32⟩) main_call0_v1) (TRef.of (T := ⟨S32768x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S32768x2816, .f32⟩) main_call0_v4) (broadcastInDim S32768x2816 ![] bcast_S_S32768x2816),
    TRef.binary (TRef.of (T := ⟨S32768x2816, .f32⟩) main_call0_v4) (TRef.of (T := ⟨S32768x2816, .f32⟩) main_call0_v3) (TRef.of (T := ⟨S32768x2816, .f32⟩) main_call0_v5) Host.divf,
    TRef.binary (TRef.of (T := ⟨S32768x2816, .f32⟩) main_v36) (TRef.of (T := ⟨S32768x2816, .f32⟩) main_call0_v5) (TRef.of (T := ⟨S32768x2816, .f32⟩) main_v37) mulf,
    binary main_v35 main_arg10 main_v38 ((fun l r => Host.dotGeneral dot_S32768x1024_S1024x2816_S32768x2816_1_0_0_1_n_n none l r) : (⟨S32768x1024, .f32⟩ : BufTy).Contents (Elt F) → (⟨S1024x2816, .f32⟩ : BufTy).Contents (Elt F) → (⟨S32768x2816, .f32⟩ : BufTy).Contents (Elt F)),
    binary main_v37 main_v38 main_v39 (mulf : (⟨S32768x2816, .f32⟩ : BufTy).Contents (Elt F) → (⟨S32768x2816, .f32⟩ : BufTy).Contents (Elt F) → (⟨S32768x2816, .f32⟩ : BufTy).Contents (Elt F)),
    binary main_v39 main_arg11 main_v40 ((fun l r => Host.dotGeneral dot_S32768x2816_S2816x1024_S32768x1024_1_0_0_1_n_n none l r) : (⟨S32768x2816, .f32⟩ : BufTy).Contents (Elt F) → (⟨S2816x1024, .f32⟩ : BufTy).Contents (Elt F) → (⟨S32768x1024, .f32⟩ : BufTy).Contents (Elt F)) ]

/-- What the stretch writes. -/
abbrev outD : List (Ref sig .tc) := [main_v36, main_call0_v0, main_call0_v1, main_call0_cst, main_call0_v2, main_call0_v3, main_call0_cst_0, main_call0_v4, main_call0_v5, main_v37, main_v38, main_v39, main_v40]

theorem keepD (V : Valuation τ sig (Elt F)) {r : Ref sig .tc} (hr : r ∉ outD) : after opsD V (Proc.devRef .tc r) = V (Proc.devRef .tc r) :=
  after_of_writes_sub opsD V (forall_writes_sub_of_map rfl) hr

theorem subD : (opsD : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩

theorem freshD : (opsD : List (HloOp τ sig (Elt F))).Forall fun op => op.fresh = ∅ := forall_fresh_of_map rfl

/-- Those rows scaled, and the sum that is the result. -/
abbrev opsE : List (HloOp τ sig (Elt F)) :=
  [ binary main_v40 main_v40 main_v41 (mulf : (⟨S32768x1024, .f32⟩ : BufTy).Contents (Elt F) → (⟨S32768x1024, .f32⟩ : BufTy).Contents (Elt F) → (⟨S32768x1024, .f32⟩ : BufTy).Contents (Elt F)),
    nullary main_cst_5 (constant S_ .f32 0x00000000#32),
    binary main_v41 main_cst_5 main_v42 ((fun x v => Host.reduceAdd x v reducesTo_S32768x1024_S32768_d1 h_S_) : (⟨S32768x1024, .f32⟩ : BufTy).Contents (Elt F) → (⟨S_, .f32⟩ : BufTy).Contents (Elt F) → (⟨S32768, .f32⟩ : BufTy).Contents (Elt F)),
    unary main_v42 main_v43 (broadcastInDim S32768x1 ![0] bcast_S32768_S32768x1_0 : (⟨S32768, .f32⟩ : BufTy).Contents (Elt F) → (⟨S32768x1, .f32⟩ : BufTy).Contents (Elt F)),
    nullary main_cst_6 (constant S_ .f32 0x44800000#32),
    unary main_cst_6 main_v44 (broadcastInDim S32768x1 ![] bcast_S_S32768x1 : (⟨S_, .f32⟩ : BufTy).Contents (Elt F) → (⟨S32768x1, .f32⟩ : BufTy).Contents (Elt F)),
    binary main_v43 main_v44 main_v45 (Host.divf : (⟨S32768x1, .f32⟩ : BufTy).Contents (Elt F) → (⟨S32768x1, .f32⟩ : BufTy).Contents (Elt F) → (⟨S32768x1, .f32⟩ : BufTy).Contents (Elt F)),
    nullary main_cst_7 (constant S_ .f32 0x358637BD#32),
    unary main_cst_7 main_v46 (broadcastInDim S32768x1 ![] bcast_S_S32768x1 : (⟨S_, .f32⟩ : BufTy).Contents (Elt F) → (⟨S32768x1, .f32⟩ : BufTy).Contents (Elt F)),
    binary main_v45 main_v46 main_v47 (addf : (⟨S32768x1, .f32⟩ : BufTy).Contents (Elt F) → (⟨S32768x1, .f32⟩ : BufTy).Contents (Elt F) → (⟨S32768x1, .f32⟩ : BufTy).Contents (Elt F)),
    unary main_v47 main_v48 (Host.rsqrt : (⟨S32768x1, .f32⟩ : BufTy).Contents (Elt F) → (⟨S32768x1, .f32⟩ : BufTy).Contents (Elt F)),
    unary main_v48 main_v49 (broadcastInDim S32768x1024 ![0, 1] bcast_S32768x1_S32768x1024_0_1 : (⟨S32768x1, .f32⟩ : BufTy).Contents (Elt F) → (⟨S32768x1024, .f32⟩ : BufTy).Contents (Elt F)),
    binary main_v40 main_v49 main_v50 (mulf : (⟨S32768x1024, .f32⟩ : BufTy).Contents (Elt F) → (⟨S32768x1024, .f32⟩ : BufTy).Contents (Elt F) → (⟨S32768x1024, .f32⟩ : BufTy).Contents (Elt F)),
    unary main_arg12 main_v51 (broadcastInDim S32768x1024 ![0, 1] bcast_S1x1024_S32768x1024_0_1 : (⟨S1x1024, .f32⟩ : BufTy).Contents (Elt F) → (⟨S32768x1024, .f32⟩ : BufTy).Contents (Elt F)),
    binary main_v50 main_v51 main_v52 (mulf : (⟨S32768x1024, .f32⟩ : BufTy).Contents (Elt F) → (⟨S32768x1024, .f32⟩ : BufTy).Contents (Elt F) → (⟨S32768x1024, .f32⟩ : BufTy).Contents (Elt F)),
    binary main_v23 main_v52 main_v53 (addf : (⟨S32768x1024, .f32⟩ : BufTy).Contents (Elt F) → (⟨S32768x1024, .f32⟩ : BufTy).Contents (Elt F) → (⟨S32768x1024, .f32⟩ : BufTy).Contents (Elt F)) ]

/-- What the stretch writes. -/
abbrev outE : List (Ref sig .tc) := [main_v41, main_cst_5, main_v42, main_v43, main_cst_6, main_v44, main_v45, main_cst_7, main_v46, main_v47, main_v48, main_v49, main_v50, main_v51, main_v52, main_v53]

theorem keepE (V : Valuation τ sig (Elt F)) {r : Ref sig .tc} (hr : r ∉ outE) : after opsE V (Proc.devRef .tc r) = V (Proc.devRef .tc r) :=
  after_of_writes_sub opsE V (forall_writes_sub_of_map rfl) hr

theorem subE : (opsE : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub ..⟩

theorem freshE : (opsE : List (HloOp τ sig (Elt F))).Forall fun op => op.fresh = ∅ := forall_fresh_of_map rfl

abbrev ops : List (HloOp τ sig (Elt F)) := opsA ++ (opsB ++ (opsC ++ (opsD ++ opsE)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_all {P : HloOp τ sig (Elt F) → Prop} (hA : (opsA (F := F)).Forall P) (hB : (opsB (F := F)).Forall P) (hC : (opsC (F := F)).Forall P) (hD : (opsD (F := F)).Forall P)
    (hE : (opsE (F := F)).Forall P) : (ops (F := F)).Forall P :=
  List.forall_append.mpr ⟨hA, List.forall_append.mpr ⟨hB, List.forall_append.mpr ⟨hC, List.forall_append.mpr ⟨hD, hE⟩⟩⟩⟩

/-- One list of operations after another. -/
theorem after_two (l l' : List (HloOp τ sig (Elt F))) (V : Valuation τ sig (Elt F)) : after (l ++ l') V = after l' (after l V) := by
  induction l generalizing V with
  | nil => rfl
  | cons op l ih => exact ih _

end

/-! ## What each stretch leaves -/

/-- The scaled rows. -/
def scaled (x : FVec Ideal S32768x1024 .f32) (g : FVec Ideal S1x1024 .f32) : FVec Ideal S32768x1024 .f32 :=
  normH (M := 32768) x g reducesTo_S32768x1024_S32768_d1 h_S_ bcast_S32768_S32768x1_0 bcast_S_S32768x1 bcast_S32768x1_S32768x1024_0_1
    bcast_S1x1024_S32768x1024_0_1

/-- The two branches, projected, gated and added. -/
def joined (o₁ o₂ : FVec Ideal S32768x512 .bf16) (gt : FVec Ideal S32768x2048 .bf16) (w₁ w₂ : FVec Ideal S512x1024 .f32) : FVec Ideal S32768x1024 .f32 :=
  addf (mulf (extractStridedSlice S32768x1024 ![0, 0] (extf .f32 gt bitsLt_bf16_f32) slices_S32768x2048_S32768x1024_0_0)
      (Host.dotGeneral dot_S32768x512_S512x1024_S32768x1024_1_0_0_1_n_n none (extf .f32 o₁ bitsLt_bf16_f32) w₁))
    (mulf (extractStridedSlice S32768x1024 ![0, 1024] (extf .f32 gt bitsLt_bf16_f32) slices_S32768x2048_S32768x1024_0_1024)
      (Host.dotGeneral dot_S32768x512_S512x1024_S32768x1024_1_0_0_1_n_n none (extf .f32 o₂ bitsLt_bf16_f32) w₂))

/-- The branches' rows times the output weight. -/
def projected (o₁ o₂ : FVec Ideal S32768x512 .bf16) (gt : FVec Ideal S32768x2048 .bf16) (w₁ w₂ : FVec Ideal S512x1024 .f32) (w : FVec Ideal S1024x1024 .f32) :
    FVec Ideal S32768x1024 .f32 :=
  Host.dotGeneral dot_S32768x1024_S1024x1024_S32768x1024_1_0_0_1_n_n none (joined o₁ o₂ gt w₁ w₂) w

/-- The hidden columns of the feed-forward layer. -/
def hidden (f : FVec Ideal S32768x1024 .f32) (p q : FVec Ideal S1024x2816 .f32) : FVec Ideal S32768x2816 .f32 :=
  mulf (mulf (Host.dotGeneral dot_S32768x1024_S1024x2816_S32768x2816_1_0_0_1_n_n none f p)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (Host.dotGeneral dot_S32768x1024_S1024x2816_S32768x2816_1_0_0_1_n_n none f p))))))
    (Host.dotGeneral dot_S32768x1024_S1024x2816_S32768x2816_1_0_0_1_n_n none f q)

/-- Their product with the last weight. -/
def lowered (f : FVec Ideal S32768x1024 .f32) (p q : FVec Ideal S1024x2816 .f32) (d : FVec Ideal S2816x1024 .f32) : FVec Ideal S32768x1024 .f32 :=
  Host.dotGeneral dot_S32768x2816_S2816x1024_S32768x1024_1_0_0_1_n_n none (hidden f p q) d

section
variable (V : Valuation τ sig (Elt Ideal))

theorem getA : after opsA V (Proc.devRef .tc main_v10) = projected (V (Proc.devRef .tc main_arg1)) (V (Proc.devRef .tc main_arg2))
    (V (Proc.devRef .tc main_arg3)) (V (Proc.devRef .tc main_arg4)) (V (Proc.devRef .tc main_arg5)) (V (Proc.devRef .tc main_arg6)) := by
  after_results
  try rfl

theorem getB : after opsB V (Proc.devRef .tc main_v23)
    = (addf (V (Proc.devRef .tc main_arg0)) (scaled (V (Proc.devRef .tc main_v10)) (V (Proc.devRef .tc main_arg7))) : FVec Ideal S32768x1024 .f32) := by
  after_results
  try rfl

theorem getC : after opsC V (Proc.devRef .tc main_v35) = scaled (V (Proc.devRef .tc main_v23)) (V (Proc.devRef .tc main_arg8)) := by
  after_results
  try rfl

theorem getD : after opsD V (Proc.devRef .tc main_v40) = lowered (V (Proc.devRef .tc main_v35)) (V (Proc.devRef .tc main_arg9))
    (V (Proc.devRef .tc main_arg10)) (V (Proc.devRef .tc main_arg11)) := by
  after_results
  try rfl

theorem getE : after opsE V (Proc.devRef .tc main_v53)
    = (addf (V (Proc.devRef .tc main_v23)) (scaled (V (Proc.devRef .tc main_v40)) (V (Proc.devRef .tc main_arg12))) : FVec Ideal S32768x1024 .f32) := by
  after_results
  try rfl

end

/-- The reference's array, of the arguments' contents. -/
def whole (x : FVec Ideal S32768x1024 .f32) (o₁ o₂ : FVec Ideal S32768x512 .bf16) (gt : FVec Ideal S32768x2048 .bf16) (w₁ w₂ : FVec Ideal S512x1024 .f32)
    (w : FVec Ideal S1024x1024 .f32) (gm gp : FVec Ideal S1x1024 .f32) (p q : FVec Ideal S1024x2816 .f32) (d : FVec Ideal S2816x1024 .f32)
    (gf : FVec Ideal S1x1024 .f32) : FVec Ideal S32768x1024 .f32 :=
  addf (addf x (scaled (projected o₁ o₂ gt w₁ w₂ w) gm))
    (scaled (lowered (scaled (addf x (scaled (projected o₁ o₂ gt w₁ w₂ w) gm)) gp) p q d) gf)

theorem keep_all {r : Ref sig .tc} (V : Valuation τ sig (Elt Ideal)) (hA : r ∉ outA) (hB : r ∉ outB) (hC : r ∉ outC) (hD : r ∉ outD) (hE : r ∉ outE) :
    after ops V (Proc.devRef .tc r) = V (Proc.devRef .tc r) := by
  rw [after_two, after_two, after_two, after_two, keepE _ hE, keepD _ hD, keepC _ hC, keepB _ hB, keepA _ hA]

/-- What the reference leaves in its result. -/
theorem get_all (V : Valuation τ sig (Elt Ideal)) : after ops V (Proc.devRef .tc main_v53)
    = whole (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) (V (Proc.devRef .tc main_arg11))
        (V (Proc.devRef .tc main_arg12)) := by
  have hB : after opsB (after opsA V) (Proc.devRef .tc main_v23) = (addf (V (Proc.devRef .tc main_arg0))
      (scaled (projected (V (Proc.devRef .tc main_arg1)) (V (Proc.devRef .tc main_arg2)) (V (Proc.devRef .tc main_arg3)) (V (Proc.devRef .tc main_arg4))
        (V (Proc.devRef .tc main_arg5)) (V (Proc.devRef .tc main_arg6))) (V (Proc.devRef .tc main_arg7))) : FVec Ideal S32768x1024 .f32) := by
    rw [getB, getA, keepA _ (r := main_arg0) (by decide), keepA _ (r := main_arg7) (by decide)]
  rw [after_two, after_two, after_two, after_two, getE, getD, getC, keepD _ (r := main_v23) (by decide), keepC _ (r := main_v23) (by decide), hB]
  rw [keepD _ (r := main_arg12) (by decide), keepC _ (r := main_arg12) (by decide), keepB _ (r := main_arg12) (by decide), keepA _ (r := main_arg12) (by decide),
    keepC _ (r := main_arg9) (by decide), keepB _ (r := main_arg9) (by decide), keepA _ (r := main_arg9) (by decide),
    keepC _ (r := main_arg10) (by decide), keepB _ (r := main_arg10) (by decide), keepA _ (r := main_arg10) (by decide),
    keepC _ (r := main_arg11) (by decide), keepB _ (r := main_arg11) (by decide), keepA _ (r := main_arg11) (by decide),
    keepB _ (r := main_arg8) (by decide), keepA _ (r := main_arg8) (by decide)]
  rfl

/-! ## The array, at one entry -/

theorem scaled_apply (x : FVec Ideal S32768x1024 .f32) (g : FVec Ideal S1x1024 .f32) (r : Fin 32768) (j : Fin 1024) :
    scaled x g (ix2 r j) = norm (fun k => x (ix2 r k)) (fun k => g (ix2 0 k)) j :=
  normH_apply (M := 32768) x g _ _ _ _ _ _ r j

theorem cut_apply {o : ℕ} (y : FVec Ideal S32768x2048 .f32) (h : S32768x2048.Slices ![0, o] S32768x1024) (r : Fin 32768) (k : Fin 1024)
    (hk : o + k.val < 2048) : extractStridedSlice S32768x1024 ![0, o] y h (ix2 r k) = y (ix2 r ⟨o + k.val, hk⟩) := by
  rw [Pointwise.extractStridedSlice_apply]
  congr 1
  funext a
  match a with
  | ⟨0, _⟩ => exact Fin.ext (Nat.zero_add _)
  | ⟨1, _⟩ => rfl

theorem joined_apply (o₁ o₂ : FVec Ideal S32768x512 .bf16) (gt : FVec Ideal S32768x2048 .bf16) (w₁ w₂ : FVec Ideal S512x1024 .f32) (r : Fin 32768) (j : Fin 1024) :
    joined o₁ o₂ gt w₁ w₂ (ix2 r j) = mixed (fun l => o₁ (ix2 r l)) (fun l => o₂ (ix2 r l)) (fun k => gt (ix2 r ⟨0 + k.val, by omega⟩))
      (fun k => gt (ix2 r ⟨1024 + k.val, by omega⟩)) (fun l n => w₁ (ix2 l n)) (fun l n => w₂ (ix2 l n)) j :=
  congrArg₂ (· + ·)
    (congrArg₂ (· * ·) (cut_apply (o := 0) (extf .f32 gt bitsLt_bf16_f32) slices_S32768x2048_S32768x1024_0_0 r j (by omega))
      (StackMember.dotGeneral_plain_apply (m := 32768) (k := 512) (n := 1024) none (extf .f32 o₁ bitsLt_bf16_f32) w₁ r j))
    (congrArg₂ (· * ·) (cut_apply (o := 1024) (extf .f32 gt bitsLt_bf16_f32) slices_S32768x2048_S32768x1024_0_1024 r j (by omega))
      (StackMember.dotGeneral_plain_apply (m := 32768) (k := 512) (n := 1024) none (extf .f32 o₂ bitsLt_bf16_f32) w₂ r j))

theorem mid_apply (x : FVec Ideal S32768x1024 .f32) (o₁ o₂ : FVec Ideal S32768x512 .bf16) (gt : FVec Ideal S32768x2048 .bf16) (w₁ w₂ : FVec Ideal S512x1024 .f32)
    (w : FVec Ideal S1024x1024 .f32) (gm : FVec Ideal S1x1024 .f32) (r : Fin 32768) (j : Fin 1024) :
    (addf x (scaled (projected o₁ o₂ gt w₁ w₂ w) gm) : FVec Ideal S32768x1024 .f32) (ix2 r j)
      = mid (fun k => x (ix2 r k)) (mixed (fun l => o₁ (ix2 r l)) (fun l => o₂ (ix2 r l)) (fun k => gt (ix2 r ⟨0 + k.val, by omega⟩))
          (fun k => gt (ix2 r ⟨1024 + k.val, by omega⟩)) (fun l n => w₁ (ix2 l n)) (fun l n => w₂ (ix2 l n)))
        (fun k n => w (ix2 k n)) (fun k => gm (ix2 0 k)) j := by
  refine congrArg (x (ix2 r j) + ·) ((scaled_apply _ gm r j).trans (congrArg (fun y => norm y (fun k => gm (ix2 0 k)) j) (funext fun n => ?_)))
  refine (StackMember.dotGeneral_plain_apply (m := 32768) (k := 1024) (n := 1024) none (joined o₁ o₂ gt w₁ w₂) w r n).trans ?_
  exact Finset.sum_congr rfl fun k _ => congrArg (· * w (ix2 k n)) (joined_apply o₁ o₂ gt w₁ w₂ r k)

theorem hidden_apply (f : FVec Ideal S32768x1024 .f32) (p q : FVec Ideal S1024x2816 .f32) (r : Fin 32768) (n : Fin 2816) :
    hidden f p q (ix2 r n) = act (fun k => f (ix2 r k)) (fun k => p (ix2 k n)) (fun k => q (ix2 k n)) := by
  have e : ∀ w : FVec Ideal S1024x2816 .f32, (Host.dotGeneral dot_S32768x1024_S1024x2816_S32768x2816_1_0_0_1_n_n none f w : FVec Ideal S32768x2816 .f32) (ix2 r n)
      = ∑ k : Fin 1024, f (ix2 r k) * w (ix2 k n) := fun w =>
    StackMember.dotGeneral_plain_apply (m := 32768) (k := 1024) (n := 2816) none f w r n
  exact congrArg₂ (· * ·) (congrArg₂ (· * ·) (e p) ((sigH_apply (s := S32768x2816) _ bcast_S_S32768x2816 bcast_S_S32768x2816 (ix2 r n)).trans
    (congrArg Ideal.logistic (e p)))) (e q)

theorem whole_apply (x : FVec Ideal S32768x1024 .f32) (o₁ o₂ : FVec Ideal S32768x512 .bf16) (gt : FVec Ideal S32768x2048 .bf16) (w₁ w₂ : FVec Ideal S512x1024 .f32)
    (w : FVec Ideal S1024x1024 .f32) (gm gp : FVec Ideal S1x1024 .f32) (p q : FVec Ideal S1024x2816 .f32) (d : FVec Ideal S2816x1024 .f32)
    (gf : FVec Ideal S1x1024 .f32) (r : Fin 32768) (j : Fin 1024) :
    whole x o₁ o₂ gt w₁ w₂ w gm gp p q d gf (ix2 r j) = merge x o₁ o₂ gt w₁ w₂ w gm gp p q d gf r j := by
  let h : FVec Ideal S32768x1024 .f32 := addf x (scaled (projected o₁ o₂ gt w₁ w₂ w) gm)
  have hh := funext fun k => mid_apply x o₁ o₂ gt w₁ w₂ w gm r k
  have e : whole x o₁ o₂ gt w₁ w₂ w gm gp p q d gf (ix2 r j)
      = ffn (fun k => h (ix2 r k)) (fun k => gp (ix2 0 k)) (fun k n => p (ix2 k n)) (fun k n => q (ix2 k n)) (fun n k => d (ix2 n k))
        (fun k => gf (ix2 0 k)) j := by
    refine congrArg (h (ix2 r j) + ·) ((scaled_apply _ gf r j).trans (congrArg (fun y => norm y (fun k => gf (ix2 0 k)) j) (funext fun i => ?_)))
    refine (StackMember.dotGeneral_plain_apply (m := 32768) (k := 2816) (n := 1024) none (hidden (scaled h gp) p q) d r i).trans ?_
    refine Finset.sum_congr rfl fun n _ => congrArg (· * d (ix2 n i)) ((hidden_apply _ p q r n).trans ?_)
    exact congrArg (fun y => act y (fun k => p (ix2 k n)) (fun k => q (ix2 k n))) (funext fun k => scaled_apply h gp r k)
  refine e.trans ?_
  exact congrArg (fun y => ffn y (fun k => gp (ix2 0 k)) (fun k n => p (ix2 k n)) (fun k n => q (ix2 k n)) (fun n k => d (ix2 n k))
        (fun k => gf (ix2 0 k)) j) hh

/-! ## The run -/

variable (m : (ℓ : Loc nD τ sig) → Buf (Elt Ideal) ℓ) (ρ : Dev nD → PrngReg)

/-- The merge of the reference's arguments. -/
def out (c : Dev nD) : S32768x1024.Idx → EReal := fun j =>
  merge (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (j 0) (j 1)

/-- Every execution of the reference ends with the array, its arguments as they were. -/
theorem run_spec : θ_run (defs (F := Ideal)) (onTc (τ := τ) (main (F := Ideal))) ⟨m, fun _ => 0, ρ⟩ fun r => ∀ c : Dev nD,
      r.2.mem ((c.tc : Thread nD τ).loc main_v53) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c main_v53).trans (get_all _)).trans (funext fun j => by
        rw [ValueIdx.eq_ix2 j]
        exact whole_apply _ _ _ _ _ _ _ _ _ _ _ _ _ (j 0) (j 1)),
      (h c main_arg0).trans (keep_all _ (by decide) (by decide) (by decide) (by decide) (by decide)),
      (h c main_arg1).trans (keep_all _ (by decide) (by decide) (by decide) (by decide) (by decide)),
      (h c main_arg2).trans (keep_all _ (by decide) (by decide) (by decide) (by decide) (by decide)),
      (h c main_arg3).trans (keep_all _ (by decide) (by decide) (by decide) (by decide) (by decide)),
      (h c main_arg4).trans (keep_all _ (by decide) (by decide) (by decide) (by decide) (by decide)),
      (h c main_arg5).trans (keep_all _ (by decide) (by decide) (by decide) (by decide) (by decide)),
      (h c main_arg6).trans (keep_all _ (by decide) (by decide) (by decide) (by decide) (by decide)),
      (h c main_arg7).trans (keep_all _ (by decide) (by decide) (by decide) (by decide) (by decide)),
      (h c main_arg8).trans (keep_all _ (by decide) (by decide) (by decide) (by decide) (by decide)),
      (h c main_arg9).trans (keep_all _ (by decide) (by decide) (by decide) (by decide) (by decide)),
      (h c main_arg10).trans (keep_all _ (by decide) (by decide) (by decide) (by decide) (by decide)),
      (h c main_arg11).trans (keep_all _ (by decide) (by decide) (by decide) (by decide) (by decide)),
      (h c main_arg12).trans (keep_all _ (by decide) (by decide) (by decide) (by decide) (by decide))⟩)
    (run_seq scopedRefs_eq scopedSems_eq defs main (fun _ => ops) main_eq (fun _ => ops_all subA subB subC subD subE) m ρ
      (fun _ => List.forall_iff_forall_mem.mp (ops_all freshA freshB freshC freshD freshE)))

end Cert.MergeReferenceIdeal.SB

end
-- ==== Proof.SB.Steps.lean ====
/-
  Loads and stores of a memref held by what it reads. A load through a rectangle gives the part of
  the contents at that rectangle, a store puts the stored part over the contents (`Rect.overlay`).
-/
module

public import Idealize.ShloMosaic.Lib.Tactic
public import Idealize.ShloMosaic.Lib.Memref
public import Idealize.ShloMosaic.Lib.ValueIdxCore

@[expose] public section

noncomputable section

namespace Cert.SB

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The part of a function on a shape that a rectangle reads. -/
def rd {s : Shape} {β : Type} (X : s.Idx → β) (r : LoadRect s) : r.shape.Idx → β := fun j => X (r.idx j)

section Steps
variable {nD : Nat} {τ : Topo} {sig : RefSig} {Ix : Type} [DecidableEq Ix]
variable {Val : EltTy → Type} {Name : Type} [DecidableEq Name]
variable {U : Type} [URA U] {Lvl : Type} [Preorder Lvl] {Λ : Labels}
local notation "𝕄" => MT nD τ sig Ix Val Name U Lvl

variable {defs : Defs nD τ sig Val Λ} (𝒱 : Variants) (c : Thread nD τ)
  (bd : Option 𝒱.V) {Γ : PendingWaitsCtx sig Ix} (E : Set Name)
variable {s : Shape} {e : EltTy} {α : Type} {Q : α → sProp (MT nD τ sig Ix Val Name U Lvl)}

/-- A load at the head of a program from a memref held at `X`: the program goes on at the part of `X`
    the rectangle reads. -/
theorem ld {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (rd X r)) Q)
        -∗ wp frame (wpE' defs 𝒱 c bd Γ) E (.op (.load m r hl) k) Q) := by
  unfold owns
  iintro ⟨%f, %hf, H⟩ Hk
  have e : m.view.readAt Val r f = rd X r := by
    funext j; rw [← hf]; rfl
  iapply (wp_load 𝒱 c bd E (m := m) (r := r) (hl := hl) (S := m.view.set) (by
    intro x hx
    rw [View.setOn, Finset.mem_map] at hx
    obtain ⟨y, _, rfl⟩ := hx
    exact Finset.mem_map_of_mem _ (Finset.mem_univ y))) $$ H
  iintro H
  rw [e]
  iapply Hk
  iexists f
  isplitr; · ipureintro; exact hf
  iexact H

theorem read_access_write {κ : Kind} {sp : Space} (m : Memref sig κ sp s e) (r : Rect s) (f : m.view.ty.Contents Val) (w : r.shape.Idx → Val e) :
    m.view.read Val ((m.access r).write Val f w Finset.univ) = r.overlay (m.view.read Val f) w := by
  funext j
  by_cases hj : j ∈ r.set
  · rw [← r.map_emb_univ, Finset.mem_map] at hj
    obtain ⟨x, -, rfl⟩ := hj
    rw [Rect.overlay_emb]
    exact View.read_slice_write_emb (v := m.view) r f w (Finset.mem_univ x)
  · rw [Rect.overlay_of_not_mem _ _ _ hj]
    exact View.read_slice_write_of_not_mem (v := m.view) r f w Finset.univ (fun h => hj (by
      obtain ⟨x, -, rfl⟩ := Finset.mem_map.mp h
      rw [← r.map_emb_univ]; exact Finset.mem_map_of_mem _ (Finset.mem_univ x)))

/-- A store at the head of a program to a memref held at `X`: the program goes on with the stored part put
    over `X`. -/
theorem st {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (w := w) (hx := hx) (hm := hm) (S := m.view.set) (by
    intro x hx
    rw [View.setOn, Finset.mem_map] at hx
    obtain ⟨y, _, rfl⟩ := hx
    exact Finset.mem_map_of_mem _ (Finset.mem_univ (r.emb y)))) $$ H
  iintro H
  iapply Hk
  iexists _
  isplitr; swap; · iexact H
  ipureintro
  rw [read_access_write, hf]

end Steps
end Cert.SB

end
-- ==== Proof.SB.KernelIdeal.Model.lean ====
/-
  What one grid step of the attention kernel computes, as plain functions of the blocks it reads: the scores of a
  row group against a block of keys, the sums of their softplus from the right, the carried sums and the
  accumulated outputs, the walk over the key blocks to the left, and the output block.
-/
module

public import proofs.«01_k».proof.Proof.Gen.KernelIdeal.Skeleton
public import proofs.«01_k».proof.Proof.SB.Steps

@[expose] public section

noncomputable section

namespace Cert.KernelIdeal.SB

open Cert.KernelIdeal Cert.KernelIdeal.Gen
open Idealize.ShloMosaic Idealize.ShloMosaic.ValueIdx
open Cert.SB (rd)

variable {F : FTy → Type} [FloatOps F] [Named F]

/-! ## The constants -/

abbrev negInfC : F .f32 := Named.named κ "neg_inf" 0xF149F2CA#32
abbrev posInfC : F .f32 := Named.named κ "pos_inf" 0x7149F2CA#32
abbrev log2eC : F .f32 := Named.named κ "log2e" 0x3FB8AA3B#32
abbrev stopC : F .f32 := Named.named κ "stop" 0x42800000#32

/-! ## The accumulators, four row groups for each of two heads -/

/-- The accumulated outputs by head and row group. -/
abbrev Acc (F : FTy → Type) : Type := Fin 2 → Fin 4 → FVec F S1x256x128 .f32
/-- The carried sums by head and row group. -/
abbrev Car (F : FTy → Type) : Type := Fin 2 → Fin 4 → FVec F S256x1 .f32

/-- An accumulator with one entry replaced. -/
def upd (A : Acc F) (h : Fin 2) (a : Fin 4) (w : FVec F S1x256x128 .f32) : Acc F :=
  fun h' a' => if h' = h ∧ a' = a then w else A h' a'

/-- The buffer the accumulators lie in: head by head, row group after row group. -/
def accBuf (A : Acc F) : S2x1024x128.Idx → F .f32 := fun j =>
  A (j 0) ⟨(j 1).val / 256, by have := (j 1).isLt; change (j 1).val < 1024 at this; omega⟩
    (ix3 0 ⟨(j 1).val % 256, Nat.mod_lt _ (by decide)⟩ (j 2))

theorem ginb (h : Fin 2) (a : Fin 4) : ∀ x, (![h.val, 256 * a.val, 0] : Fin 3 → Nat) x + S1x256x128.size x ≤ S2x1024x128.size x := by
  revert h a; decide

/-- The part of the buffer that holds one accumulator. -/
abbrev gRect (h : Fin 2) (a : Fin 4) : Rect S2x1024x128 :=
  Rect.unit (s := S2x1024x128) ![h.val, 256 * a.val, 0] S1x256x128.size (ginb h a)

theorem rd_accBuf (A : Acc F) (h : Fin 2) (a : Fin 4) :
    (rd (accBuf A) (gRect h a).toLoadRect : S1x256x128.Idx → F .f32) = A h a := by
  funext j
  have h0 : (j 0).val = 0 := by have := (j 0).isLt; change (j 0).val < 1 at this; omega
  have h1 : (j 1).val < 256 := (j 1).isLt
  have e0 : (gRect h a).toLoadRect.idx j 0 = h := Fin.ext (by show h.val + 1 * (j 0).val = _; omega)
  have e1 : (((gRect h a).toLoadRect.idx j 1).val) = 256 * a.val + (j 1).val := by
    show 256 * a.val + 1 * (j 1).val = _; omega
  have e2 : (gRect h a).toLoadRect.idx j 2 = j 2 := Fin.ext (by show 0 + 1 * (j 2).val = _; omega)
  show A _ _ _ = _
  rw [e0, e2]
  have ea : (⟨((gRect h a).toLoadRect.idx j 1).val / 256, by rw [e1]; omega⟩ : Fin 4) = a := Fin.ext (by show _ / 256 = _; rw [e1]; omega)
  have ej : (ix3 0 ⟨((gRect h a).toLoadRect.idx j 1).val % 256, Nat.mod_lt _ (by decide)⟩ (j 2) : S1x256x128.Idx) = j := by
    funext d
    match d with
    | ⟨0, _⟩ => exact Fin.ext h0.symm
    | ⟨1, _⟩ => exact Fin.ext (by show _ % 256 = (j 1).val; rw [e1]; omega)
    | ⟨2, _⟩ => rfl
  exact congr (congrArg (A h) ea) ej

theorem overlay_accBuf (A : Acc F) (h : Fin 2) (a : Fin 4) (w : FVec F S1x256x128 .f32) :
    (gRect h a).overlay (accBuf A) w = accBuf (upd A h a w) := by
  funext j
  have hj1 : (j 1).val < 1024 := (j 1).isLt
  by_cases hc : j 0 = h ∧ (j 1).val / 256 = a.val
  · have hm : (j : S2x1024x128.Idx) = (gRect h a).emb (ix3 0 ⟨(j 1).val % 256, Nat.mod_lt _ (by decide)⟩ (j 2) : S1x256x128.Idx) := by
      funext d
      match d with
      | ⟨0, _⟩ => exact Fin.ext (by show (j 0).val = h.val + 1 * 0; rw [hc.1]; omega)
      | ⟨1, _⟩ => exact Fin.ext (by show (j 1).val = 256 * a.val + 1 * ((j 1).val % 256); omega)
      | ⟨2, _⟩ => exact Fin.ext (by show (j 2).val = 0 + 1 * (j 2).val; omega)
    conv_lhs => rw [hm]
    rw [Rect.overlay_emb]
    exact (congrFun (if_pos ⟨hc.1, Fin.ext hc.2⟩) _).symm
  · rw [Rect.overlay_of_not_mem]
    · exact (congrFun (if_neg (c := j 0 = h ∧ (⟨(j 1).val / 256, by omega⟩ : Fin 4) = a)
        (fun hh => hc ⟨hh.1, congrArg Fin.val hh.2⟩)) (ix3 0 ⟨(j 1).val % 256, Nat.mod_lt _ (by decide)⟩ (j 2))).symm
    · intro hm
      obtain ⟨x, rfl⟩ := (gRect h a).exists_idx_of_mem hm
      have h0 : (x 0).val = 0 := by have := (x 0).isLt; change (x 0).val < 1 at this; omega
      have h1 : (x 1).val < 256 := (x 1).isLt
      refine hc ⟨Fin.ext (by show h.val + 1 * (x 0).val = _; omega), ?_⟩
      show (256 * a.val + 1 * (x 1).val) / 256 = _
      omega

/-- One entry replaced by a function of its old value. -/
def stp (f : Fin 2 → Fin 4 → FVec F S1x256x128 .f32 → FVec F S1x256x128 .f32) (h : Fin 2) (a : Fin 4) (A : Acc F) : Acc F :=
  upd A h a (f h a (A h a))

/-- Replacing all eight entries in turn, each by a function of its own old value. -/
theorem stp_all (A : Acc F) (f : Fin 2 → Fin 4 → FVec F S1x256x128 .f32 → FVec F S1x256x128 .f32) :
    stp f 1 3 (stp f 0 3 (stp f 1 2 (stp f 0 2 (stp f 1 1 (stp f 0 1 (stp f 1 0 (stp f 0 0 A))))))) = fun h a => f h a (A h a) := by
  funext h a
  fin_cases h <;> fin_cases a <;> simp [stp, upd]

/-! ## One block of keys -/

/-- The rows of one group. -/
def sl (v : FVec F S1024x128 .bf16) : Fin 4 → FVec F S256x128 .bf16
  | 0 => extractStridedSlice S256x128 ![0, 0] v slices_S1024x128_o0_0_S256x128
  | 1 => extractStridedSlice S256x128 ![256, 0] v slices_S1024x128_o256_0_S256x128
  | 2 => extractStridedSlice S256x128 ![512, 0] v slices_S1024x128_o512_0_S256x128
  | 3 => extractStridedSlice S256x128 ![768, 0] v slices_S1024x128_o768_0_S256x128

/-- The softplus of scores to base two: `max z 0 + log2 (1 + 2^(-|z|))`. -/
def sp {s : Shape} (z : FVec F s .f32) : FVec F s .f32 :=
  addf (maximumf z (broadcast s (Scalar.ofBits .f32 0x00000000#32)))
    (mulf (log (addf (broadcast s (Scalar.ofBits .f32 0x3F800000#32)) (exp2 (subf (broadcast s (Scalar.ofBits .f32 0x00000000#32)) (absf z)))))
      (broadcast s log2eC))

/-- Scores of 256 rows against 256 keys. -/
def scW (q k : FVec F S256x128 .bf16) : FVec F S256x256 .f32 :=
  matmul dot_S256x128_S256x128_S256x256_1_1_0_0_n_n none q k (constant S256x256 .f32 0x00000000#32)
/-- Scores of 256 rows against 128 keys. -/
def scN (q : FVec F S256x128 .bf16) (k : FVec F S128x128 .bf16) : FVec F S256x128 .f32 :=
  matmul dot_S256x128_S128x128_S256x128_1_1_0_0_n_n none q k (constant S256x128 .f32 0x00000000#32)

/-- Sums from the right over 256 keys: a product with the triangle. -/
def csW (tri : FVec F S256x256 .bf16) (z : FVec F S256x256 .f32) : FVec F S256x256 .f32 :=
  matmul dot_S256x256_S256x256_S256x256_1_0_0_1_n_n none (truncf .bf16 (sp z) bitsLt_bf16_f32) tri (constant S256x256 .f32 0x00000000#32)
/-- Sums from the right over 128 keys. -/
def csN (tri : FVec F S128x128 .bf16) (z : FVec F S256x128 .f32) : FVec F S256x128 .f32 :=
  matmul dot_S256x128_S128x128_S256x128_1_0_0_1_n_n none (truncf .bf16 (sp z) bitsLt_bf16_f32) tri (constant S256x128 .f32 0x00000000#32)

/-- The carried sum after 256 keys. -/
def carW (cs : FVec F S256x256 .f32) (c : FVec F S256x1 .f32) : FVec F S256x1 .f32 :=
  addf (extractStridedSlice S256x1 ![0, 0] cs slices_S256x256_o0_0_S256x1) c
/-- The carried sum after 128 keys. -/
def carN (cs : FVec F S256x128 .f32) (c : FVec F S256x1 .f32) : FVec F S256x1 .f32 :=
  addf (extractStridedSlice S256x1 ![0, 0] cs slices_S256x128_o0_0_S256x1) c

/-- The accumulated output after 256 keys. -/
def accW (z cs : FVec F S256x256 .f32) (c : FVec F S256x1 .f32) (v : FVec F S256x128 .bf16) (old : FVec F S1x256x128 .f32) : FVec F S1x256x128 .f32 :=
  shapeCast S1x256x128 (addf (shapeCast S256x128 old shapeCasts_S1x256x128_S256x128)
    (matmul dot_S256x256_S256x128_S256x128_1_0_0_1_n_n none
      (truncf .bf16 (exp2 (subf z (addf cs (broadcastTo S256x256 c broadcasts_S256x1_S256x256)))) bitsLt_bf16_f32) v
      (constant S256x128 .f32 0x00000000#32))) shapeCasts_S256x128_S1x256x128
/-- The accumulated output after 128 keys. -/
def accN (z cs : FVec F S256x128 .f32) (c : FVec F S256x1 .f32) (v : FVec F S128x128 .bf16) (old : FVec F S1x256x128 .f32) : FVec F S1x256x128 .f32 :=
  shapeCast S1x256x128 (addf (shapeCast S256x128 old shapeCasts_S1x256x128_S256x128)
    (matmul dot_S256x128_S128x128_S256x128_1_0_0_1_n_n none
      (truncf .bf16 (exp2 (subf z (addf cs (broadcastTo S256x128 c broadcasts_S256x1_S256x128)))) bitsLt_bf16_f32) v
      (constant S256x128 .f32 0x00000000#32))) shapeCasts_S256x128_S1x256x128

/-! ## What a grid step reads -/

/-- The blocks one grid step reads. -/
structure Blocks (F : FTy → Type) where
  i : grid0.Coords
  x3 : S1x1024x128.Idx → F .bf16
  x4 : S1x8192x128.Idx → F .bf16
  x5 : S1x8192x128.Idx → F .bf16
  x6 : S128x128.Idx → F .bf16
  x7 : S128x128.Idx → F .bf16
  x8 : S256x256.Idx → F .bf16

variable (B : Blocks F)

namespace Blocks

def q : Fin 2 → FVec F S1024x128 .bf16
  | 0 => k0_pay38 (rd B.x3 (Rect.unit (s := S1x1024x128) ![0, 0, 0] S1x1024x128.size inb_S1x1024x128_S1x1024x128_0_0_0).toLoadRect)
  | 1 => k0_pay39 (rd B.x3 (Rect.unit (s := S1x1024x128) ![0, 0, 0] S1x1024x128.size inb_S1x1024x128_S1x1024x128_0_0_0).toLoadRect)

def tri : FVec F S256x256 .bf16 :=
  k0_pay40 (rd B.x8 (Rect.unit (s := S256x256) ![0, 0] S256x256.size inb_S256x256_S256x256_0_0).toLoadRect)
def tri' : FVec F S128x128 .bf16 :=
  k0_pay44 (rd B.x8 (Rect.unit (s := S256x256) ![0, 0] S128x128.size inb_S256x256_S128x128_0_0).toLoadRect)
def mK : FVec F S128x128 .bf16 :=
  rd B.x6 (Rect.unit (s := S128x128) ![0, 0] S128x128.size inb_S128x128_S128x128_0_0).toLoadRect
def mV : FVec F S128x128 .bf16 :=
  rd B.x7 (Rect.unit (s := S128x128) ![0, 0] S128x128.size inb_S128x128_S128x128_0_0).toLoadRect

/-- 256 rows of a key or value block at a row group's own rows. -/
def atD (x : S1x8192x128.Idx → F .bf16) (a : Fin 4) : FVec F S256x128 .bf16 :=
  shapeCast S256x128 (rd x (Rect.unit (s := S1x8192x128) (k0_off1 B.i (BitVec.ofNat 32 (256 * a.val))) S1x256x128.size (k0_off1_inb B.i a)).toLoadRect : S1x256x128.Idx → F .bf16) shapeCasts_S1x256x128_S256x128
/-- The 128 rows before a row group. -/
def atN (x : S1x8192x128.Idx → F .bf16) (a : Fin 4) : FVec F S128x128 .bf16 :=
  shapeCast S128x128 (rd x (Rect.unit (s := S1x8192x128) (k0_off2 B.i (BitVec.ofNat 32 (256 * a.val))) S1x128x128.size (k0_off2_inb B.i a)).toLoadRect : S1x128x128.Idx → F .bf16) shapeCasts_S1x128x128_S128x128
/-- The 256 rows one trip of the walk takes. -/
def atW (x : S1x8192x128.Idx → F .bf16) (j : BitVec 32) (hj : k0_chk1 B.i j) : FVec F S256x128 .bf16 :=
  shapeCast S256x128 (rd x (Rect.unit (s := S1x8192x128) (k0_off3 B.i j) S1x256x128.size (k0_off3_inb B.i j hj)).toLoadRect : S1x256x128.Idx → F .bf16) shapeCasts_S1x256x128_S256x128

/-! ## The block on the diagonal and the block before it -/

def zD (h : Fin 2) (a : Fin 4) : FVec F S256x256 .f32 :=
  select k0_pay42 (scW (sl (B.q h) a) (B.atD B.x4 a)) (broadcast S256x256 negInfC)
def csD (h : Fin 2) (a : Fin 4) : FVec F S256x256 .f32 := csW B.tri (B.zD h a)
def zero1 : FVec F S256x1 .f32 := broadcast S256x1 (Scalar.ofBits .f32 0x00000000#32)
def carD (h : Fin 2) (a : Fin 4) : FVec F S256x1 .f32 := carW (B.csD h a) zero1
def accD (h : Fin 2) (a : Fin 4) (old : FVec F S1x256x128 .f32) : FVec F S1x256x128 .f32 :=
  accW (B.zD h a) (B.csD h a) zero1 (B.atD B.x5 a) old

def zN (h : Fin 2) : Fin 4 → FVec F S256x128 .f32
  | 0 => select (k0_pay43 B.i) (scN (sl (B.q h) 0) (B.atN B.x4 0)) (broadcast S256x128 negInfC)
  | 1 => scN (sl (B.q h) 1) (B.atN B.x4 1)
  | 2 => scN (sl (B.q h) 2) (B.atN B.x4 2)
  | 3 => scN (sl (B.q h) 3) (B.atN B.x4 3)
def cs2 (h : Fin 2) (a : Fin 4) : FVec F S256x128 .f32 := csN B.tri' (B.zN h a)
def car2 (h : Fin 2) (a : Fin 4) : FVec F S256x1 .f32 := carN (B.cs2 h a) (B.carD h a)
def acc2 (h : Fin 2) (a : Fin 4) (old : FVec F S1x256x128 .f32) : FVec F S1x256x128 .f32 :=
  accN (B.zN h a) (B.cs2 h a) (B.carD h a) (B.atN B.x5 a) old

/-! ## The walk -/

/-- The smallest of the carried sums. -/
def lowAll (c : Car F) : F .f32 :=
  extractAt ![0, 0, 0] (shapeCast S1x1x1 (multiReduction .minimumf [1, 2] S1
    (shapeCast S1x256x1 (minimumf (minimumf (minimumf (minimumf (minimumf (minimumf (minimumf (c 0 0) (c 1 0)) (c 0 1)) (c 1 1)) (c 0 2)) (c 1 2)) (c 0 3)) (c 1 3)) shapeCasts_S256x1_S1x256x1)
    0x7F800000#32 reduces_S1x256x1_S1 (.inl rfl) rfl) shapeCasts_S1_S1x1x1) inpos_S1x1x1_p0_0_0

/-- A first group's carried sum, left out in the first tile. -/
def capped (c : FVec F S256x1 .f32) : FVec F S256x1 .f32 :=
  Scalar.select (Scalar.cmpi .sgt (BitVec.ofNat 32 (B.i 2).val) 0#32) c (broadcast S256x1 posInfC)

/-- The smallest of the carried sums with keys left to walk. -/
def lowWalk (c : Car F) : F .f32 :=
  extractAt ![0, 0, 0] (shapeCast S1x1x1 (multiReduction .minimumf [1, 2] S1
    (shapeCast S1x256x1 (minimumf (minimumf (minimumf (minimumf (minimumf (minimumf (minimumf (B.capped (c 0 0)) (B.capped (c 1 0))) (c 0 1)) (c 1 1)) (c 0 2)) (c 1 2)) (c 0 3)) (c 1 3)) shapeCasts_S256x1_S1x256x1)
    0x7F800000#32 reduces_S1x256x1_S1 (.inl rfl) rfl) shapeCasts_S1_S1x1x1) inpos_S1x1x1_p0_0_0

/-- What the walk carries. -/
structure St (F : FTy → Type) where
  lw : F .f32
  la : F .f32
  car : Car F
  acc : Acc F

/-- How many blocks the walk may take. -/
def nWalk : BitVec 32 := Scalar.subi (Scalar.addi (Scalar.muli (BitVec.ofNat 32 (B.i 2).val) 4#32) 4#32) 1#32

def maskW (j : BitVec 32) (a : Fin 4) : IVec S256x256 1 :=
  cmpi .slt (k0_pay174 (iota .tc S256x256 32 [1] iota_S256x256_d1_w32) j B.nWalk)
    (broadcast S256x256 (Scalar.subi (Scalar.addi (Scalar.muli (BitVec.ofNat 32 (B.i 2).val) 1024#32) (BitVec.ofNat 32 (256 * a.val))) 128#32))
def zW (j : BitVec 32) (hj : k0_chk1 B.i j) (h : Fin 2) (a : Fin 4) : FVec F S256x256 .f32 :=
  select (B.maskW j a) (scW (sl (B.q h) a) (B.atW B.x4 j hj)) (broadcast S256x256 negInfC)
def csWk (j : BitVec 32) (hj : k0_chk1 B.i j) (h : Fin 2) (a : Fin 4) : FVec F S256x256 .f32 := csW B.tri (B.zW j hj h a)
def carWk (j : BitVec 32) (hj : k0_chk1 B.i j) (c : Car F) : Car F := fun h a => carW (B.csWk j hj h a) (c h a)
def accWk (j : BitVec 32) (hj : k0_chk1 B.i j) (c : Car F) (h : Fin 2) (a : Fin 4) (old : FVec F S1x256x128 .f32) : FVec F S1x256x128 .f32 :=
  accW (B.zW j hj h a) (B.csWk j hj h a) (c h a) (B.atW B.x5 j hj) old

/-- One trip of the walk. -/
def step (j : BitVec 32) (hj : k0_chk1 B.i j) (s : St F) : St F where
  lw := B.lowWalk (B.carWk j hj s.car)
  la := lowAll (B.carWk j hj s.car)
  car := B.carWk j hj s.car
  acc := fun h a => B.accWk j hj s.car h a (s.acc h a)

/-- Whether the walk goes on. -/
def test (j : BitVec 32) (lw : F .f32) : BitVec 1 := Scalar.andi (Scalar.cmpi .slt j B.nWalk) (Scalar.cmpf .olt lw stopC)

open Classical in
/-- The walk from block `j` on, with at most `n` trips. -/
def walk : Nat → BitVec 32 → St F → St F
  | 0, _, s => s
  | n + 1, j, s => if B.test j s.lw = 1#1 then (if hj : k0_chk1 B.i j then walk n (Scalar.addi j 1#32) (B.step j hj s) else s) else s

/-! ## The meta keys and the output -/

def zM (h : Fin 2) (a : Fin 4) : FVec F S256x128 .f32 :=
  select k0_pay3 (scN (sl (B.q h) a) B.mK) (broadcast S256x128 negInfC)
def accM (c : Car F) (h : Fin 2) (a : Fin 4) (old : FVec F S1x256x128 .f32) : FVec F S1x256x128 .f32 :=
  accN (B.zM h a) (csN B.tri' (B.zM h a)) (c h a) B.mV old

def zeros : Acc F := fun _ _ => broadcast S1x256x128 (Scalar.ofBits .f32 0x00000000#32)

/-- Before the walk. -/
def start : St F where
  lw := B.lowWalk B.car2
  la := lowAll B.car2
  car := B.car2
  acc := fun h a => B.acc2 h a (B.accD h a (zeros h a))

/-- After the walk. -/
def final : St F := B.walk B.nWalk.toNat 0#32 B.start

/-- Whether the meta keys are taken. -/
def metaTest (la : F .f32) : BitVec 1 := Scalar.cmpi .ne (Scalar.extui (Scalar.cmpf .olt la stopC) : BitVec 32) 0#32

open Classical in
/-- The accumulators at the end. -/
def outAcc : Acc F :=
  if metaTest B.final.la = 1#1 then fun h a => B.accM B.final.car h a (B.final.acc h a) else B.final.acc

/-- The output block. -/
def out : S1x1024x128.Idx → F .bf16 :=
  k0_pay1 (k0_pay170 (iota .tc S1024x128 32 [1] iota_S1024x128_d1_w32))
    (k0_pay171 (rd (accBuf B.outAcc) (Rect.unit (s := S2x1024x128) ![0, 0, 0] S1x1024x128.size inb_S2x1024x128_S1x1024x128_0_0_0).toLoadRect))
    (rd (accBuf B.outAcc) (Rect.unit (s := S2x1024x128) ![1, 0, 0] S1x1024x128.size inb_S2x1024x128_S1x1024x128_1_0_0).toLoadRect)

end Blocks

/-- The buffer filled with zeros holds the zero accumulators. -/
theorem accBuf_zeros : accBuf (Blocks.zeros (F := F)) = k0_pay41 (F := F) := rfl

end Cert.KernelIdeal.SB

end
-- ==== Proof.SB.Math.lean ====
/-
  Stick-breaking attention over the reals, taken block by block from the right. The scores are to base two. `suf`
  is the sum of the softplus of the scores from a position to the row's end, `att` the weighted sum of the values
  over the same positions, and `tile_car`, `tile_acc` say what one block of keys does to the two.
-/
module

public import Idealize.ShloMosaic.PureOps.Ideal

@[expose] public section

noncomputable section

namespace Cert.SB

open Idealize.ShloMosaic
open scoped BigOperators

/-- One over the logarithm of two. -/
def lg : ℝ := (Real.log 2)⁻¹

/-- The softplus to base two. -/
def spR (x : ℝ) : ℝ := max x 0 + Real.log (1 + Real.rpow 2 (0 - max x (-x))) * lg

/-- The same on an extended real, as the kernel computes it. -/
def spE (x : EReal) : EReal := max x 0 + Ideal.log (1 + Ideal.exp2 (0 - max x (-x))) * ((lg : ℝ) : EReal)

theorem rpow_two_pos (x : ℝ) : 0 < Real.rpow 2 x := Real.rpow_pos_of_pos (by norm_num) x

theorem coe_max (a b : ℝ) : max (a : EReal) (b : EReal) = ((max a b : ℝ) : EReal) :=
  (Monotone.map_max (fun _ _ h => EReal.coe_le_coe_iff.mpr h)).symm

theorem exp2_coe (x : ℝ) : Ideal.exp2 (x : EReal) = ((Real.rpow 2 x : ℝ) : EReal) := rfl
theorem exp_coe (x : ℝ) : Ideal.exp (x : EReal) = ((Real.exp x : ℝ) : EReal) := rfl
theorem log_coe {x : ℝ} (h : 0 < x) : Ideal.log (x : EReal) = ((Real.log x : ℝ) : EReal) := by
  show (if x ≤ 0 then (⊥ : EReal) else _) = _
  rw [if_neg (not_le.mpr h)]

theorem spE_coe (x : ℝ) : spE (x : EReal) = ((spR x : ℝ) : EReal) := by
  have h : 0 < 1 + Real.rpow 2 (0 - max x (-x)) := by have := rpow_two_pos (0 - max x (-x)); linarith
  unfold spE spR
  rw [← EReal.coe_neg, coe_max, ← EReal.coe_zero, coe_max, ← EReal.coe_sub, exp2_coe, ← EReal.coe_one, ← EReal.coe_add, log_coe h,
    ← EReal.coe_mul, ← EReal.coe_add]

theorem spE_bot : spE ⊥ = 0 := by
  have h0 : (0 : EReal) - max ⊥ (-⊥) = ⊥ := by simp
  have h1 : Ideal.log (1 + Ideal.exp2 ⊥) = 0 := by
    show Ideal.log (1 + 0) = 0
    rw [add_zero, ← EReal.coe_one, log_coe one_pos, Real.log_one, EReal.coe_zero]
  unfold spE
  rw [h0, h1, zero_mul, add_zero]
  simp

/-- The sum of the softplus of the scores at positions `L ≤ s < T`. -/
def suf (z : ℕ → ℝ) (T L : ℕ) : ℝ := ∑ s ∈ Finset.Ico L T, spR (z s)

/-- The weight of a position in a row that ends at `T`. -/
def wgt (z : ℕ → ℝ) (T s : ℕ) : ℝ := Real.rpow 2 (z s - suf z T s)

/-- The weighted sum of the values at positions `L ≤ s < T`. -/
def att (z v : ℕ → ℝ) (T L : ℕ) : ℝ := ∑ s ∈ Finset.Ico L T, wgt z T s * v s

theorem suf_self (z : ℕ → ℝ) (T : ℕ) : suf z T T = 0 := by simp [suf]
theorem att_self (z v : ℕ → ℝ) (T : ℕ) : att z v T T = 0 := by simp [att]

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over a block of which only the first `n` positions count is a sum over an interval. -/
theorem sum_block {M : Type} [AddCommMonoid M] (W n lo base : ℕ) (hn : n ≤ W) (hlo : lo ≤ n) (f : ℕ → M) :
    (∑ k : Fin W, if lo ≤ k.val ∧ k.val < n then f (base + k.val) else 0) = ∑ s ∈ Finset.Ico (base + lo) (base + n), f s := by
  rw [Fin.sum_univ_eq_sum_range (fun k => if lo ≤ k ∧ k < n then f (base + k) else 0) W, ← Finset.sum_filter,
    Finset.sum_Ico_eq_sum_range]
  have : (Finset.range W).filter (fun k => lo ≤ k ∧ k < n) = Finset.Ico lo n := by
    ext k; simp only [Finset.mem_filter, Finset.mem_range, Finset.mem_Ico]; omega
  rw [this, Finset.sum_Ico_eq_sum_range]
  refine Finset.sum_congr (by congr 1; omega) fun k _ => by rw [Nat.add_assoc]

section Tile

variable (W n base T L0 L1 : ℕ) (hn : n ≤ W) (h : (n = 0 ∧ L1 = L0) ∨ (L0 = base + n ∧ L1 = base)) (hT : L0 ≤ T)
variable (z v : ℕ → ℝ) (zE vE : Fin W → EReal)
variable (hz : ∀ k : Fin W, zE k = if k.val < n then ((z (base + k.val) : ℝ) : EReal) else ⊥)
variable (hv : ∀ k : Fin W, k.val < n → vE k = ((v (base + k.val) : ℝ) : EReal))

/-- The sum from the right inside a block, a product with the triangle. -/
def csE {W : ℕ} (zE : Fin W → EReal) (k : Fin W) : EReal := ∑ j : Fin W, spE (zE j) * (if k ≤ j then 1 else 0)

include hn hz in
theorem csE_eq (k : Fin W) (hk : k.val ≤ n) :
    csE zE k = ((∑ s ∈ Finset.Ico (base + k.val) (base + n), spR (z s) : ℝ) : EReal) := by
  have e : ∀ j : Fin W, spE (zE j) * (if k ≤ j then 1 else 0)
      = (((if k.val ≤ j.val ∧ j.val < n then spR (z (base + j.val)) else 0) : ℝ) : EReal) := by
    intro j
    rw [hz]
    by_cases h1 : j.val < n
    · rw [if_pos h1, spE_coe]
      by_cases h2 : k ≤ j
      · rw [if_pos h2, if_pos ⟨h2, h1⟩, mul_one]
      · rw [if_neg h2, if_neg (fun h => h2 h.1), mul_zero, EReal.coe_zero]
    · rw [if_neg h1, spE_bot, zero_mul, if_neg (fun h => h1 h.2), EReal.coe_zero]
  unfold csE
  rw [Finset.sum_congr rfl fun j _ => e j, coe_sum, sum_block W n k.val base hn hk (fun s => spR (z s))]

include hn h hT hz in
/-- A block takes the carried sum from one position to the next. -/
theorem tile_car (hW : 0 < W) : csE zE ⟨0, hW⟩ + ((suf z T L0 : ℝ) : EReal) = ((suf z T L1 : ℝ) : EReal) := by
  rw [csE_eq W n base hn z zE hz ⟨0, hW⟩ (Nat.zero_le _), ← EReal.coe_add]
  congr 1
  unfold suf
  rcases h with ⟨rfl, rfl⟩ | ⟨rfl, rfl⟩
  · simp
  · exact Finset.sum_Ico_consecutive _ (by simp) hT

include hn h hT hz hv in
/-- A block takes the accumulated output from one position to the next. -/
theorem tile_acc : ((att z v T L0 : ℝ) : EReal) + ∑ k : Fin W, Ideal.exp2 (zE k - (csE zE k + ((suf z T L0 : ℝ) : EReal))) * vE k
    = ((att z v T L1 : ℝ) : EReal) := by
  have e : ∀ k : Fin W, Ideal.exp2 (zE k - (csE zE k + ((suf z T L0 : ℝ) : EReal))) * vE k
      = (((if 0 ≤ k.val ∧ k.val < n then wgt z T (base + k.val) * v (base + k.val) else 0) : ℝ) : EReal) := by
    intro k
    by_cases h1 : k.val < n
    · have hb : L0 = base + n := by
        rcases h with ⟨h0, _⟩ | ⟨h0, _⟩
        · omega
        · exact h0
      rw [csE_eq W n base hn z zE hz k h1.le, hz, if_pos h1, hv k h1, ← EReal.coe_add, ← EReal.coe_sub, exp2_coe, ← EReal.coe_mul,
        if_pos ⟨Nat.zero_le _, h1⟩]
      congr 2
      unfold wgt suf
      rw [hb, Finset.sum_Ico_consecutive _ (by omega) (by omega)]
    · rw [if_neg (fun h => h1 h.2), hz, if_neg h1, EReal.bot_sub]
      show (0 : EReal) * _ = _
      rw [zero_mul, EReal.coe_zero]
  rw [Finset.sum_congr rfl fun k _ => e k, coe_sum, sum_block W n 0 base hn (Nat.zero_le _) (fun s => wgt z T s * v s), ← EReal.coe_add]
  congr 1
  unfold att
  rcases h with ⟨rfl, rfl⟩ | ⟨rfl, rfl⟩
  · simp
  · rw [add_comm]; exact Finset.sum_Ico_consecutive _ (by simp) hT

end Tile

/-! ## To base e -/

/-- The softplus. -/
def spX (x : ℝ) : ℝ := max x 0 + Real.log (1 + Real.exp (-max x (-x)))

theorem log_two_pos : 0 < Real.log 2 := Real.log_pos (by norm_num)

theorem rpow_lg (x : ℝ) : Real.rpow 2 (x * lg) = Real.exp x := by
  show (2 : ℝ) ^ (x * lg) = _
  rw [Real.rpow_def_of_pos (by norm_num)]
  congr 1
  unfold lg
  have := log_two_pos.ne'
  field_simp

theorem lg_pos : 0 < lg := inv_pos.mpr log_two_pos

theorem spR_lg (x : ℝ) : spR (x * lg) = spX x * lg := by
  unfold spR spX
  have h1 : max (x * lg) 0 = max x 0 * lg := by rw [max_mul_of_nonneg _ _ lg_pos.le, zero_mul]
  have h2 : max (x * lg) (-(x * lg)) = max x (-x) * lg := by rw [max_mul_of_nonneg _ _ lg_pos.le, neg_mul]
  rw [h1, h2, zero_sub, ← neg_mul, rpow_lg]
  ring

/-- The softplus of `-x` is that of `x` less `x`. -/
theorem spX_neg (x : ℝ) : spX (-x) = spX x - x := by
  unfold spX
  rw [neg_neg, max_comm (-x) x]
  rcases le_total x 0 with h | h
  · rw [max_eq_left (by linarith : (0:ℝ) ≤ -x), max_eq_right h]; ring
  · rw [max_eq_right (by linarith : -x ≤ 0), max_eq_left h]; ring

/-- A weight to base e: the logarithm of the sigmoid, less the softplus of the positions after. -/
theorem wgt_lg (z : ℕ → ℝ) (T s : ℕ) (h : s < T) :
    wgt (fun s => z s * lg) T s = Real.exp (-spX (-z s) - ((∑ j ∈ Finset.Ico s T, spX (z j)) - spX (z s))) := by
  unfold wgt suf
  simp only [spR_lg]
  rw [← Finset.sum_mul, ← sub_mul, rpow_lg, spX_neg]
  congr 1; ring

end Cert.SB

end
-- ==== Proof.SB.KernelIdeal.Tiles.lean ====
/-
  The operations on one block of keys, read at an index over the extended reals: scores, softplus, the sum from the
  right, the carried sum and the accumulated output, and what a block of keys does to the last two.
-/
module

public import proofs.«01_k».proof.Proof.SB.KernelIdeal.Model
public import proofs.«01_k».proof.Proof.SB.Math
public import Idealize.ShloMosaic.Lib.MatmulPlain
public import Idealize.ShloMosaic.Lib.ValueIdx
public import Idealize.ShloMosaic.Lib.ValueIdxCoords
public import Idealize.ShloMosaic.Lib.IdealHost
public import Idealize.ShloMosaic.Lib.Pipeline.Value
public import Idealize.ShloMosaic.Lib.Pointwise.ShapeOpsCore

@[expose] public section

noncomputable section

namespace Cert.KernelIdeal.SB

open Cert.KernelIdeal Cert.KernelIdeal.Gen
open Idealize.ShloMosaic hiding ix0 ix1 ix2 ix3 ix4 ix5
open Idealize.ShloMosaic.ValueIdx
open Cert.SB
open scoped BigOperators

theorem log2eC_eq : (log2eC : Ideal .f32) = ((lg : ℝ) : EReal) := IdealRules.named_const.ideal_named_scalar _ _ _ _ rfl
theorem negInfC_eq : (negInfC : Ideal .f32) = (⊥ : EReal) := IdealRules.named_const.ideal_named_scalar _ _ _ _ rfl
theorem posInfC_eq : (posInfC : Ideal .f32) = (⊤ : EReal) := IdealRules.named_const.ideal_named_scalar _ _ _ _ rfl
theorem stopC_eq : (stopC : Ideal .f32) = (⊤ : EReal) := IdealRules.named_const.ideal_named_scalar _ _ _ _ rfl

theorem zeroC_eq : (Scalar.ofBits .f32 0x00000000#32 : Ideal .f32) = (0 : EReal) := Ideal.ofBits_zero_f32
theorem oneC_eq : (Scalar.ofBits .f32 0x3F800000#32 : Ideal .f32) = (1 : EReal) := Ideal.ofBits_one_f32

theorem sp_apply {s : Shape} (z : FVec Ideal s .f32) (j : s.Idx) : sp z j = spE (z j) := by
  show max (z j) (Scalar.ofBits .f32 0x00000000#32 : Ideal .f32) + Ideal.log ((Scalar.ofBits .f32 0x3F800000#32 : Ideal .f32)
    + Ideal.exp2 ((Scalar.ofBits .f32 0x00000000#32 : Ideal .f32) - max (z j) (-(z j)))) * (log2eC : Ideal .f32) = _
  rw [zeroC_eq, oneC_eq, log2eC_eq]
  rfl

theorem zacc_eq (s : Shape) (j : s.Idx) : (constant s .f32 0x00000000#32 : FVec Ideal s .f32) j = (0 : EReal) := zeroC_eq

theorem scW_apply (q k : FVec Ideal S256x128 .bf16) (r c : Fin 256) :
    scW q k (ix2 r c) = ∑ l : Fin 128, q (ix2 r l) * k (ix2 c l) := by
  refine (Ideal.matmul_transposedRhs_apply (M := 256) (K := 128) (N := 256) none q k _ r c).trans ?_
  rw [zacc_eq, zero_add]

theorem scN_apply (q : FVec Ideal S256x128 .bf16) (k : FVec Ideal S128x128 .bf16) (r : Fin 256) (c : Fin 128) :
    scN q k (ix2 r c) = ∑ l : Fin 128, q (ix2 r l) * k (ix2 c l) := by
  refine (Ideal.matmul_transposedRhs_apply (M := 256) (K := 128) (N := 128) none q k _ r c).trans ?_
  rw [zacc_eq, zero_add]

theorem csW_apply (tri : FVec Ideal S256x256 .bf16) (ht : ∀ j k : Fin 256, tri (ix2 j k) = if k ≤ j then (1 : EReal) else 0)
    (z : FVec Ideal S256x256 .f32) (r k : Fin 256) : csW tri z (ix2 r k) = csE (fun j => z (ix2 r j)) k := by
  refine (Ideal.matmul_plain_apply (M := 256) (K := 256) (N := 256) none (truncf .bf16 (sp z) bitsLt_bf16_f32) tri _ r k).trans ?_
  rw [zacc_eq, zero_add]
  unfold csE
  refine Finset.sum_congr rfl fun j _ => ?_
  rw [ht, truncf_apply, sp_apply]

theorem csN_apply (tri : FVec Ideal S128x128 .bf16) (ht : ∀ j k : Fin 128, tri (ix2 j k) = if k ≤ j then (1 : EReal) else 0)
    (z : FVec Ideal S256x128 .f32) (r : Fin 256) (k : Fin 128) : csN tri z (ix2 r k) = csE (fun j => z (ix2 r j)) k := by
  refine (Ideal.matmul_plain_apply (M := 256) (K := 128) (N := 128) none (truncf .bf16 (sp z) bitsLt_bf16_f32) tri _ r k).trans ?_
  rw [zacc_eq, zero_add]
  unfold csE
  refine Finset.sum_congr rfl fun j _ => ?_
  rw [ht, truncf_apply, sp_apply]

theorem slice0_W {α : Type} (x : S256x256.Idx → α) (h : S256x256.Slices ![0, 0] S256x1) (r : Fin 256) :
    extractStridedSlice S256x1 ![0, 0] x h (ix2 r 0) = x (ix2 r 0) := by
  rw [Pointwise.extractStridedSlice_apply]
  congr 1
  funext d
  match d with
  | ⟨0, _⟩ => exact Fin.ext (Nat.zero_add _)
  | ⟨1, _⟩ => rfl

theorem slice0_N {α : Type} (x : S256x128.Idx → α) (h : S256x128.Slices ![0, 0] S256x1) (r : Fin 256) :
    extractStridedSlice S256x1 ![0, 0] x h (ix2 r 0) = x (ix2 r 0) := by
  rw [Pointwise.extractStridedSlice_apply]
  congr 1
  funext d
  match d with
  | ⟨0, _⟩ => exact Fin.ext (Nat.zero_add _)
  | ⟨1, _⟩ => rfl

theorem bcast_W {α : Type} (x : S256x1.Idx → α) (h : S256x1.Broadcasts S256x256) (r k : Fin 256) :
    broadcastTo S256x256 x h (ix2 r k) = x (ix2 r 0) := by
  rw [Pointwise.broadcastTo_apply]
  congr 1
  funext d
  match d with
  | ⟨0, _⟩ => rfl
  | ⟨1, _⟩ => rfl

theorem bcast_N {α : Type} (x : S256x1.Idx → α) (h : S256x1.Broadcasts S256x128) (r : Fin 256) (k : Fin 128) :
    broadcastTo S256x128 x h (ix2 r k) = x (ix2 r 0) := by
  rw [Pointwise.broadcastTo_apply]
  congr 1
  funext d
  match d with
  | ⟨0, _⟩ => rfl
  | ⟨1, _⟩ => rfl

/-- Three coordinates whose first is the only one. -/
theorem drop3 {α : Type} {m n : ℕ} (v : (⟨3, ![1, m, n]⟩ : Shape).Idx → α) (h : (⟨3, ![1, m, n]⟩ : Shape).ShapeCasts ⟨2, ![m, n]⟩)
    (r : Fin m) (d : Fin n) : shapeCast ⟨2, ![m, n]⟩ v h (ix2 r d) = v (ix3 0 r d) := by
  refine (shapeCast_dropUnit_apply ![m, n] v h (ix2 r d)).trans ?_
  congr 1
  funext a
  match a with
  | ⟨0, _⟩ => rfl
  | ⟨1, _⟩ => rfl
  | ⟨2, _⟩ => rfl

theorem add3 {α : Type} {m n : ℕ} (v : (⟨2, ![m, n]⟩ : Shape).Idx → α) (h : (⟨2, ![m, n]⟩ : Shape).ShapeCasts ⟨3, ![1, m, n]⟩)
    (r : Fin m) (d : Fin n) : shapeCast ⟨3, ![1, m, n]⟩ v h (ix3 0 r d) = v (ix2 r d) := by
  refine (shapeCast_addUnit_apply ![m, n] v h (ix3 0 r d)).trans ?_
  congr 1
  funext a
  match a with
  | ⟨0, _⟩ => rfl
  | ⟨1, _⟩ => rfl

theorem accW_apply (z cs : FVec Ideal S256x256 .f32) (c : FVec Ideal S256x1 .f32) (v : FVec Ideal S256x128 .bf16)
    (old : FVec Ideal S1x256x128 .f32) (r : Fin 256) (d : Fin 128) :
    accW z cs c v old (ix3 0 r d) = (old (ix3 0 r d) : EReal)
      + ∑ k : Fin 256, Ideal.exp2 (z (ix2 r k) - (cs (ix2 r k) + c (ix2 r 0))) * v (ix2 k d) := by
  unfold accW
  refine (add3 (m := 256) (n := 128) _ _ r d).trans ?_
  rw [addf_apply]
  refine congrArg₂ (fun a b : EReal => a + b) (drop3 (m := 256) (n := 128) _ _ r d) ?_
  refine (Ideal.matmul_plain_apply (M := 256) (K := 256) (N := 128) none _ v _ r d).trans ?_
  rw [zacc_eq, zero_add]
  refine Finset.sum_congr rfl fun k _ => ?_
  rw [truncf_apply]
  show Ideal.exp2 (z (ix2 r k) - (cs (ix2 r k) + broadcastTo S256x256 c broadcasts_S256x1_S256x256 (ix2 r k))) * _ = _
  rw [bcast_W]

theorem accN_apply (z cs : FVec Ideal S256x128 .f32) (c : FVec Ideal S256x1 .f32) (v : FVec Ideal S128x128 .bf16)
    (old : FVec Ideal S1x256x128 .f32) (r : Fin 256) (d : Fin 128) :
    accN z cs c v old (ix3 0 r d) = (old (ix3 0 r d) : EReal)
      + ∑ k : Fin 128, Ideal.exp2 (z (ix2 r k) - (cs (ix2 r k) + c (ix2 r 0))) * v (ix2 k d) := by
  unfold accN
  refine (add3 (m := 256) (n := 128) _ _ r d).trans ?_
  rw [addf_apply]
  refine congrArg₂ (fun a b : EReal => a + b) (drop3 (m := 256) (n := 128) _ _ r d) ?_
  refine (Ideal.matmul_plain_apply (M := 256) (K := 128) (N := 128) none _ v _ r d).trans ?_
  rw [zacc_eq, zero_add]
  refine Finset.sum_congr rfl fun k _ => ?_
  rw [truncf_apply]
  show Ideal.exp2 (z (ix2 r k) - (cs (ix2 r k) + broadcastTo S256x128 c broadcasts_S256x1_S256x128 (ix2 r k))) * _ = _
  rw [bcast_N]

/-! ## A block of keys against one row -/

section Row

variable (T L0 L1 base n : ℕ) (zR vR : ℕ → ℝ) (r : Fin 256) (d : Fin 128)
variable (h : (n = 0 ∧ L1 = L0) ∨ (L0 = base + n ∧ L1 = base)) (hT : L0 ≤ T)

section W
variable (tri : FVec Ideal S256x256 .bf16) (ht : ∀ j k : Fin 256, tri (ix2 j k) = if k ≤ j then (1 : EReal) else 0)
variable (z : FVec Ideal S256x256 .f32) (c : FVec Ideal S256x1 .f32) (v : FVec Ideal S256x128 .bf16) (old : FVec Ideal S1x256x128 .f32)
variable (hn : n ≤ 256) (hz : ∀ k : Fin 256, z (ix2 r k) = if k.val < n then ((zR (base + k.val) : ℝ) : EReal) else ⊥)
variable (hc : c (ix2 r 0) = ((suf zR T L0 : ℝ) : EReal))

include h hT ht hn hz hc in
theorem rowW_car : carW (csW tri z) c (ix2 r 0) = ((suf zR T L1 : ℝ) : EReal) := by
  unfold carW
  rw [addf_apply, slice0_W, csW_apply tri ht, hc]
  exact tile_car 256 n base T L0 L1 hn h hT zR (fun j => z (ix2 r j)) hz (by decide)

include h hT ht hn hz hc in
theorem rowW_acc (hv : ∀ k : Fin 256, k.val < n → v (ix2 k d) = ((vR (base + k.val) : ℝ) : EReal))
    (ho : old (ix3 0 r d) = ((att zR vR T L0 : ℝ) : EReal)) :
    accW z (csW tri z) c v old (ix3 0 r d) = ((att zR vR T L1 : ℝ) : EReal) := by
  rw [accW_apply, ho]
  simp only [csW_apply tri ht, hc]
  exact tile_acc 256 n base T L0 L1 hn h hT zR vR (fun j => z (ix2 r j)) (fun k => v (ix2 k d)) hz hv
end W

section N
variable (tri : FVec Ideal S128x128 .bf16) (ht : ∀ j k : Fin 128, tri (ix2 j k) = if k ≤ j then (1 : EReal) else 0)
variable (z : FVec Ideal S256x128 .f32) (c : FVec Ideal S256x1 .f32) (v : FVec Ideal S128x128 .bf16) (old : FVec Ideal S1x256x128 .f32)
variable (hn : n ≤ 128) (hz : ∀ k : Fin 128, z (ix2 r k) = if k.val < n then ((zR (base + k.val) : ℝ) : EReal) else ⊥)
variable (hc : c (ix2 r 0) = ((suf zR T L0 : ℝ) : EReal))

include h hT ht hn hz hc in
theorem rowN_car : carN (csN tri z) c (ix2 r 0) = ((suf zR T L1 : ℝ) : EReal) := by
  unfold carN
  rw [addf_apply, slice0_N, csN_apply tri ht, hc]
  exact tile_car 128 n base T L0 L1 hn h hT zR (fun j => z (ix2 r j)) hz (by decide)

include h hT ht hn hz hc in
theorem rowN_acc (hv : ∀ k : Fin 128, k.val < n → v (ix2 k d) = ((vR (base + k.val) : ℝ) : EReal))
    (ho : old (ix3 0 r d) = ((att zR vR T L0 : ℝ) : EReal)) :
    accN z (csN tri z) c v old (ix3 0 r d) = ((att zR vR T L1 : ℝ) : EReal) := by
  rw [accN_apply, ho]
  simp only [csN_apply tri ht, hc]
  exact tile_acc 128 n base T L0 L1 hn h hT zR vR (fun j => z (ix2 r j)) (fun k => v (ix2 k d)) hz hv
end N

end Row

end Cert.KernelIdeal.SB

end
-- ==== Proof.SB.KernelIdeal.Parts.lean ====
/-
  The pieces of one grid step's program, each run on its own: from the blocks it reads and the accumulators as they
  are, it goes on with the values of the model and the accumulators as the model leaves them.
-/
module

public import proofs.«01_k».proof.Proof.SB.KernelIdeal.Model
public import proofs.«01_k».proof.Proof.Gen.KernelIdeal.Launch

@[expose] public section

noncomputable section

namespace Cert.KernelIdeal.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SB (rd ld st)
open Blocks

variable {F : FTy → Type} [FloatOps F] [Named F]

local notation "𝕄" => MT nD τ sig Unit (Elt F) ℕ (UR sig nD τ) ℕ

variable (𝒱 : Variants) (c : Dev nD) (bd : Option 𝒱.V) (E : Set ℕ)

section Acc
variable {α : Type} {Q : α → sProp (MT nD τ sig Unit (Elt F) ℕ (UR sig nD τ) ℕ)}

/-- A load of one accumulator. -/
theorem ldA (A : Acc F) (h : Fin 2) (a : Fin 4) {m : Memref sig .tc .vmem S2x1024x128 .f32} {hl : m.view.LoadsAt (gRect h a).toLoadRect}
    {k : ((gRect h a).shape.Idx → Elt F .f32) → Prog (TpuEff nD τ sig (Elt F) (Λ₀ F) .tc) α} :
    (owns (c : Thread nD τ) m fullShare (accBuf A) : sProp 𝕄)
      ⊢ iprop((owns (c : Thread nD τ) m fullShare (accBuf A) -∗ wp frame (wpE (defs₀ (F := F)) 𝒱 (c : Thread nD τ) bd) E (k (A h a)) Q)
        -∗ wp frame (wpE (defs₀ (F := F)) 𝒱 (c : Thread nD τ) bd) E (.op (.load m (gRect h a).toLoadRect hl : TpuEff nD τ sig (Elt F) (Λ₀ F) .tc ((gRect h a).shape.Idx → Elt F .f32)) k : Prog (TpuEff nD τ sig (Elt F) (Λ₀ F) .tc) α) Q) := by
  have := ld (Q := Q) (defs := defs₀ (F := F)) 𝒱 (c : Thread nD τ) bd E (m := m) (r := (gRect h a).toLoadRect) (hl := hl) (k := k) (q := fullShare) (X := accBuf A)
    (Γ := .empty)
  rw [rd_accBuf] at this
  exact this

/-- A store of one accumulator. -/
theorem stA (A : Acc F) (h : Fin 2) (a : Fin 4) {m : Memref sig .tc .vmem S2x1024x128 .f32} {w : S1x256x128.Idx → F .f32}
    {hx : (m.access (gRect h a)).Stores Finset.univ} {hm : Finset.univ = Finset.univ ∨ ∀ x, (gRect h a).stride x = 1}
    {k : PUnit → Prog (TpuEff nD τ sig (Elt F) (Λ₀ F) .tc) α} :
    (owns (c : Thread nD τ) m fullShare (accBuf A) : sProp 𝕄)
      ⊢ iprop((owns (c : Thread nD τ) m fullShare (accBuf (upd A h a w)) -∗ wp frame (wpE (defs₀ (F := F)) 𝒱 (c : Thread nD τ) bd) E (k ⟨⟩) Q)
        -∗ wp frame (wpE (defs₀ (F := F)) 𝒱 (c : Thread nD τ) bd) E (.op (.store m (gRect h a) w Finset.univ hx hm) k) Q) := by
  have := st (Q := Q) (defs := defs₀ (F := F)) 𝒱 (c : Thread nD τ) bd E (m := m) (r := gRect h a) (w := w) (hx := hx) (hm := hm) (k := k) (X := accBuf A)
    (Γ := .empty)
  rw [overlay_accBuf] at this
  exact this

/-- A store's value may be written any way equal to it. -/
theorem store_eq {cs : CoreSpace} {sh : Shape} {e : EltTy} {m : Memref sig .tc cs sh e} {r : Rect sh} {w w' : r.shape.Idx → Elt F e}
    {hx : (m.access r).Stores Finset.univ} {hm : Finset.univ = Finset.univ ∨ ∀ a, r.stride a = 1}
    {k : PUnit → Prog (TpuEff nD τ sig (Elt F) (Λ₀ F) .tc) α} (h : w = w') :
    (.op (.store m r w Finset.univ hx hm) k : Prog (TpuEff nD τ sig (Elt F) (Λ₀ F) .tc) α) = .op (.store m r w' Finset.univ hx hm) k := by
  subst h; rfl

/-- A program that returns, its value written any way equal to it. -/
theorem ret_eq {x y : α} (h : x = y) : (.ret x : Prog (TpuEff nD τ sig (Elt F) (Λ₀ F) .tc) α) = .ret y := by
  subst h; rfl

end Acc

theorem k0_pay215_eq (c : FVec F S256x1 .f32) (v : FVec F S256x128 .bf16) (z cs : FVec F S256x256 .f32) (old : FVec F S1x256x128 .f32) :
    k0_pay215 (k0_pay214 c v z cs old) = accW z cs c v old := rfl
theorem k0_pay219_eq (c : FVec F S256x1 .f32) (v : FVec F S256x128 .bf16) (z cs : FVec F S256x256 .f32) (old : FVec F S1x256x128 .f32) :
    k0_pay219 (k0_pay218 c v z cs old) = accW z cs c v old := rfl
theorem k0_pay2_eq (c : FVec F S256x1 .f32) (v : FVec F S256x128 .bf16) (z cs : FVec F S256x256 .f32) (old : FVec F S1x256x128 .f32) :
    k0_pay2 (k0_pay222 c v z cs old) = accW z cs c v old := rfl
theorem k0_pay169_eq (c : FVec F S256x1 .f32) (v : FVec F S128x128 .bf16) (z cs : FVec F S256x128 .f32) (old : FVec F S1x256x128 .f32) :
    k0_pay169 (k0_pay35 c v z cs old) = accN z cs c v old := rfl

/-- Storing zeros over the whole buffer leaves the zero accumulators. -/
theorem overlay_zeros (X : S2x1024x128.Idx → F .f32) :
    (Rect.unit (s := S2x1024x128) ![0, 0, 0] S2x1024x128.size inb_S2x1024x128_S2x1024x128_0_0_0).overlay X (k0_pay41 (F := F)) = accBuf (Blocks.zeros (F := F)) := by
  funext j
  have hj : j = (Rect.unit (s := S2x1024x128) ![0, 0, 0] S2x1024x128.size inb_S2x1024x128_S2x1024x128_0_0_0).emb j := by
    funext d
    match d with
    | ⟨0, _⟩ => exact Fin.ext (by show (j 0).val = 0 + 1 * (j 0).val; omega)
    | ⟨1, _⟩ => exact Fin.ext (by show (j 1).val = 0 + 1 * (j 1).val; omega)
    | ⟨2, _⟩ => exact Fin.ext (by show (j 2).val = 0 + 1 * (j 2).val; omega)
  conv_lhs => rw [hj]
  rw [Rect.overlay_emb]
  rfl

variable (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S256x256 .bf16) (harg8 : arg8.IsWhole) (arg9 : Memref sig .tc .vmem S1x1024x128 .bf16) (harg9 : arg9.IsWhole) (arg10 : Memref sig .tc .vmem S2x1024x128 .f32) (harg10 : arg10.IsWhole)

theorem k0_part8_run (B : Blocks F) (X : S2x1024x128.Idx → F .f32) (K : _ → sProp 𝕄) :
    iprop(owns (c : Thread nD τ) arg3 fullShare B.x3 ∗ owns (c : Thread nD τ) arg4 fullShare B.x4 ∗ owns (c : Thread nD τ) arg8 fullShare B.x8 ∗ owns (c : Thread nD τ) arg10 fullShare X ∗ (iprop(owns (c : Thread nD τ) arg3 fullShare B.x3 ∗ owns (c : Thread nD τ) arg4 fullShare B.x4 ∗ owns (c : Thread nD τ) arg8 fullShare B.x8 ∗ owns (c : Thread nD τ) arg10 fullShare (accBuf Blocks.zeros)) -∗ K ⟨((BitVec.ofNat 32 (B.i 2).val)), (iota .tc S1024x128 32 [1] iota_S1024x128_d1_w32), (B.q 0), (B.q 1), B.tri, (iota .tc S256x256 32 [1] iota_S256x256_d1_w32), k0_pay42, ((Scalar.muli (BitVec.ofNat 32 (B.i 2).val) 1024#32)), (k0_pay43 B.i), B.tri', (B.atD B.x4 0), (((Scalar.addi (Scalar.muli (BitVec.ofNat 32 (B.i 2).val) 1024#32) 0#32)))⟩))
      ⊢ wp frame (wpE (defs₀ (F := F)) 𝒱 (c : Thread nD τ) bd) E
        (k0_part8 B.i arg3 harg3 arg4 harg4 arg5 harg5 arg6 harg6 arg7 harg7 arg8 harg8 arg9 harg9 arg10 harg10 ) K := by
  rw [k0_part8_eq_skeleton]; unfold k0_part8_skel
  simp only [Prog.lift, Prog.bind_op, Prog.bind_ret, Prog.pure_eq_ret]
  iintro ⟨H3, H4, H8, H10, Hk⟩
  iapply (ld 𝒱 (c : Thread nD τ) bd E) $$ H3; iintro H3
  iapply (ld 𝒱 (c : Thread nD τ) bd E) $$ H8; iintro H8
  iapply (ld 𝒱 (c : Thread nD τ) bd E) $$ H10; iintro H10
  iapply (st 𝒱 (c : Thread nD τ) bd E) $$ H10; iintro H10
  rw [overlay_zeros]
  iapply (ld 𝒱 (c : Thread nD τ) bd E) $$ H8; iintro H8
  iapply (ld 𝒱 (c : Thread nD τ) bd E) $$ H4; iintro H4
  rw [ret_eq (F := F) (y := (⟨((BitVec.ofNat 32 (B.i 2).val)), (iota .tc S1024x128 32 [1] iota_S1024x128_d1_w32), (B.q 0), (B.q 1), B.tri, (iota .tc S256x256 32 [1] iota_S256x256_d1_w32), k0_pay42, ((Scalar.muli (BitVec.ofNat 32 (B.i 2).val) 1024#32)), (k0_pay43 B.i), B.tri', (B.atD B.x4 0), (((Scalar.addi (Scalar.muli (BitVec.ofNat 32 (B.i 2).val) 1024#32) 0#32)))⟩ : (Σ' (arg2 : BitVec 32) (v0 : IVec S1024x128 32) (v10 : FVec F S1024x128 .bf16) (v13 : FVec F S1024x128 .bf16) (v15 : FVec F S256x256 .bf16) (v21 : IVec S256x256 32) (v22 : IVec S256x256 1) (v23 : BitVec 32) (v25 : IVec S256x128 1) (v27 : FVec F S128x128 .bf16) (v32 : FVec F S256x128 .bf16), BitVec 32))) (by exact rfl), wp_ret]; imodintro
  iapply Hk
  isplitl [H3]; · iexact H3
  isplitl [H4]; · iexact H4
  isplitl [H8]; · iexact H8
  iexact H10

theorem k0_part9_run (B : Blocks F) (K : _ → sProp 𝕄) :
    iprop(owns (c : Thread nD τ) arg4 fullShare B.x4 ∗ owns (c : Thread nD τ) arg5 fullShare B.x5 ∗ (iprop(owns (c : Thread nD τ) arg4 fullShare B.x4 ∗ owns (c : Thread nD τ) arg5 fullShare B.x5) -∗ K ⟨(B.atD B.x5 0), (B.atD B.x4 0), (B.atD B.x5 0), (B.atD B.x4 1), (B.atD B.x5 1), (B.atD B.x4 1), (B.atD B.x5 1), ((rd B.x4 (Rect.unit (s := S1x8192x128) (k0_off1 B.i 512#32) S1x256x128.size (k0_off1_inb B.i 2)).toLoadRect))⟩))
      ⊢ wp frame (wpE (defs₀ (F := F)) 𝒱 (c : Thread nD τ) bd) E
        (k0_part9 B.i arg3 harg3 arg4 harg4 arg5 harg5 arg6 harg6 arg7 harg7 arg8 harg8 arg9 harg9 arg10 harg10 ((Scalar.muli (BitVec.ofNat 32 (B.i 2).val) 1024#32)) (((Scalar.addi (Scalar.muli (BitVec.ofNat 32 (B.i 2).val) 1024#32) 0#32)))) K := by
  rw [k0_part9_eq_skeleton]; unfold k0_part9_skel
  simp only [Prog.lift, Prog.bind_op, Prog.bind_ret, Prog.pure_eq_ret]
  iintro ⟨H4, H5, Hk⟩
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  rw [ret_eq (F := F) (y := (⟨(B.atD B.x5 0), (B.atD B.x4 0), (B.atD B.x5 0), (B.atD B.x4 1), (B.atD B.x5 1), (B.atD B.x4 1), (B.atD B.x5 1), ((rd B.x4 (Rect.unit (s := S1x8192x128) (k0_off1 B.i 512#32) S1x256x128.size (k0_off1_inb B.i 2)).toLoadRect))⟩ : (Σ' (v37 : FVec F S256x128 .bf16) (v42 : FVec F S256x128 .bf16) (v47 : FVec F S256x128 .bf16) (v52 : FVec F S256x128 .bf16) (v57 : FVec F S256x128 .bf16) (v62 : FVec F S256x128 .bf16) (v67 : FVec F S256x128 .bf16), Vec F S1x256x128 .bf16))) (by exact rfl), wp_ret]; imodintro
  iapply Hk
  isplitl [H4]; · iexact H4
  iexact H5

theorem k0_part10_run (B : Blocks F) (K : _ → sProp 𝕄) :
    iprop(owns (c : Thread nD τ) arg4 fullShare B.x4 ∗ owns (c : Thread nD τ) arg5 fullShare B.x5 ∗ (iprop(owns (c : Thread nD τ) arg4 fullShare B.x4 ∗ owns (c : Thread nD τ) arg5 fullShare B.x5) -∗ K ⟨(B.atD B.x4 2), (B.atD B.x5 2), (B.atD B.x4 2), (B.atD B.x5 2), (B.atD B.x4 3), (B.atD B.x5 3), (B.atD B.x4 3), (B.atD B.x5 3), ((Scalar.addi ((Scalar.muli (BitVec.ofNat 32 (B.i 2).val) 1024#32)) 0#32)), 128#32⟩))
      ⊢ wp frame (wpE (defs₀ (F := F)) 𝒱 (c : Thread nD τ) bd) E
        (k0_part10 B.i arg3 harg3 arg4 harg4 arg5 harg5 arg6 harg6 arg7 harg7 arg8 harg8 arg9 harg9 arg10 harg10 ((Scalar.muli (BitVec.ofNat 32 (B.i 2).val) 1024#32)) ((rd B.x4 (Rect.unit (s := S1x8192x128) (k0_off1 B.i 512#32) S1x256x128.size (k0_off1_inb B.i 2)).toLoadRect))) K := by
  rw [k0_part10_eq_skeleton]; unfold k0_part10_skel
  simp only [Prog.lift, Prog.bind_op, Prog.bind_ret, Prog.pure_eq_ret]
  iintro ⟨H4, H5, Hk⟩
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  rw [ret_eq (F := F) (y := (⟨(B.atD B.x4 2), (B.atD B.x5 2), (B.atD B.x4 2), (B.atD B.x5 2), (B.atD B.x4 3), (B.atD B.x5 3), (B.atD B.x4 3), (B.atD B.x5 3), ((Scalar.addi ((Scalar.muli (BitVec.ofNat 32 (B.i 2).val) 1024#32)) 0#32)), 128#32⟩ : (Σ' (v72 : FVec F S256x128 .bf16) (v77 : FVec F S256x128 .bf16) (v82 : FVec F S256x128 .bf16) (v87 : FVec F S256x128 .bf16) (v92 : FVec F S256x128 .bf16) (v97 : FVec F S256x128 .bf16) (v102 : FVec F S256x128 .bf16) (v107 : FVec F S256x128 .bf16) (v108 : BitVec 32), BitVec 32))) (by exact rfl), wp_ret]; imodintro
  iapply Hk
  isplitl [H4]; · iexact H4
  iexact H5

theorem k0_part11_run (B : Blocks F) (K : _ → sProp 𝕄) :
    iprop(owns (c : Thread nD τ) arg4 fullShare B.x4 ∗ owns (c : Thread nD τ) arg5 fullShare B.x5 ∗ (iprop(owns (c : Thread nD τ) arg4 fullShare B.x4 ∗ owns (c : Thread nD τ) arg5 fullShare B.x5) -∗ K ⟨(B.atN B.x4 0), (B.atN B.x5 0), (B.atN B.x4 0), (B.atN B.x5 0), (B.atN B.x4 1), (B.atN B.x5 1), (((Scalar.maxsi (Scalar.subi (Scalar.addi ((Scalar.muli (BitVec.ofNat 32 (B.i 2).val) 1024#32)) 256#32) 128#32) 0#32))), (B.atN B.x4 1)⟩))
      ⊢ wp frame (wpE (defs₀ (F := F)) 𝒱 (c : Thread nD τ) bd) E
        (k0_part11 B.i arg3 harg3 arg4 harg4 arg5 harg5 arg6 harg6 arg7 harg7 arg8 harg8 arg9 harg9 arg10 harg10 ((Scalar.muli (BitVec.ofNat 32 (B.i 2).val) 1024#32)) ((Scalar.addi ((Scalar.muli (BitVec.ofNat 32 (B.i 2).val) 1024#32)) 0#32)) 128#32) K := by
  rw [k0_part11_eq_skeleton]; unfold k0_part11_skel
  simp only [Prog.lift, Prog.bind_op, Prog.bind_ret, Prog.pure_eq_ret]
  iintro ⟨H4, H5, Hk⟩
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  rw [ret_eq (F := F) (y := (⟨(B.atN B.x4 0), (B.atN B.x5 0), (B.atN B.x4 0), (B.atN B.x5 0), (B.atN B.x4 1), (B.atN B.x5 1), (((Scalar.maxsi (Scalar.subi (Scalar.addi ((Scalar.muli (BitVec.ofNat 32 (B.i 2).val) 1024#32)) 256#32) 128#32) 0#32))), (B.atN B.x4 1)⟩ : (Σ' (v114 : FVec F S128x128 .bf16) (v117 : FVec F S128x128 .bf16) (v124 : FVec F S128x128 .bf16) (v127 : FVec F S128x128 .bf16) (v134 : FVec F S128x128 .bf16) (v137 : FVec F S128x128 .bf16) (v141 : BitVec 32), FVec F S128x128 .bf16))) (by exact rfl), wp_ret]; imodintro
  iapply Hk
  isplitl [H4]; · iexact H4
  iexact H5

theorem k0_part12_run (B : Blocks F) (K : _ → sProp 𝕄) :
    iprop(owns (c : Thread nD τ) arg4 fullShare B.x4 ∗ owns (c : Thread nD τ) arg5 fullShare B.x5 ∗ (iprop(owns (c : Thread nD τ) arg4 fullShare B.x4 ∗ owns (c : Thread nD τ) arg5 fullShare B.x5) -∗ K ⟨(B.atN B.x5 1), (B.atN B.x4 2), (B.atN B.x5 2), (B.atN B.x4 2), (B.atN B.x5 2), (B.atN B.x4 3), (B.atN B.x5 3), ((Scalar.subi (Scalar.addi ((Scalar.muli (BitVec.ofNat 32 (B.i 2).val) 1024#32)) 768#32) 128#32))⟩))
      ⊢ wp frame (wpE (defs₀ (F := F)) 𝒱 (c : Thread nD τ) bd) E
        (k0_part12 B.i arg3 harg3 arg4 harg4 arg5 harg5 arg6 harg6 arg7 harg7 arg8 harg8 arg9 harg9 arg10 harg10 ((Scalar.muli (BitVec.ofNat 32 (B.i 2).val) 1024#32)) (((Scalar.maxsi (Scalar.subi (Scalar.addi ((Scalar.muli (BitVec.ofNat 32 (B.i 2).val) 1024#32)) 256#32) 128#32) 0#32)))) K := by
  rw [k0_part12_eq_skeleton]; unfold k0_part12_skel
  simp only [Prog.lift, Prog.bind_op, Prog.bind_ret, Prog.pure_eq_ret]
  iintro ⟨H4, H5, Hk⟩
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  iapply (ld 𝒱 (c : Thread nD τ) bd E) $$ H4; iintro H4
  iapply (ld 𝒱 (c : Thread nD τ) bd E) $$ H5; iintro H5
  rw [ret_eq (F := F) (y := (⟨(B.atN B.x5 1), (B.atN B.x4 2), (B.atN B.x5 2), (B.atN B.x4 2), (B.atN B.x5 2), (B.atN B.x4 3), (B.atN B.x5 3), ((Scalar.subi (Scalar.addi ((Scalar.muli (BitVec.ofNat 32 (B.i 2).val) 1024#32)) 768#32) 128#32))⟩ : (Σ' (v147 : FVec F S128x128 .bf16) (v154 : FVec F S128x128 .bf16) (v157 : FVec F S128x128 .bf16) (v164 : FVec F S128x128 .bf16) (v167 : FVec F S128x128 .bf16) (v174 : FVec F S128x128 .bf16) (v177 : FVec F S128x128 .bf16), BitVec 32))) (by exact rfl), wp_ret]; imodintro
  iapply Hk
  isplitl [H4]; · iexact H4
  iexact H5

theorem k0_part13_run (B : Blocks F) (K : _ → sProp 𝕄) :
    iprop(owns (c : Thread nD τ) arg4 fullShare B.x4 ∗ owns (c : Thread nD τ) arg5 fullShare B.x5 ∗ (iprop(owns (c : Thread nD τ) arg4 fullShare B.x4 ∗ owns (c : Thread nD τ) arg5 fullShare B.x5) -∗ K ⟨(B.atN B.x4 3), (B.atN B.x5 3), zero1, zero1, zero1, zero1, zero1, zero1, zero1, zero1, (B.zD 0 0), (B.csD 0 0), (B.carD 0 0), (k0_pay88 (B.q 1) (B.atD B.x4 0)), negInfC⟩))
      ⊢ wp frame (wpE (defs₀ (F := F)) 𝒱 (c : Thread nD τ) bd) E
        (k0_part13 B.i arg3 harg3 arg4 harg4 arg5 harg5 arg6 harg6 arg7 harg7 arg8 harg8 arg9 harg9 arg10 harg10 (B.q 0) (B.q 1) B.tri k0_pay42 (B.atD B.x4 0) (B.atD B.x4 0) ((Scalar.subi (Scalar.addi ((Scalar.muli (BitVec.ofNat 32 (B.i 2).val) 1024#32)) 768#32) 128#32))) K := by
  rw [k0_part13_eq_skeleton]; unfold k0_part13_skel
  simp only [Prog.lift, Prog.bind_op, Prog.bind_ret, Prog.pure_eq_ret]
  iintro ⟨H4, H5, Hk⟩
  iapply (ld 𝒱 (c : Thread nD τ) bd E) $$ H4; iintro H4
  iapply (ld 𝒱 (c : Thread nD τ) bd E) $$ H5; iintro H5
  rw [ret_eq (F := F) (y := (⟨(B.atN B.x4 3), (B.atN B.x5 3), zero1, zero1, zero1, zero1, zero1, zero1, zero1, zero1, (B.zD 0 0), (B.csD 0 0), (B.carD 0 0), (k0_pay88 (B.q 1) (B.atD B.x4 0)), negInfC⟩ : (Σ' (v184 : FVec F S128x128 .bf16) (v187 : FVec F S128x128 .bf16) (v188 : FVec F S256x1 .f32) (v189 : FVec F S256x1 .f32) (v190 : FVec F S256x1 .f32) (v191 : FVec F S256x1 .f32) (v192 : FVec F S256x1 .f32) (v193 : FVec F S256x1 .f32) (v194 : FVec F S256x1 .f32) (v195 : FVec F S256x1 .f32) (v199 : FVec F S256x256 .f32) (v213 : FVec F S256x256 .f32) (v215 : FVec F S256x1 .f32) (v217 : FVec F S256x256 .f32), F .f32))) (by exact rfl), wp_ret]; imodintro
  iapply Hk
  isplitl [H4]; · iexact H4
  iexact H5

theorem k0_part14_run (B : Blocks F) (K : _ → sProp 𝕄) :
    K ⟨(B.zD 1 0), (B.csD 1 0), (B.carD 1 0), (B.zD 0 1), (B.csD 0 1), (B.carD 0 1), (B.zD 1 1), (k0_pay96 (B.q 1) k0_pay42 (B.atD B.x4 1)), (k0_pay97 (B.q 1) k0_pay42 (B.atD B.x4 1))⟩
      ⊢ wp frame (wpE (defs₀ (F := F)) 𝒱 (c : Thread nD τ) bd) E
        (k0_part14 B.i arg3 harg3 arg4 harg4 arg5 harg5 arg6 harg6 arg7 harg7 arg8 harg8 arg9 harg9 arg10 harg10 (B.q 0) (B.q 1) B.tri k0_pay42 (B.atD B.x4 1) (B.atD B.x4 1) zero1 zero1 (k0_pay88 (B.q 1) (B.atD B.x4 0)) negInfC) K := by
  rw [k0_part14_eq_skeleton]; unfold k0_part14_skel
  simp only [Prog.lift, Prog.bind_op, Prog.bind_ret, Prog.pure_eq_ret]
  rw [ret_eq (F := F) (y := (⟨(B.zD 1 0), (B.csD 1 0), (B.carD 1 0), (B.zD 0 1), (B.csD 0 1), (B.carD 0 1), (B.zD 1 1), (k0_pay96 (B.q 1) k0_pay42 (B.atD B.x4 1)), (k0_pay97 (B.q 1) k0_pay42 (B.atD B.x4 1))⟩ : (Σ' (v219 : FVec F S256x256 .f32) (v233 : FVec F S256x256 .f32) (v235 : FVec F S256x1 .f32) (v239 : FVec F S256x256 .f32) (v253 : FVec F S256x256 .f32) (v255 : FVec F S256x1 .f32) (v259 : FVec F S256x256 .f32) (v261 : FVec F S256x256 .f32), FVec F S256x256 .f32))) (by exact rfl), wp_ret]
  iintro H; imodintro; iexact H

theorem k0_part15_run (B : Blocks F) (K : _ → sProp 𝕄) :
    K ⟨(B.csD 1 1), (B.carD 1 1), (B.zD 0 2), (B.csD 0 2), (B.carD 0 2), (B.zD 1 2), (k0_pay104 (B.q 1) k0_pay42 (B.atD B.x4 2)), (k0_pay105 (B.q 1) k0_pay42 (B.atD B.x4 2)), (k0_pay106 (F := F))⟩
      ⊢ wp frame (wpE (defs₀ (F := F)) 𝒱 (c : Thread nD τ) bd) E
        (k0_part15 B.i arg3 harg3 arg4 harg4 arg5 harg5 arg6 harg6 arg7 harg7 arg8 harg8 arg9 harg9 arg10 harg10 (B.q 0) (B.q 1) B.tri k0_pay42 (B.atD B.x4 2) (B.atD B.x4 2) zero1 zero1 (k0_pay96 (B.q 1) k0_pay42 (B.atD B.x4 1)) (k0_pay97 (B.q 1) k0_pay42 (B.atD B.x4 1))) K := by
  rw [k0_part15_eq_skeleton]; unfold k0_part15_skel
  simp only [Prog.lift, Prog.bind_op, Prog.bind_ret, Prog.pure_eq_ret]
  rw [ret_eq (F := F) (y := (⟨(B.csD 1 1), (B.carD 1 1), (B.zD 0 2), (B.csD 0 2), (B.carD 0 2), (B.zD 1 2), (k0_pay104 (B.q 1) k0_pay42 (B.atD B.x4 2)), (k0_pay105 (B.q 1) k0_pay42 (B.atD B.x4 2)), (k0_pay106 (F := F))⟩ : (Σ' (v273 : FVec F S256x256 .f32) (v275 : FVec F S256x1 .f32) (v279 : FVec F S256x256 .f32) (v293 : FVec F S256x256 .f32) (v295 : FVec F S256x1 .f32) (v299 : FVec F S256x256 .f32) (v301 : FVec F S256x256 .f32) (v305 : FVec F S256x256 .f32), FVec F S256x256 .f32))) (by exact rfl), wp_ret]
  iintro H; imodintro; iexact H

theorem k0_part16_run (B : Blocks F) (K : _ → sProp 𝕄) :
    K ⟨(B.csD 1 2), (B.carD 1 2), (B.zD 0 3), (B.csD 0 3), (B.carD 0 3), (B.zD 1 3), (k0_pay113 (B.q 1) k0_pay42 (B.atD B.x4 3))⟩
      ⊢ wp frame (wpE (defs₀ (F := F)) 𝒱 (c : Thread nD τ) bd) E
        (k0_part16 B.i arg3 harg3 arg4 harg4 arg5 harg5 arg6 harg6 arg7 harg7 arg8 harg8 arg9 harg9 arg10 harg10 (B.q 0) (B.q 1) B.tri k0_pay42 (B.atD B.x4 3) (B.atD B.x4 3) zero1 zero1 (k0_pay104 (B.q 1) k0_pay42 (B.atD B.x4 2)) (k0_pay105 (B.q 1) k0_pay42 (B.atD B.x4 2)) (k0_pay106 (F := F))) K := by
  rw [k0_part16_eq_skeleton]; unfold k0_part16_skel
  simp only [Prog.lift, Prog.bind_op, Prog.bind_ret, Prog.pure_eq_ret]
  rw [ret_eq (F := F) (y := (⟨(B.csD 1 2), (B.carD 1 2), (B.zD 0 3), (B.csD 0 3), (B.carD 0 3), (B.zD 1 3), (k0_pay113 (B.q 1) k0_pay42 (B.atD B.x4 3))⟩ : (Σ' (v313 : FVec F S256x256 .f32) (v315 : FVec F S256x1 .f32) (v319 : FVec F S256x256 .f32) (v333 : FVec F S256x256 .f32) (v335 : FVec F S256x1 .f32) (v339 : FVec F S256x256 .f32), FVec F S256x256 .f32))) (by exact rfl), wp_ret]
  iintro H; imodintro; iexact H

theorem k0_part17_run (B : Blocks F) (K : _ → sProp 𝕄) :
    K ⟨(B.csD 1 3), (B.carD 1 3), (B.zN 0 0), (B.cs2 0 0), (B.car2 0 0), (B.zN 1 0), (B.cs2 1 0), (B.car2 1 0), (k0_pay122 (B.q 0))⟩
      ⊢ wp frame (wpE (defs₀ (F := F)) 𝒱 (c : Thread nD τ) bd) E
        (k0_part17 B.i arg3 harg3 arg4 harg4 arg5 harg5 arg6 harg6 arg7 harg7 arg8 harg8 arg9 harg9 arg10 harg10 (B.q 0) (B.q 1) B.tri (k0_pay43 B.i) B.tri' (B.atN B.x4 0) (B.atN B.x4 0) zero1 (B.carD 0 0) (B.carD 1 0) (k0_pay113 (B.q 1) k0_pay42 (B.atD B.x4 3))) K := by
  rw [k0_part17_eq_skeleton]; unfold k0_part17_skel
  simp only [Prog.lift, Prog.bind_op, Prog.bind_ret, Prog.pure_eq_ret]
  rw [ret_eq (F := F) (y := (⟨(B.csD 1 3), (B.carD 1 3), (B.zN 0 0), (B.cs2 0 0), (B.car2 0 0), (B.zN 1 0), (B.cs2 1 0), (B.car2 1 0), (k0_pay122 (B.q 0))⟩ : (Σ' (v353 : FVec F S256x256 .f32) (v355 : FVec F S256x1 .f32) (v359 : FVec F S256x128 .f32) (v373 : FVec F S256x128 .f32) (v375 : FVec F S256x1 .f32) (v379 : FVec F S256x128 .f32) (v393 : FVec F S256x128 .f32) (v395 : FVec F S256x1 .f32), FVec F S256x128 .bf16))) (by exact rfl), wp_ret]
  iintro H; imodintro; iexact H

theorem k0_part18_run (B : Blocks F) (K : _ → sProp 𝕄) :
    K ⟨(B.zN 0 1), (B.cs2 0 1), (B.car2 0 1), (B.zN 1 1), (B.cs2 1 1), (B.car2 1 1), (B.zN 0 2), (k0_pay130 (B.q 0) (B.atN B.x4 2)), (k0_pay131 (B.q 0) (B.atN B.x4 2)), (k0_pay132 (F := F))⟩
      ⊢ wp frame (wpE (defs₀ (F := F)) 𝒱 (c : Thread nD τ) bd) E
        (k0_part18 B.i arg3 harg3 arg4 harg4 arg5 harg5 arg6 harg6 arg7 harg7 arg8 harg8 arg9 harg9 arg10 harg10 (B.q 0) (B.q 1) B.tri' (B.atN B.x4 1) (B.atN B.x4 1) (B.atN B.x4 2) (B.carD 0 1) (B.carD 1 1) (k0_pay122 (B.q 0))) K := by
  rw [k0_part18_eq_skeleton]; unfold k0_part18_skel
  simp only [Prog.lift, Prog.bind_op, Prog.bind_ret, Prog.pure_eq_ret]
  rw [ret_eq (F := F) (y := (⟨(B.zN 0 1), (B.cs2 0 1), (B.car2 0 1), (B.zN 1 1), (B.cs2 1 1), (B.car2 1 1), (B.zN 0 2), (k0_pay130 (B.q 0) (B.atN B.x4 2)), (k0_pay131 (B.q 0) (B.atN B.x4 2)), (k0_pay132 (F := F))⟩ : (Σ' (v397 : FVec F S256x128 .f32) (v411 : FVec F S256x128 .f32) (v413 : FVec F S256x1 .f32) (v415 : FVec F S256x128 .f32) (v429 : FVec F S256x128 .f32) (v431 : FVec F S256x1 .f32) (v433 : FVec F S256x128 .f32) (v435 : FVec F S256x128 .f32) (v439 : FVec F S256x128 .f32), FVec F S256x128 .f32))) (by exact rfl), wp_ret]
  iintro H; imodintro; iexact H

theorem k0_part19_run (B : Blocks F) (K : _ → sProp 𝕄) :
    K ⟨(B.cs2 0 2), (B.car2 0 2), (B.zN 1 2), (B.cs2 1 2), (B.car2 1 2), (B.zN 0 3), (B.cs2 0 3), (B.car2 0 3), (k0_pay141 (B.q 1))⟩
      ⊢ wp frame (wpE (defs₀ (F := F)) 𝒱 (c : Thread nD τ) bd) E
        (k0_part19 B.i arg3 harg3 arg4 harg4 arg5 harg5 arg6 harg6 arg7 harg7 arg8 harg8 arg9 harg9 arg10 harg10 (B.q 0) (B.q 1) B.tri' (B.atN B.x4 2) (B.atN B.x4 3) (B.carD 0 2) (B.carD 1 2) (B.carD 0 3) (k0_pay130 (B.q 0) (B.atN B.x4 2)) (k0_pay131 (B.q 0) (B.atN B.x4 2)) (k0_pay132 (F := F))) K := by
  rw [k0_part19_eq_skeleton]; unfold k0_part19_skel
  simp only [Prog.lift, Prog.bind_op, Prog.bind_ret, Prog.pure_eq_ret]
  rw [ret_eq (F := F) (y := (⟨(B.cs2 0 2), (B.car2 0 2), (B.zN 1 2), (B.cs2 1 2), (B.car2 1 2), (B.zN 0 3), (B.cs2 0 3), (B.car2 0 3), (k0_pay141 (B.q 1))⟩ : (Σ' (v447 : FVec F S256x128 .f32) (v449 : FVec F S256x1 .f32) (v451 : FVec F S256x128 .f32) (v465 : FVec F S256x128 .f32) (v467 : FVec F S256x1 .f32) (v469 : FVec F S256x128 .f32) (v483 : FVec F S256x128 .f32) (v485 : FVec F S256x1 .f32), FVec F S256x128 .bf16))) (by exact rfl), wp_ret]
  iintro H; imodintro; iexact H

theorem k0_part20_run (B : Blocks F) (K : _ → sProp 𝕄) :
    K ⟨(B.zN 1 3), (B.cs2 1 3), (B.car2 1 3), B.start.la, B.start.lw, (k0_pay147 zero1 (B.csD 0 0))⟩
      ⊢ wp frame (wpE (defs₀ (F := F)) 𝒱 (c : Thread nD τ) bd) E
        (k0_part20 B.i arg3 harg3 arg4 harg4 arg5 harg5 arg6 harg6 arg7 harg7 arg8 harg8 arg9 harg9 arg10 harg10 ((BitVec.ofNat 32 (B.i 2).val)) B.tri' (B.atN B.x4 3) zero1 (B.csD 0 0) (B.carD 1 3) (B.car2 0 0) (B.car2 1 0) (B.car2 0 1) (B.car2 1 1) (B.car2 0 2) (B.car2 1 2) (B.car2 0 3) (k0_pay141 (B.q 1))) K := by
  rw [k0_part20_eq_skeleton]; unfold k0_part20_skel
  simp only [Prog.lift, Prog.bind_op, Prog.bind_ret, Prog.pure_eq_ret]
  rw [ret_eq (F := F) (y := (⟨(B.zN 1 3), (B.cs2 1 3), (B.car2 1 3), B.start.la, B.start.lw, (k0_pay147 zero1 (B.csD 0 0))⟩ : (Σ' (v487 : FVec F S256x128 .f32) (v501 : FVec F S256x128 .f32) (v503 : FVec F S256x1 .f32) (v527 : F .f32) (v531 : F .f32), FVec F S256x256 .f32))) (by exact rfl), wp_ret]
  iintro H; imodintro; iexact H

theorem k0_part21_run (B : Blocks F) (A : Acc F) (K : _ → sProp 𝕄) :
    iprop(owns (c : Thread nD τ) arg10 fullShare (accBuf A) ∗ (iprop(owns (c : Thread nD τ) arg10 fullShare (accBuf (stp (B.accD) 0 1 (stp (B.accD) 1 0 (stp (B.accD) 0 0 A))))) -∗ K (k0_pay151 zero1 (B.csD 1 1))))
      ⊢ wp frame (wpE (defs₀ (F := F)) 𝒱 (c : Thread nD τ) bd) E
        (k0_part21 B.i arg3 harg3 arg4 harg4 arg5 harg5 arg6 harg6 arg7 harg7 arg8 harg8 arg9 harg9 arg10 harg10 (B.atD B.x5 0) (B.atD B.x5 0) (B.atD B.x5 1) zero1 zero1 zero1 (B.zD 0 0) (B.zD 1 0) (B.csD 1 0) (B.zD 0 1) (B.csD 0 1) (B.csD 1 1) (k0_pay147 zero1 (B.csD 0 0))) K := by
  rw [k0_part21_eq_skeleton]; unfold k0_part21_skel
  simp only [Prog.lift, Prog.bind_op, Prog.bind_ret, Prog.pure_eq_ret]
  iintro ⟨H10, Hk⟩
  iapply (ldA 𝒱 c bd E _ 0 0) $$ H10; iintro H10
  iapply (ldA 𝒱 c bd E _ 0 0) $$ H10; iintro H10
  rw [store_eq (F := F) (w' := B.accD 0 0 (A 0 0)) (by exact rfl)]
  iapply (stA 𝒱 c bd E _ 0 0) $$ H10; iintro H10
  iapply (ldA 𝒱 c bd E _ 1 0) $$ H10; iintro H10
  iapply (ldA 𝒱 c bd E _ 1 0) $$ H10; iintro H10
  rw [store_eq (F := F) (w' := B.accD 1 0 ((stp (B.accD) 0 0 A) 1 0)) (by exact rfl)]
  iapply (stA 𝒱 c bd E _ 1 0) $$ H10; iintro H10
  iapply (ldA 𝒱 c bd E _ 0 1) $$ H10; iintro H10
  iapply (ldA 𝒱 c bd E _ 0 1) $$ H10; iintro H10
  rw [store_eq (F := F) (w' := B.accD 0 1 ((stp (B.accD) 1 0 (stp (B.accD) 0 0 A)) 0 1)) (by exact rfl)]
  iapply (stA 𝒱 c bd E _ 0 1) $$ H10; iintro H10
  rw [ret_eq (F := F) (y := ((k0_pay151 zero1 (B.csD 1 1)) : (FVec F S256x256 .f32))) (by exact rfl), wp_ret]; imodintro
  iapply Hk
  iexact H10

theorem k0_part22_run (B : Blocks F) (A : Acc F) (K : _ → sProp 𝕄) :
    iprop(owns (c : Thread nD τ) arg10 fullShare (accBuf (stp (B.accD) 0 1 (stp (B.accD) 1 0 (stp (B.accD) 0 0 A)))) ∗ (iprop(owns (c : Thread nD τ) arg10 fullShare (accBuf (stp (B.accD) 1 2 (stp (B.accD) 0 2 (stp (B.accD) 1 1 (stp (B.accD) 0 1 (stp (B.accD) 1 0 (stp (B.accD) 0 0 A)))))))) -∗ K (k0_pay155 zero1 (B.csD 0 3))))
      ⊢ wp frame (wpE (defs₀ (F := F)) 𝒱 (c : Thread nD τ) bd) E
        (k0_part22 B.i arg3 harg3 arg4 harg4 arg5 harg5 arg6 harg6 arg7 harg7 arg8 harg8 arg9 harg9 arg10 harg10 (B.atD B.x5 1) (B.atD B.x5 2) (B.atD B.x5 2) zero1 zero1 zero1 (B.zD 1 1) (B.zD 0 2) (B.csD 0 2) (B.zD 1 2) (B.csD 1 2) (B.csD 0 3) (k0_pay151 zero1 (B.csD 1 1))) K := by
  rw [k0_part22_eq_skeleton]; unfold k0_part22_skel
  simp only [Prog.lift, Prog.bind_op, Prog.bind_ret, Prog.pure_eq_ret]
  iintro ⟨H10, Hk⟩
  iapply (ldA 𝒱 c bd E _ 1 1) $$ H10; iintro H10
  iapply (ldA 𝒱 c bd E _ 1 1) $$ H10; iintro H10
  rw [store_eq (F := F) (w' := B.accD 1 1 ((stp (B.accD) 0 1 (stp (B.accD) 1 0 (stp (B.accD) 0 0 A))) 1 1)) (by exact rfl)]
  iapply (stA 𝒱 c bd E _ 1 1) $$ H10; iintro H10
  iapply (ldA 𝒱 c bd E _ 0 2) $$ H10; iintro H10
  iapply (ldA 𝒱 c bd E _ 0 2) $$ H10; iintro H10
  rw [store_eq (F := F) (w' := B.accD 0 2 ((stp (B.accD) 1 1 (stp (B.accD) 0 1 (stp (B.accD) 1 0 (stp (B.accD) 0 0 A)))) 0 2)) (by exact rfl)]
  iapply (stA 𝒱 c bd E _ 0 2) $$ H10; iintro H10
  iapply (ldA 𝒱 c bd E _ 1 2) $$ H10; iintro H10
  iapply (ldA 𝒱 c bd E _ 1 2) $$ H10; iintro H10
  rw [store_eq (F := F) (w' := B.accD 1 2 ((stp (B.accD) 0 2 (stp (B.accD) 1 1 (stp (B.accD) 0 1 (stp (B.accD) 1 0 (stp (B.accD) 0 0 A))))) 1 2)) (by exact rfl)]
  iapply (stA 𝒱 c bd E _ 1 2) $$ H10; iintro H10
  rw [ret_eq (F := F) (y := ((k0_pay155 zero1 (B.csD 0 3)) : (FVec F S256x256 .f32))) (by exact rfl), wp_ret]; imodintro
  iapply Hk
  iexact H10

theorem k0_part23_run (B : Blocks F) (A : Acc F) (K : _ → sProp 𝕄) :
    iprop(owns (c : Thread nD τ) arg10 fullShare (accBuf (stp (B.accD) 1 2 (stp (B.accD) 0 2 (stp (B.accD) 1 1 (stp (B.accD) 0 1 (stp (B.accD) 1 0 (stp (B.accD) 0 0 A))))))) ∗ (iprop(owns (c : Thread nD τ) arg10 fullShare (accBuf (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A))))))))))) -∗ K (k0_pay159 (B.carD 1 0) (B.cs2 1 0))))
      ⊢ wp frame (wpE (defs₀ (F := F)) 𝒱 (c : Thread nD τ) bd) E
        (k0_part23 B.i arg3 harg3 arg4 harg4 arg5 harg5 arg6 harg6 arg7 harg7 arg8 harg8 arg9 harg9 arg10 harg10 (B.atD B.x5 3) (B.atD B.x5 3) (B.atN B.x5 0) zero1 (B.carD 0 0) (B.carD 1 0) (B.zD 0 3) (B.zD 1 3) (B.csD 1 3) (B.zN 0 0) (B.cs2 0 0) (B.cs2 1 0) (k0_pay155 zero1 (B.csD 0 3))) K := by
  rw [k0_part23_eq_skeleton]; unfold k0_part23_skel
  simp only [Prog.lift, Prog.bind_op, Prog.bind_ret, Prog.pure_eq_ret]
  iintro ⟨H10, Hk⟩
  iapply (ldA 𝒱 c bd E _ 0 3) $$ H10; iintro H10
  iapply (ldA 𝒱 c bd E _ 0 3) $$ H10; iintro H10
  rw [store_eq (F := F) (w' := B.accD 0 3 ((stp (B.accD) 1 2 (stp (B.accD) 0 2 (stp (B.accD) 1 1 (stp (B.accD) 0 1 (stp (B.accD) 1 0 (stp (B.accD) 0 0 A)))))) 0 3)) (by exact rfl)]
  iapply (stA 𝒱 c bd E _ 0 3) $$ H10; iintro H10
  iapply (ldA 𝒱 c bd E _ 1 3) $$ H10; iintro H10
  iapply (ldA 𝒱 c bd E _ 1 3) $$ H10; iintro H10
  rw [store_eq (F := F) (w' := B.accD 1 3 ((stp (B.accD) 0 3 (stp (B.accD) 1 2 (stp (B.accD) 0 2 (stp (B.accD) 1 1 (stp (B.accD) 0 1 (stp (B.accD) 1 0 (stp (B.accD) 0 0 A))))))) 1 3)) (by exact rfl)]
  iapply (stA 𝒱 c bd E _ 1 3) $$ H10; iintro H10
  iapply (ldA 𝒱 c bd E _ 0 0) $$ H10; iintro H10
  iapply (ldA 𝒱 c bd E _ 0 0) $$ H10; iintro H10
  rw [store_eq (F := F) (w' := B.acc2 0 0 ((stp (B.accD) 1 3 (stp (B.accD) 0 3 (stp (B.accD) 1 2 (stp (B.accD) 0 2 (stp (B.accD) 1 1 (stp (B.accD) 0 1 (stp (B.accD) 1 0 (stp (B.accD) 0 0 A)))))))) 0 0)) (by exact rfl)]
  iapply (stA 𝒱 c bd E _ 0 0) $$ H10; iintro H10
  rw [ret_eq (F := F) (y := ((k0_pay159 (B.carD 1 0) (B.cs2 1 0)) : (FVec F S256x128 .f32))) (by exact rfl), wp_ret]; imodintro
  iapply Hk
  iexact H10

theorem k0_part24_run (B : Blocks F) (A : Acc F) (K : _ → sProp 𝕄) :
    iprop(owns (c : Thread nD τ) arg10 fullShare (accBuf (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A)))))))))) ∗ (iprop(owns (c : Thread nD τ) arg10 fullShare (accBuf (stp (B.acc2) 1 1 (stp (B.acc2) 0 1 (stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A)))))))))))))) -∗ K (k0_pay163 (B.carD 0 2) (B.cs2 0 2))))
      ⊢ wp frame (wpE (defs₀ (F := F)) 𝒱 (c : Thread nD τ) bd) E
        (k0_part24 B.i arg3 harg3 arg4 harg4 arg5 harg5 arg6 harg6 arg7 harg7 arg8 harg8 arg9 harg9 arg10 harg10 (B.atN B.x5 0) (B.atN B.x5 1) (B.atN B.x5 1) (B.carD 0 1) (B.carD 1 1) (B.carD 0 2) (B.zN 1 0) (B.zN 0 1) (B.cs2 0 1) (B.zN 1 1) (B.cs2 1 1) (B.cs2 0 2) (k0_pay159 (B.carD 1 0) (B.cs2 1 0))) K := by
  rw [k0_part24_eq_skeleton]; unfold k0_part24_skel
  simp only [Prog.lift, Prog.bind_op, Prog.bind_ret, Prog.pure_eq_ret]
  iintro ⟨H10, Hk⟩
  iapply (ldA 𝒱 c bd E _ 1 0) $$ H10; iintro H10
  iapply (ldA 𝒱 c bd E _ 1 0) $$ H10; iintro H10
  rw [store_eq (F := F) (w' := B.acc2 1 0 ((stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A))))))))) 1 0)) (by exact rfl)]
  iapply (stA 𝒱 c bd E _ 1 0) $$ H10; iintro H10
  iapply (ldA 𝒱 c bd E _ 0 1) $$ H10; iintro H10
  iapply (ldA 𝒱 c bd E _ 0 1) $$ H10; iintro H10
  rw [store_eq (F := F) (w' := B.acc2 0 1 ((stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A)))))))))) 0 1)) (by exact rfl)]
  iapply (stA 𝒱 c bd E _ 0 1) $$ H10; iintro H10
  iapply (ldA 𝒱 c bd E _ 1 1) $$ H10; iintro H10
  iapply (ldA 𝒱 c bd E _ 1 1) $$ H10; iintro H10
  rw [store_eq (F := F) (w' := B.acc2 1 1 ((stp (B.acc2) 0 1 (stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A))))))))))) 1 1)) (by exact rfl)]
  iapply (stA 𝒱 c bd E _ 1 1) $$ H10; iintro H10
  rw [ret_eq (F := F) (y := ((k0_pay163 (B.carD 0 2) (B.cs2 0 2)) : (FVec F S256x128 .f32))) (by exact rfl), wp_ret]; imodintro
  iapply Hk
  iexact H10

theorem k0_part25_run (B : Blocks F) (A : Acc F) (K : _ → sProp 𝕄) :
    iprop(owns (c : Thread nD τ) arg10 fullShare (accBuf (stp (B.acc2) 1 1 (stp (B.acc2) 0 1 (stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A))))))))))))) ∗ (iprop(owns (c : Thread nD τ) arg10 fullShare (accBuf (stp (B.acc2) 0 3 (stp (B.acc2) 1 2 (stp (B.acc2) 0 2 (stp (B.acc2) 1 1 (stp (B.acc2) 0 1 (stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A))))))))))))))))) -∗ K (k0_pay167 (B.carD 1 3) (B.cs2 1 3))))
      ⊢ wp frame (wpE (defs₀ (F := F)) 𝒱 (c : Thread nD τ) bd) E
        (k0_part25 B.i arg3 harg3 arg4 harg4 arg5 harg5 arg6 harg6 arg7 harg7 arg8 harg8 arg9 harg9 arg10 harg10 (B.atN B.x5 2) (B.atN B.x5 2) (B.atN B.x5 3) (B.carD 1 2) (B.carD 0 3) (B.carD 1 3) (B.zN 0 2) (B.zN 1 2) (B.cs2 1 2) (B.zN 0 3) (B.cs2 0 3) (B.cs2 1 3) (k0_pay163 (B.carD 0 2) (B.cs2 0 2))) K := by
  rw [k0_part25_eq_skeleton]; unfold k0_part25_skel
  simp only [Prog.lift, Prog.bind_op, Prog.bind_ret, Prog.pure_eq_ret]
  iintro ⟨H10, Hk⟩
  iapply (ldA 𝒱 c bd E _ 0 2) $$ H10; iintro H10
  iapply (ldA 𝒱 c bd E _ 0 2) $$ H10; iintro H10
  rw [store_eq (F := F) (w' := B.acc2 0 2 ((stp (B.acc2) 1 1 (stp (B.acc2) 0 1 (stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A)))))))))))) 0 2)) (by exact rfl)]
  iapply (stA 𝒱 c bd E _ 0 2) $$ H10; iintro H10
  iapply (ldA 𝒱 c bd E _ 1 2) $$ H10; iintro H10
  iapply (ldA 𝒱 c bd E _ 1 2) $$ H10; iintro H10
  rw [store_eq (F := F) (w' := B.acc2 1 2 ((stp (B.acc2) 0 2 (stp (B.acc2) 1 1 (stp (B.acc2) 0 1 (stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A))))))))))))) 1 2)) (by exact rfl)]
  iapply (stA 𝒱 c bd E _ 1 2) $$ H10; iintro H10
  iapply (ldA 𝒱 c bd E _ 0 3) $$ H10; iintro H10
  iapply (ldA 𝒱 c bd E _ 0 3) $$ H10; iintro H10
  rw [store_eq (F := F) (w' := B.acc2 0 3 ((stp (B.acc2) 1 2 (stp (B.acc2) 0 2 (stp (B.acc2) 1 1 (stp (B.acc2) 0 1 (stp (B.acc2) 1 0 (stp (B.acc2) 0 0 (stp (B.accD) 1 3 (stp (B.accD) 0 3 (stp (B.accD) 1 2 (stp (B.accD) 0 2 (stp (B.accD) 1 1 (stp (B.accD) 0 1 (stp (B.accD) 1 0 (stp (B.accD) 0 0 A)))))))))))))) 0 3)) (by exact rfl)]
  iapply (stA 𝒱 c bd E _ 0 3) $$ H10; iintro H10
  rw [ret_eq (F := F) (y := ((k0_pay167 (B.carD 1 3) (B.cs2 1 3)) : (FVec F S256x128 .f32))) (by exact rfl), wp_ret]; imodintro
  iapply Hk
  iexact H10

theorem k0_part27_run (B : Blocks F) (j : BitVec 32) (hj : k0_chk1 B.i j) (s : St F) (K : _ → sProp 𝕄) :
    iprop(owns (c : Thread nD τ) arg4 fullShare B.x4 ∗ owns (c : Thread nD τ) arg5 fullShare B.x5 ∗ (iprop(owns (c : Thread nD τ) arg4 fullShare B.x4 ∗ owns (c : Thread nD τ) arg5 fullShare B.x5) -∗ K ⟨(B.atW B.x4 j hj), (B.atW B.x5 j hj), (k0_pay174 (iota .tc S256x256 32 [1] iota_S256x256_d1_w32) j B.nWalk), (B.maskW j 0), (B.maskW j 0), (B.maskW j 1), (B.maskW j 1), (B.maskW j 2), (B.maskW j 2)⟩))
      ⊢ wp frame (wpE (defs₀ (F := F)) 𝒱 (c : Thread nD τ) bd) E
        (k0_part27 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) B.nWalk (Scalar.muli (BitVec.ofNat 32 (B.i 2).val) 1024#32)) K := by
  rw [k0_part27_eq_skeleton]; unfold k0_part27_skel
  simp only [Prog.lift, Prog.bind_op, Prog.bind_ret, Prog.pure_eq_ret]
  iintro ⟨H4, H5, Hk⟩
  iapply (wp_assume 𝒱 (c : Thread nD τ) bd E hj)
  iapply (ld 𝒱 (c : Thread nD τ) bd E) $$ H4; iintro H4
  iapply (ld 𝒱 (c : Thread nD τ) bd E) $$ H5; iintro H5
  rw [ret_eq (F := F) (y := (⟨(B.atW B.x4 j hj), (B.atW B.x5 j hj), (k0_pay174 (iota .tc S256x256 32 [1] iota_S256x256_d1_w32) j B.nWalk), (B.maskW j 0), (B.maskW j 0), (B.maskW j 1), (B.maskW j 1), (B.maskW j 2), (B.maskW j 2)⟩ : (Σ' (v748 : FVec F S256x128 .bf16) (v753 : FVec F S256x128 .bf16) (v756 : IVec S256x256 32) (v760 : IVec S256x256 1) (v764 : IVec S256x256 1) (v768 : IVec S256x256 1) (v772 : IVec S256x256 1) (v776 : IVec S256x256 1), IVec S256x256 1))) (by exact rfl), wp_ret]; imodintro
  iapply Hk
  isplitl [H4]; · iexact H4
  iexact H5

theorem k0_part28_run (B : Blocks F) (j : BitVec 32) (hj : k0_chk1 B.i j) (s : St F) (K : _ → sProp 𝕄) :
    K ⟨(B.maskW j 3), (B.maskW j 3), (B.zW j hj 0 0), (B.csWk j hj 0 0), (B.carWk j hj s.car 0 0), (B.zW j hj 1 0), (k0_pay187 (B.q 1) (B.atW B.x4 j hj) (B.maskW j 0)), (k0_pay188 (B.q 1) (B.atW B.x4 j hj) (B.maskW j 0))⟩
      ⊢ wp frame (wpE (defs₀ (F := F)) 𝒱 (c : Thread nD τ) bd) E
        (k0_part28 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) (Scalar.muli (BitVec.ofNat 32 (B.i 2).val) 1024#32) (B.atW B.x4 j hj) (k0_pay174 (iota .tc S256x256 32 [1] iota_S256x256_d1_w32) j B.nWalk) (B.maskW j 0) (B.maskW j 0)) K := by
  rw [k0_part28_eq_skeleton]; unfold k0_part28_skel
  simp only [Prog.lift, Prog.bind_op, Prog.bind_ret, Prog.pure_eq_ret]
  rw [ret_eq (F := F) (y := (⟨(B.maskW j 3), (B.maskW j 3), (B.zW j hj 0 0), (B.csWk j hj 0 0), (B.carWk j hj s.car 0 0), (B.zW j hj 1 0), (k0_pay187 (B.q 1) (B.atW B.x4 j hj) (B.maskW j 0)), (k0_pay188 (B.q 1) (B.atW B.x4 j hj) (B.maskW j 0))⟩ : (Σ' (v784 : IVec S256x256 1) (v788 : IVec S256x256 1) (v792 : FVec F S256x256 .f32) (v806 : FVec F S256x256 .f32) (v808 : FVec F S256x1 .f32) (v812 : FVec F S256x256 .f32) (v814 : FVec F S256x256 .f32), FVec F S256x256 .f32))) (by exact rfl), wp_ret]
  iintro H; imodintro; iexact H

theorem k0_part29_run (B : Blocks F) (j : BitVec 32) (hj : k0_chk1 B.i j) (s : St F) (K : _ → sProp 𝕄) :
    K ⟨(B.csWk j hj 1 0), (B.carWk j hj s.car 1 0), (B.zW j hj 0 1), (B.csWk j hj 0 1), (B.carWk j hj s.car 0 1), (B.zW j hj 1 1), (B.csWk j hj 1 1), (B.carWk j hj s.car 1 1)⟩
      ⊢ wp frame (wpE (defs₀ (F := F)) 𝒱 (c : Thread nD τ) bd) E
        (k0_part29 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) (B.atW B.x4 j hj) (B.maskW j 1) (B.maskW j 1) (k0_pay187 (B.q 1) (B.atW B.x4 j hj) (B.maskW j 0)) (k0_pay188 (B.q 1) (B.atW B.x4 j hj) (B.maskW j 0))) K := by
  rw [k0_part29_eq_skeleton]; unfold k0_part29_skel
  simp only [Prog.lift, Prog.bind_op, Prog.bind_ret, Prog.pure_eq_ret]
  rw [ret_eq (F := F) (y := (⟨(B.csWk j hj 1 0), (B.carWk j hj s.car 1 0), (B.zW j hj 0 1), (B.csWk j hj 0 1), (B.carWk j hj s.car 0 1), (B.zW j hj 1 1), (B.csWk j hj 1 1), (B.carWk j hj s.car 1 1)⟩ : (Σ' (v826 : FVec F S256x256 .f32) (v828 : FVec F S256x1 .f32) (v832 : FVec F S256x256 .f32) (v846 : FVec F S256x256 .f32) (v848 : FVec F S256x1 .f32) (v852 : FVec F S256x256 .f32) (v866 : FVec F S256x256 .f32), FVec F S256x1 .f32))) (by exact rfl), wp_ret]
  iintro H; imodintro; iexact H

theorem k0_part30_run (B : Blocks F) (j : BitVec 32) (hj : k0_chk1 B.i j) (s : St F) (K : _ → sProp 𝕄) :
    K ⟨(B.zW j hj 0 2), (B.csWk j hj 0 2), (B.carWk j hj s.car 0 2), (B.zW j hj 1 2), (B.csWk j hj 1 2), (B.carWk j hj s.car 1 2), (B.zW j hj 0 3)⟩
      ⊢ wp frame (wpE (defs₀ (F := F)) 𝒱 (c : Thread nD τ) bd) E
        (k0_part30 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) (B.atW B.x4 j hj) (B.maskW j 2) (B.maskW j 2) (B.maskW j 3)) K := by
  rw [k0_part30_eq_skeleton]; unfold k0_part30_skel
  simp only [Prog.lift, Prog.bind_op, Prog.bind_ret, Prog.pure_eq_ret]
  rw [ret_eq (F := F) (y := (⟨(B.zW j hj 0 2), (B.csWk j hj 0 2), (B.carWk j hj s.car 0 2), (B.zW j hj 1 2), (B.csWk j hj 1 2), (B.carWk j hj s.car 1 2), (B.zW j hj 0 3)⟩ : (Σ' (v872 : FVec F S256x256 .f32) (v886 : FVec F S256x256 .f32) (v888 : FVec F S256x1 .f32) (v892 : FVec F S256x256 .f32) (v906 : FVec F S256x256 .f32) (v908 : FVec F S256x1 .f32), FVec F S256x256 .f32))) (by exact rfl), wp_ret]
  iintro H; imodintro; iexact H

theorem k0_part31_run (B : Blocks F) (j : BitVec 32) (hj : k0_chk1 B.i j) (s : St F) (K : _ → sProp 𝕄) :
    K ⟨(B.csWk j hj 0 3), (B.carWk j hj s.car 0 3), (B.zW j hj 1 3), (B.csWk j hj 1 3), (B.carWk j hj s.car 1 3), (k0_pay209 (B.carWk j hj s.car 0 0) (B.carWk j hj s.car 1 0)), (k0_pay210 (BitVec.ofNat 32 (B.i 2).val) (B.carWk j hj s.car 0 0) (B.carWk j hj s.car 1 0))⟩
      ⊢ wp frame (wpE (defs₀ (F := F)) 𝒱 (c : Thread nD τ) bd) E
        (k0_part31 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) (BitVec.ofNat 32 (B.i 2).val) (B.atW B.x4 j hj) (B.maskW j 3) (B.carWk j hj s.car 0 0) (B.carWk j hj s.car 1 0) (B.zW j hj 0 3)) K := by
  rw [k0_part31_eq_skeleton]; unfold k0_part31_skel
  simp only [Prog.lift, Prog.bind_op, Prog.bind_ret, Prog.pure_eq_ret]
  rw [ret_eq (F := F) (y := (⟨(B.csWk j hj 0 3), (B.carWk j hj s.car 0 3), (B.zW j hj 1 3), (B.csWk j hj 1 3), (B.carWk j hj s.car 1 3), (k0_pay209 (B.carWk j hj s.car 0 0) (B.carWk j hj s.car 1 0)), (k0_pay210 (BitVec.ofNat 32 (B.i 2).val) (B.carWk j hj s.car 0 0) (B.carWk j hj s.car 1 0))⟩ : (Σ' (v926 : FVec F S256x256 .f32) (v928 : FVec F S256x1 .f32) (v932 : FVec F S256x256 .f32) (v946 : FVec F S256x256 .f32) (v948 : FVec F S256x1 .f32) (v952 : FVec F S256x1 .f32), FVec F S256x1 .f32))) (by exact rfl), wp_ret]
  iintro H; imodintro; iexact H

theorem k0_part32_run (B : Blocks F) (j : BitVec 32) (hj : k0_chk1 B.i j) (s : St F) (A : Acc F) (K : _ → sProp 𝕄) :
    iprop(owns (c : Thread nD τ) arg10 fullShare (accBuf A) ∗ (iprop(owns (c : Thread nD τ) arg10 fullShare (accBuf (stp (B.accWk j hj s.car) 0 0 A))) -∗ K ⟨(lowAll (B.carWk j hj s.car)), (B.lowWalk (B.carWk j hj s.car)), (k0_pay214 (s.car 1 0) (B.atW B.x5 j hj) (B.zW j hj 1 0) (B.csWk j hj 1 0) ((stp (B.accWk j hj s.car) 0 0 A) 1 0))⟩))
      ⊢ wp frame (wpE (defs₀ (F := F)) 𝒱 (c : Thread nD τ) bd) E
        (k0_part32 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) (B.atW B.x5 j hj) (B.zW j hj 0 0) (B.csWk j hj 0 0) (B.zW j hj 1 0) (B.csWk j hj 1 0) (B.carWk j hj s.car 0 1) (B.carWk j hj s.car 1 1) (B.carWk j hj s.car 0 2) (B.carWk j hj s.car 1 2) (B.carWk j hj s.car 0 3) (B.carWk j hj s.car 1 3) (k0_pay209 (B.carWk j hj s.car 0 0) (B.carWk j hj s.car 1 0)) (k0_pay210 (BitVec.ofNat 32 (B.i 2).val) (B.carWk j hj s.car 0 0) (B.carWk j hj s.car 1 0))) K := by
  rw [k0_part32_eq_skeleton]; unfold k0_part32_skel
  simp only [Prog.lift, Prog.bind_op, Prog.bind_ret, Prog.pure_eq_ret]
  iintro ⟨H10, Hk⟩
  iapply (ldA 𝒱 c bd E _ 0 0) $$ H10; iintro H10
  iapply (ldA 𝒱 c bd E _ 0 0) $$ H10; iintro H10
  rw [store_eq (F := F) (w' := B.accWk j hj s.car 0 0 (A 0 0)) (by exact rfl)]
  iapply (stA 𝒱 c bd E _ 0 0) $$ H10; iintro H10
  iapply (ldA 𝒱 c bd E _ 1 0) $$ H10; iintro H10
  iapply (ldA 𝒱 c bd E _ 1 0) $$ H10; iintro H10
  rw [ret_eq (F := F) (y := (⟨(lowAll (B.carWk j hj s.car)), (B.lowWalk (B.carWk j hj s.car)), (k0_pay214 (s.car 1 0) (B.atW B.x5 j hj) (B.zW j hj 1 0) (B.csWk j hj 1 0) ((stp (B.accWk j hj s.car) 0 0 A) 1 0))⟩ : (Σ' (v972 : F .f32) (v976 : F .f32), FVec F S256x128 .f32))) (by exact rfl), wp_ret]; imodintro
  iapply Hk
  iexact H10

theorem k0_part33_run (B : Blocks F) (j : BitVec 32) (hj : k0_chk1 B.i j) (s : St F) (A : Acc F) (K : _ → sProp 𝕄) :
    iprop(owns (c : Thread nD τ) arg10 fullShare (accBuf (stp (B.accWk j hj s.car) 0 0 A)) ∗ (iprop(owns (c : Thread nD τ) arg10 fullShare (accBuf (stp (B.accWk j hj s.car) 1 1 (stp (B.accWk j hj s.car) 0 1 (stp (B.accWk j hj s.car) 1 0 (stp (B.accWk j hj s.car) 0 0 A)))))) -∗ K (k0_pay218 (s.car 0 2) (B.atW B.x5 j hj) (B.zW j hj 0 2) (B.csWk j hj 0 2) ((stp (B.accWk j hj s.car) 1 1 (stp (B.accWk j hj s.car) 0 1 (stp (B.accWk j hj s.car) 1 0 (stp (B.accWk j hj s.car) 0 0 A)))) 0 2))))
      ⊢ wp frame (wpE (defs₀ (F := F)) 𝒱 (c : Thread nD τ) bd) E
        (k0_part33 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) (B.atW B.x5 j hj) (B.zW j hj 0 1) (B.csWk j hj 0 1) (B.zW j hj 1 1) (B.csWk j hj 1 1) (B.zW j hj 0 2) (B.csWk j hj 0 2) (k0_pay214 (s.car 1 0) (B.atW B.x5 j hj) (B.zW j hj 1 0) (B.csWk j hj 1 0) ((stp (B.accWk j hj s.car) 0 0 A) 1 0))) K := by
  rw [k0_part33_eq_skeleton]; unfold k0_part33_skel
  simp only [Prog.lift, Prog.bind_op, Prog.bind_ret, Prog.pure_eq_ret]
  iintro ⟨H10, Hk⟩
  rw [store_eq (F := F) (w' := B.accWk j hj s.car 1 0 ((stp (B.accWk j hj s.car) 0 0 A) 1 0)) (by exact (k0_pay215_eq _ _ _ _ _))]
  iapply (stA 𝒱 c bd E _ 1 0) $$ H10; iintro H10
  iapply (ldA 𝒱 c bd E _ 0 1) $$ H10; iintro H10
  iapply (ldA 𝒱 c bd E _ 0 1) $$ H10; iintro H10
  rw [store_eq (F := F) (w' := B.accWk j hj s.car 0 1 ((stp (B.accWk j hj s.car) 1 0 (stp (B.accWk j hj s.car) 0 0 A)) 0 1)) (by exact rfl)]
  iapply (stA 𝒱 c bd E _ 0 1) $$ H10; iintro H10
  iapply (ldA 𝒱 c bd E _ 1 1) $$ H10; iintro H10
  iapply (ldA 𝒱 c bd E _ 1 1) $$ H10; iintro H10
  rw [store_eq (F := F) (w' := B.accWk j hj s.car 1 1 ((stp (B.accWk j hj s.car) 0 1 (stp (B.accWk j hj s.car) 1 0 (stp (B.accWk j hj s.car) 0 0 A))) 1 1)) (by exact rfl)]
  iapply (stA 𝒱 c bd E _ 1 1) $$ H10; iintro H10
  iapply (ldA 𝒱 c bd E _ 0 2) $$ H10; iintro H10
  iapply (ldA 𝒱 c bd E _ 0 2) $$ H10; iintro H10
  rw [ret_eq (F := F) (y := ((k0_pay218 (s.car 0 2) (B.atW B.x5 j hj) (B.zW j hj 0 2) (B.csWk j hj 0 2) ((stp (B.accWk j hj s.car) 1 1 (stp (B.accWk j hj s.car) 0 1 (stp (B.accWk j hj s.car) 1 0 (stp (B.accWk j hj s.car) 0 0 A)))) 0 2)) : (FVec F S256x128 .f32))) (by exact rfl), wp_ret]; imodintro
  iapply Hk
  iexact H10

theorem k0_part34_run (B : Blocks F) (j : BitVec 32) (hj : k0_chk1 B.i j) (s : St F) (A : Acc F) (K : _ → sProp 𝕄) :
    iprop(owns (c : Thread nD τ) arg10 fullShare (accBuf (stp (B.accWk j hj s.car) 1 1 (stp (B.accWk j hj s.car) 0 1 (stp (B.accWk j hj s.car) 1 0 (stp (B.accWk j hj s.car) 0 0 A))))) ∗ (iprop(owns (c : Thread nD τ) arg10 fullShare (accBuf (stp (B.accWk j hj s.car) 0 3 (stp (B.accWk j hj s.car) 1 2 (stp (B.accWk j hj s.car) 0 2 (stp (B.accWk j hj s.car) 1 1 (stp (B.accWk j hj s.car) 0 1 (stp (B.accWk j hj s.car) 1 0 (stp (B.accWk j hj s.car) 0 0 A))))))))) -∗ K (k0_pay222 (s.car 1 3) (B.atW B.x5 j hj) (B.zW j hj 1 3) (B.csWk j hj 1 3) ((stp (B.accWk j hj s.car) 0 3 (stp (B.accWk j hj s.car) 1 2 (stp (B.accWk j hj s.car) 0 2 (stp (B.accWk j hj s.car) 1 1 (stp (B.accWk j hj s.car) 0 1 (stp (B.accWk j hj s.car) 1 0 (stp (B.accWk j hj s.car) 0 0 A))))))) 1 3))))
      ⊢ wp frame (wpE (defs₀ (F := F)) 𝒱 (c : Thread nD τ) bd) E
        (k0_part34 B.i arg4 harg4 arg5 harg5 (iota .tc S256x256 32 [1] iota_S256x256_d1_w32) (B.q 0) B.tri (B.q 1) arg10 harg10 j s.lw s.la (s.car 0 0) (s.car 1 0) (s.car 0 1) (s.car 1 1) (s.car 0 2) (s.car 1 2) (s.car 0 3) (s.car 1 3) (B.atW B.x5 j hj) (B.zW j hj 1 2) (B.csWk j hj 1 2) (B.zW j hj 0 3) (B.csWk j hj 0 3) (B.zW j hj 1 3) (B.csWk j hj 1 3) (k0_pay218 (s.car 0 2) (B.atW B.x5 j hj) (B.zW j hj 0 2) (B.csWk j hj 0 2) ((stp (B.accWk j hj s.car) 1 1 (stp (B.accWk j hj s.car) 0 1 (stp (B.accWk j hj s.car) 1 0 (stp (B.accWk j hj s.car) 0 0 A)))) 0 2))) K := by
  rw [k0_part34_eq_skeleton]; unfold k0_part34_skel
  simp only [Prog.lift, Prog.bind_op, Prog.bind_ret, Prog.pure_eq_ret]
  iintro ⟨H10, Hk⟩
  rw [store_eq (F := F) (w' := B.accWk j hj s.car 0 2 ((stp (B.accWk j hj s.car) 1 1 (stp (B.accWk j hj s.car) 0 1 (stp (B.accWk j hj s.car) 1 0 (stp (B.accWk j hj s.car) 0 0 A)))) 0 2)) (by exact (k0_pay219_eq _ _ _ _ _))]
  iapply (stA 𝒱 c bd E _ 0 2) $$ H10; iintro H10
  iapply (ldA 𝒱 c bd E _ 1 2) $$ H10; iintro H10
  iapply (ldA 𝒱 c bd E _ 1 2) $$ H10; iintro H10
  rw [store_eq (F := F) (w' := B.accWk j hj s.car 1 2 ((stp (B.accWk j hj s.car) 0 2 (stp (B.accWk j hj s.car) 1 1 (stp (B.accWk j hj s.car) 0 1 (stp (B.accWk j hj s.car) 1 0 (stp (B.accWk j hj s.car) 0 0 A))))) 1 2)) (by exact rfl)]
  iapply (stA 𝒱 c bd E _ 1 2) $$ H10; iintro H10
  iapply (ldA 𝒱 c bd E _ 0 3) $$ H10; iintro H10
  iapply (ldA 𝒱 c bd E _ 0 3) $$ H10; iintro H10
  rw [store_eq (F := F) (w' := B.accWk j hj s.car 0 3 ((stp (B.accWk j hj s.car) 1 2 (stp (B.accWk j hj s.car) 0 2 (stp (B.accWk j hj s.car) 1 1 (stp (B.accWk j hj s.car) 0 1 (stp (B.accWk j hj s.car) 1 0 (stp (B.accWk j hj s.car) 0 0 A)))))) 0 3)) (by exact rfl)]
  iapply (stA 𝒱 c bd E _ 0 3) $$ H10; iintro H10
  iapply (ldA 𝒱 c bd E _ 1 3) $$ H10; iintro H10
  iapply (ldA 𝒱 c bd E _ 1 3) $$ H10; iintro H10
  rw [ret_eq (F := F) (y := ((k0_pay222 (s.car 1 3) (B.atW B.x5 j hj) (B.zW j hj 1 3) (B.csWk j hj 1 3) ((stp (B.accWk j hj s.car) 0 3 (stp (B.accWk j hj s.car) 1 2 (stp (B.accWk j hj s.car) 0 2 (stp (B.accWk j hj s.car) 1 1 (stp (B.accWk j hj s.car) 0 1 (stp (B.accWk j hj s.car) 1 0 (stp (B.accWk j hj s.car) 0 0 A))))))) 1 3)) : (FVec F S256x128 .f32))) (by exact rfl), wp_ret]; imodintro
  iapply Hk
  iexact H10

theorem k0_part1_run (B : Blocks F) (C : Car F) (K : _ → sProp 𝕄) :
    iprop(owns (c : Thread nD τ) arg6 fullShare B.x6 ∗ owns (c : Thread nD τ) arg7 fullShare B.x7 ∗ owns (c : Thread nD τ) arg8 fullShare B.x8 ∗ (iprop(owns (c : Thread nD τ) arg6 fullShare B.x6 ∗ owns (c : Thread nD τ) arg7 fullShare B.x7 ∗ owns (c : Thread nD τ) arg8 fullShare B.x8) -∗ K ⟨k0_pay3, B.tri', B.mV, B.mK, B.mV, B.mK, B.mV, B.mK, B.mV, B.mK, B.mV, B.mK, B.mV, B.mK, B.mV, B.mK, B.mV, (k0_pay5 (B.q 0) B.mK), negInfC⟩))
      ⊢ wp frame (wpE (defs₀ (F := F)) 𝒱 (c : Thread nD τ) bd) E
        (k0_part1 B.i arg3 harg3 arg4 harg4 arg5 harg5 arg6 harg6 arg7 harg7 arg8 harg8 arg9 harg9 arg10 harg10 (B.q 0)) K := by
  rw [k0_part1_eq_skeleton]; unfold k0_part1_skel
  simp only [Prog.lift, Prog.bind_op, Prog.bind_ret, Prog.pure_eq_ret]
  iintro ⟨H6, H7, H8, Hk⟩
  iapply (ld 𝒱 (c : Thread nD τ) bd E) $$ H8; iintro H8
  iapply (ld 𝒱 (c : Thread nD τ) bd E) $$ H6; iintro H6
  iapply (ld 𝒱 (c : Thread nD τ) bd E) $$ H7; iintro H7
  iapply (ld 𝒱 (c : Thread nD τ) bd E) $$ H6; iintro H6
  iapply (ld 𝒱 (c : Thread nD τ) bd E) $$ H7; iintro H7
  iapply (ld 𝒱 (c : Thread nD τ) bd E) $$ H6; iintro H6
  iapply (ld 𝒱 (c : Thread nD τ) bd E) $$ H7; iintro H7
  iapply (ld 𝒱 (c : Thread nD τ) bd E) $$ H6; iintro H6
  iapply (ld 𝒱 (c : Thread nD τ) bd E) $$ H7; iintro H7
  iapply (ld 𝒱 (c : Thread nD τ) bd E) $$ H6; iintro H6
  iapply (ld 𝒱 (c : Thread nD τ) bd E) $$ H7; iintro H7
  iapply (ld 𝒱 (c : Thread nD τ) bd E) $$ H6; iintro H6
  iapply (ld 𝒱 (c : Thread nD τ) bd E) $$ H7; iintro H7
  iapply (ld 𝒱 (c : Thread nD τ) bd E) $$ H6; iintro H6
  iapply (ld 𝒱 (c : Thread nD τ) bd E) $$ H7; iintro H7
  iapply (ld 𝒱 (c : Thread nD τ) bd E) $$ H6; iintro H6
  iapply (ld 𝒱 (c : Thread nD τ) bd E) $$ H7; iintro H7
  rw [ret_eq (F := F) (y := (⟨k0_pay3, B.tri', B.mV, B.mK, B.mV, B.mK, B.mV, B.mK, B.mV, B.mK, B.mV, B.mK, B.mV, B.mK, B.mV, B.mK, B.mV, (k0_pay5 (B.q 0) B.mK), negInfC⟩ : (Σ' (v744 : IVec S256x128 1) (v746 : FVec F S128x128 .bf16) (v748 : Vec F S128x128 .bf16) (v749 : Vec F S128x128 .bf16) (v750 : Vec F S128x128 .bf16) (v751 : Vec F S128x128 .bf16) (v752 : Vec F S128x128 .bf16) (v753 : Vec F S128x128 .bf16) (v754 : Vec F S128x128 .bf16) (v755 : Vec F S128x128 .bf16) (v756 : Vec F S128x128 .bf16) (v757 : Vec F S128x128 .bf16) (v758 : Vec F S128x128 .bf16) (v759 : Vec F S128x128 .bf16) (v760 : Vec F S128x128 .bf16) (v761 : Vec F S128x128 .bf16) (v762 : Vec F S128x128 .bf16) (v764 : FVec F S256x128 .f32), F .f32))) (by exact rfl), wp_ret]; imodintro
  iapply Hk
  isplitl [H6]; · iexact H6
  isplitl [H7]; · iexact H7
  iexact H8

theorem k0_part2_run (B : Blocks F) (C : Car F) (K : _ → sProp 𝕄) :
    K ⟨(B.zM 0 0), (csN B.tri' (B.zM 0 0)), (B.zM 1 0), (csN B.tri' (B.zM 1 0)), (B.zM 0 1), (k0_pay11 (B.q 0) k0_pay3 B.mK), (k0_pay12 (B.q 0) k0_pay3 B.mK)⟩
      ⊢ wp frame (wpE (defs₀ (F := F)) 𝒱 (c : Thread nD τ) bd) E
        (k0_part2 B.i arg3 harg3 arg4 harg4 arg5 harg5 arg6 harg6 arg7 harg7 arg8 harg8 arg9 harg9 arg10 harg10 (B.q 0) (B.q 1) k0_pay3 B.tri' B.mK B.mK (k0_pay5 (B.q 0) B.mK) negInfC) K := by
  rw [k0_part2_eq_skeleton]; unfold k0_part2_skel
  simp only [Prog.lift, Prog.bind_op, Prog.bind_ret, Prog.pure_eq_ret]
  rw [ret_eq (F := F) (y := (⟨(B.zM 0 0), (csN B.tri' (B.zM 0 0)), (B.zM 1 0), (csN B.tri' (B.zM 1 0)), (B.zM 0 1), (k0_pay11 (B.q 0) k0_pay3 B.mK), (k0_pay12 (B.q 0) k0_pay3 B.mK)⟩ : (Σ' (v766 : FVec F S256x128 .f32) (v780 : FVec F S256x128 .f32) (v784 : FVec F S256x128 .f32) (v798 : FVec F S256x128 .f32) (v802 : FVec F S256x128 .f32) (v804 : FVec F S256x128 .f32), FVec F S256x128 .f32))) (by exact rfl), wp_ret]
  iintro H; imodintro; iexact H

theorem k0_part3_run (B : Blocks F) (C : Car F) (K : _ → sProp 𝕄) :
    K ⟨(csN B.tri' (B.zM 0 1)), (B.zM 1 1), (csN B.tri' (B.zM 1 1)), (B.zM 0 2), (k0_pay17 (B.q 0) k0_pay3 B.mK), (constant S256x128 .f32 0x00000000#32)⟩
      ⊢ wp frame (wpE (defs₀ (F := F)) 𝒱 (c : Thread nD τ) bd) E
        (k0_part3 B.i arg3 harg3 arg4 harg4 arg5 harg5 arg6 harg6 arg7 harg7 arg8 harg8 arg9 harg9 arg10 harg10 (B.q 0) (B.q 1) k0_pay3 B.tri' B.mK B.mK (k0_pay11 (B.q 0) k0_pay3 B.mK) (k0_pay12 (B.q 0) k0_pay3 B.mK)) K := by
  rw [k0_part3_eq_skeleton]; unfold k0_part3_skel
  simp only [Prog.lift, Prog.bind_op, Prog.bind_ret, Prog.pure_eq_ret]
  rw [ret_eq (F := F) (y := (⟨(csN B.tri' (B.zM 0 1)), (B.zM 1 1), (csN B.tri' (B.zM 1 1)), (B.zM 0 2), (k0_pay17 (B.q 0) k0_pay3 B.mK), (constant S256x128 .f32 0x00000000#32)⟩ : (Σ' (v816 : FVec F S256x128 .f32) (v820 : FVec F S256x128 .f32) (v834 : FVec F S256x128 .f32) (v838 : FVec F S256x128 .f32) (v851 : FVec F S256x128 .bf16), FVec F S256x128 .f32))) (by exact rfl), wp_ret]
  iintro H; imodintro; iexact H

theorem k0_part4_run (B : Blocks F) (C : Car F) (K : _ → sProp 𝕄) :
    K ⟨(csN B.tri' (B.zM 0 2)), (B.zM 1 2), (csN B.tri' (B.zM 1 2)), (B.zM 0 3), (csN B.tri' (B.zM 0 3)), (B.zM 1 3), (k0_pay24 (B.q 1) k0_pay3 B.mK)⟩
      ⊢ wp frame (wpE (defs₀ (F := F)) 𝒱 (c : Thread nD τ) bd) E
        (k0_part4 B.i arg3 harg3 arg4 harg4 arg5 harg5 arg6 harg6 arg7 harg7 arg8 harg8 arg9 harg9 arg10 harg10 (B.q 0) (B.q 1) k0_pay3 B.tri' B.mK B.mK B.mK (k0_pay17 (B.q 0) k0_pay3 B.mK) (constant S256x128 .f32 0x00000000#32)) K := by
  rw [k0_part4_eq_skeleton]; unfold k0_part4_skel
  simp only [Prog.lift, Prog.bind_op, Prog.bind_ret, Prog.pure_eq_ret]
  rw [ret_eq (F := F) (y := (⟨(csN B.tri' (B.zM 0 2)), (B.zM 1 2), (csN B.tri' (B.zM 1 2)), (B.zM 0 3), (csN B.tri' (B.zM 0 3)), (B.zM 1 3), (k0_pay24 (B.q 1) k0_pay3 B.mK)⟩ : (Σ' (v852 : FVec F S256x128 .f32) (v856 : FVec F S256x128 .f32) (v870 : FVec F S256x128 .f32) (v874 : FVec F S256x128 .f32) (v888 : FVec F S256x128 .f32) (v892 : FVec F S256x128 .f32), FVec F S256x128 .f32))) (by exact rfl), wp_ret]
  iintro H; imodintro; iexact H

theorem k0_part5_run (B : Blocks F) (C : Car F) (A : Acc F) (K : _ → sProp 𝕄) :
    iprop(owns (c : Thread nD τ) arg10 fullShare (accBuf A) ∗ (iprop(owns (c : Thread nD τ) arg10 fullShare (accBuf (stp (B.accM C) 1 0 (stp (B.accM C) 0 0 A)))) -∗ K ⟨(csN B.tri' (B.zM 1 3)), (k0_pay28 (C 0 1) (csN B.tri' (B.zM 0 1)))⟩))
      ⊢ wp frame (wpE (defs₀ (F := F)) 𝒱 (c : Thread nD τ) bd) E
        (k0_part5 B.i arg3 harg3 arg4 harg4 arg5 harg5 arg6 harg6 arg7 harg7 arg8 harg8 arg9 harg9 arg10 harg10 (C 0 0) (C 1 0) (C 0 1) B.tri' B.mV B.mV (B.zM 0 0) (csN B.tri' (B.zM 0 0)) (B.zM 1 0) (csN B.tri' (B.zM 1 0)) (csN B.tri' (B.zM 0 1)) (B.zM 1 3) (k0_pay24 (B.q 1) k0_pay3 B.mK)) K := by
  rw [k0_part5_eq_skeleton]; unfold k0_part5_skel
  simp only [Prog.lift, Prog.bind_op, Prog.bind_ret, Prog.pure_eq_ret]
  iintro ⟨H10, Hk⟩
  iapply (ldA 𝒱 c bd E _ 0 0) $$ H10; iintro H10
  iapply (ldA 𝒱 c bd E _ 0 0) $$ H10; iintro H10
  rw [store_eq (F := F) (w' := B.accM C 0 0 (A 0 0)) (by exact rfl)]
  iapply (stA 𝒱 c bd E _ 0 0) $$ H10; iintro H10
  iapply (ldA 𝒱 c bd E _ 1 0) $$ H10; iintro H10
  iapply (ldA 𝒱 c bd E _ 1 0) $$ H10; iintro H10
  rw [store_eq (F := F) (w' := B.accM C 1 0 ((stp (B.accM C) 0 0 A) 1 0)) (by exact rfl)]
  iapply (stA 𝒱 c bd E _ 1 0) $$ H10; iintro H10
  rw [ret_eq (F := F) (y := (⟨(csN B.tri' (B.zM 1 3)), (k0_pay28 (C 0 1) (csN B.tri' (B.zM 0 1)))⟩ : (Σ' (v906 : FVec F S256x128 .f32), FVec F S256x128 .f32))) (by exact rfl), wp_ret]; imodintro
  iapply Hk
  iexact H10

theorem k0_part6_run (B : Blocks F) (C : Car F) (A : Acc F) (K : _ → sProp 𝕄) :
    iprop(owns (c : Thread nD τ) arg10 fullShare (accBuf (stp (B.accM C) 1 0 (stp (B.accM C) 0 0 A))) ∗ (iprop(owns (c : Thread nD τ) arg10 fullShare (accBuf (stp (B.accM C) 0 2 (stp (B.accM C) 1 1 (stp (B.accM C) 0 1 (stp (B.accM C) 1 0 (stp (B.accM C) 0 0 A))))))) -∗ K (k0_pay32 (C 1 2) (csN B.tri' (B.zM 1 2)))))
      ⊢ wp frame (wpE (defs₀ (F := F)) 𝒱 (c : Thread nD τ) bd) E
        (k0_part6 B.i arg3 harg3 arg4 harg4 arg5 harg5 arg6 harg6 arg7 harg7 arg8 harg8 arg9 harg9 arg10 harg10 (C 1 1) (C 0 2) (C 1 2) B.mV B.mV B.mV (B.zM 0 1) (B.zM 1 1) (csN B.tri' (B.zM 1 1)) (B.zM 0 2) (csN B.tri' (B.zM 0 2)) (csN B.tri' (B.zM 1 2)) (k0_pay28 (C 0 1) (csN B.tri' (B.zM 0 1)))) K := by
  rw [k0_part6_eq_skeleton]; unfold k0_part6_skel
  simp only [Prog.lift, Prog.bind_op, Prog.bind_ret, Prog.pure_eq_ret]
  iintro ⟨H10, Hk⟩
  iapply (ldA 𝒱 c bd E _ 0 1) $$ H10; iintro H10
  iapply (ldA 𝒱 c bd E _ 0 1) $$ H10; iintro H10
  rw [store_eq (F := F) (w' := B.accM C 0 1 ((stp (B.accM C) 1 0 (stp (B.accM C) 0 0 A)) 0 1)) (by exact rfl)]
  iapply (stA 𝒱 c bd E _ 0 1) $$ H10; iintro H10
  iapply (ldA 𝒱 c bd E _ 1 1) $$ H10; iintro H10
  iapply (ldA 𝒱 c bd E _ 1 1) $$ H10; iintro H10
  rw [store_eq (F := F) (w' := B.accM C 1 1 ((stp (B.accM C) 0 1 (stp (B.accM C) 1 0 (stp (B.accM C) 0 0 A))) 1 1)) (by exact rfl)]
  iapply (stA 𝒱 c bd E _ 1 1) $$ H10; iintro H10
  iapply (ldA 𝒱 c bd E _ 0 2) $$ H10; iintro H10
  iapply (ldA 𝒱 c bd E _ 0 2) $$ H10; iintro H10
  rw [store_eq (F := F) (w' := B.accM C 0 2 ((stp (B.accM C) 1 1 (stp (B.accM C) 0 1 (stp (B.accM C) 1 0 (stp (B.accM C) 0 0 A)))) 0 2)) (by exact rfl)]
  iapply (stA 𝒱 c bd E _ 0 2) $$ H10; iintro H10
  rw [ret_eq (F := F) (y := ((k0_pay32 (C 1 2) (csN B.tri' (B.zM 1 2))) : (FVec F S256x128 .f32))) (by exact rfl), wp_ret]; imodintro
  iapply Hk
  iexact H10

end Cert.KernelIdeal.SB

end
-- ==== Proof.SB.KernelIdeal.While.lean ====
/-
  The walk over earlier blocks: the loop's function, called with `k` blocks at most still to take, does to the
  accumulators and to the carried sums what the model's walk says, by induction on `k`.
-/
module

public import proofs.«01_k».proof.Proof.SB.KernelIdeal.Parts
public import Idealize.ShloMosaic.Lib.WordCmp

@[expose] public section

noncomputable section

namespace Cert.KernelIdeal.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SB (rd ld st)
open Blocks

variable {F : FTy → Type} [FloatOps F] [Named F]

local notation "𝕄" => MT nD τ sig Unit (Elt F) ℕ (UR sig nD τ) ℕ

/-- The loop's variants are the numbers of blocks still to take. -/
abbrev 𝒱₀ : Variants := Variants.nat

/-! ## The counter -/

theorem nWalk_eq (B : Blocks F) : B.nWalk = BitVec.ofNat 32 (4 * (B.i 2).val + 3) := by
  have h : (B.i 2).val < 8 := (B.i 2).isLt
  unfold nWalk
  generalize (B.i 2).val = q at h
  revert h; revert q
  decide

theorem nWalk_toNat (B : Blocks F) : B.nWalk.toNat = 4 * (B.i 2).val + 3 := by
  have h : (B.i 2).val < 8 := (B.i 2).isLt
  rw [nWalk_eq, BitVec.toNat_ofNat, Nat.mod_eq_of_lt (by omega)]

/-- A trip's block lies inside the array. -/
theorem chk_of_lt (i : grid0.Coords) (n : ℕ) (hn : n < 4 * (i 2).val + 3) : k0_chk1 i (BitVec.ofNat 32 n) := by
  have h : (i 2).val < 8 := (i 2).isLt
  unfold k0_chk1 k0_mult25 k0_mult26 k0_off3
  dsimp only
  generalize (i 2).val = q at h hn
  have key : ∀ q : Fin 8, ∀ n : Fin 31, n.val < 4 * q.val + 3 →
      256 ∣ (Scalar.muli (Scalar.subi (Scalar.subi (Scalar.subi (Scalar.addi (Scalar.muli (BitVec.ofNat 32 q.val) 4#32) 4#32) 1#32) 1#32) (BitVec.ofNat 32 n.val)) 256#32).toNat
      ∧ (Scalar.muli (Scalar.subi (Scalar.subi (Scalar.subi (Scalar.addi (Scalar.muli (BitVec.ofNat 32 q.val) 4#32) 4#32) 1#32) 1#32) (BitVec.ofNat 32 n.val)) 256#32).toNat + 256 ≤ 8192 := by decide
  obtain ⟨k1, k2⟩ := key ⟨q, h⟩ ⟨n, by omega⟩ hn
  refine ⟨k1, ?_, k1⟩
  intro a
  match a with
  | ⟨0, _⟩ => show 0 + 1 ≤ 1; omega
  | ⟨1, _⟩ => exact k2
  | ⟨2, _⟩ => show 0 + 128 ≤ 128; omega

theorem addi_one (n : ℕ) : Scalar.addi (BitVec.ofNat 32 n) 1#32 = BitVec.ofNat 32 (n + 1) := by
  show BitVec.ofNat 32 n + 1#32 = _
  rw [BitVec.ofNat_add]

/-- At the end of the blocks the test fails. -/
theorem test_end (B : Blocks F) (lw : F .f32) : ¬ B.test B.nWalk lw = 1#1 := by
  unfold test
  have : Scalar.cmpi .slt B.nWalk B.nWalk = 0#1 := by
    rw [nWalk_eq]
    have h : (B.i 2).val < 8 := (B.i 2).isLt
    generalize (B.i 2).val = q at h
    revert h; revert q; decide
  rw [this]
  show ¬ (0#1 &&& _ = 1#1)
  simp

section
variable (c : Dev nD) (E : Set ℕ)
  (arg4 : Memref sig .tc .vmem S1x8192x128 .bf16) (harg4 : arg4.IsWhole)
  (arg5 : Memref sig .tc .vmem S1x8192x128 .bf16) (harg5 : arg5.IsWhole)
  (arg10 : Memref sig .tc .vmem S2x1024x128 .f32) (harg10 : arg10.IsWhole)

/-- What the loop returns. -/
abbrev Res (F : FTy → Type) : Type := BitVec 32 × F .f32 × F .f32 × FVec F S256x1 .f32 × FVec F S256x1 .f32 × FVec F S256x1 .f32
  × FVec F S256x1 .f32 × FVec F S256x1 .f32 × FVec F S256x1 .f32 × FVec F S256x1 .f32 × FVec F S256x1 .f32

/-- A state as the loop returns it. -/
abbrev resOf (j : BitVec 32) (s : St F) : Res F :=
  (j, s.lw, s.la, s.car 0 0, s.car 1 0, s.car 0 1, s.car 1 1, s.car 0 2, s.car 1 2, s.car 0 3, s.car 1 3)

/-- The loop's argument at a state. -/
def argOf (B : Blocks F) (j : BitVec 32) (s : St F) : Cc0While1 F :=
  ⟨B.i, arg4, harg4, arg5, harg5, (iota .tc S256x256 32 [1] iota_S256x256_d1_w32), B.q 0, B.tri, B.q 1, arg10, harg10, j, s.lw, s.la,
    s.car 0 0, s.car 1 0, s.car 0 1, s.car 1 1, s.car 0 2, s.car 1 2, s.car 0 3, s.car 1 3⟩

/-- What the loop does from a state: it keeps the keys and the values, and leaves the accumulators and returns the
    carried sums as the model's walk has them. -/
def spec (B : Blocks F) (k : ℕ) (j : BitVec 32) (s : St F) : sWPT 𝕄 (Res F) := do
  sWPT.consume (iprop(owns (c : Thread nD τ) arg4 fullShare B.x4 ∗ owns (c : Thread nD τ) arg5 fullShare B.x5
    ∗ owns (c : Thread nD τ) arg10 fullShare (accBuf s.acc)))
  let r ← sWPT.arbitrary
  sWPT.assume (∃ j', r = resOf j' (B.walk k j s))
  sWPT.produce (iprop(owns (c : Thread nD τ) arg4 fullShare B.x4 ∗ owns (c : Thread nD τ) arg5 fullShare B.x5
    ∗ owns (c : Thread nD τ) arg10 fullShare (accBuf (B.walk k j s).acc)))
  pure r

theorem spec_apply (B : Blocks F) (k : ℕ) (j : BitVec 32) (s : St F) (K : Res F → sProp 𝕄) :
    spec c arg4 arg5 arg10 B k j s K
      = iprop(iprop(owns (c : Thread nD τ) arg4 fullShare B.x4 ∗ owns (c : Thread nD τ) arg5 fullShare B.x5
          ∗ owns (c : Thread nD τ) arg10 fullShare (accBuf s.acc))
        ∗ ∀ r : Res F, ⌜∃ j', r = resOf j' (B.walk k j s)⌝ -∗ (iprop(owns (c : Thread nD τ) arg4 fullShare B.x4 ∗ owns (c : Thread nD τ) arg5 fullShare B.x5
          ∗ owns (c : Thread nD τ) arg10 fullShare (accBuf (B.walk k j s).acc)) -∗ K r)) := rfl

theorem spec_le (B : Blocks F) : ∀ k n, n + k = 4 * (B.i 2).val + 3 → ∀ s K, spec c arg4 arg5 arg10 B k (BitVec.ofNat 32 n) s K
      ⊢ wp frame (wpE (defs₀ (F := F)) 𝒱₀ (c : Thread nD τ) (some k)) E
          (defs₀ (F := F) .tc 1 (argOf arg4 harg4 arg5 harg5 arg10 harg10 B (BitVec.ofNat 32 n) s)) K := by
  intro k
  induction k with
  | zero =>
    intro n hn s K
    have hw : BitVec.ofNat 32 n = B.nWalk := by rw [nWalk_eq, show n = 4 * (B.i 2).val + 3 by omega]
    rw [spec_apply, hw]
    have htest := test_end B s.lw
    show _ ⊢ wp frame (wpE (defs₀ (F := F)) 𝒱₀ (c : Thread nD τ) (some 0)) E
      (cc0_while1 B.i arg4 harg4 arg5 harg5 (iota .tc S256x256 32 [1] iota_S256x256_d1_w32) (B.q 0) B.tri (B.q 1) arg10 harg10 B.nWalk s.lw s.la
        (s.car 0 0) (s.car 1 0) (s.car 0 1) (s.car 1 1) (s.car 0 2) (s.car 1 2) (s.car 0 3) (s.car 1 3)) K
    rw [cc0_while1_eq_skeleton]; unfold cc0_while1_skel
    dsimp only
    split
    · rename_i h; exact absurd h htest
    rw [Prog.pure_eq_ret, wp_ret]
    iintro ⟨H, Hk⟩
    imodintro
    iapply Hk
    · ipureintro; exact ⟨_, rfl⟩
    · iexact H
  | succ k ih =>
    intro n hn s K
    rw [spec_apply]
    show _ ⊢ wp frame (wpE (defs₀ (F := F)) 𝒱₀ (c : Thread nD τ) (some (k + 1))) E
      (cc0_while1 B.i arg4 harg4 arg5 harg5 (iota .tc S256x256 32 [1] iota_S256x256_d1_w32) (B.q 0) B.tri (B.q 1) arg10 harg10 (BitVec.ofNat 32 n) s.lw s.la
        (s.car 0 0) (s.car 1 0) (s.car 0 1) (s.car 1 1) (s.car 0 2) (s.car 1 2) (s.car 0 3) (s.car 1 3)) K
    rw [cc0_while1_eq_skeleton]; unfold cc0_while1_skel
    dsimp only
    have hj : k0_chk1 B.i (BitVec.ofNat 32 n) := chk_of_lt B.i n (by omega)
    split
    · rename_i htest'
      have htest : B.test (BitVec.ofNat 32 n) s.lw = 1#1 := htest'
      have hwalk : B.walk (k + 1) (BitVec.ofNat 32 n) s = B.walk k (BitVec.ofNat 32 (n + 1)) (B.step (BitVec.ofNat 32 n) hj s) := by
        rw [walk, if_pos htest, dif_pos hj, addi_one]
      rw [hwalk]
      simp only [Prog.lift, Prog.bind_op, Prog.bind_ret, Prog.pure_eq_ret]
      iintro ⟨⟨H4, H5, H10⟩, Hk⟩
      rw [wp_bind]
      iapply (k0_part27_run 𝒱₀ c (some (k + 1)) E arg4 harg4 arg5 harg5 arg10 harg10 B _ hj s)
      isplitl [H4]; · iexact H4
      isplitl [H5]; · iexact H5
      iintro ⟨H4, H5⟩
      dsimp only
      rw [wp_bind]
      iapply (k0_part28_run 𝒱₀ c (some (k + 1)) E arg4 harg4 arg5 harg5 arg10 harg10 B _ hj s)
      dsimp only
      rw [wp_bind]
      iapply (k0_part29_run 𝒱₀ c (some (k + 1)) E arg4 harg4 arg5 harg5 arg10 harg10 B _ hj s)
      dsimp only
      rw [wp_bind]
      iapply (k0_part30_run 𝒱₀ c (some (k + 1)) E arg4 harg4 arg5 harg5 arg10 harg10 B _ hj s)
      dsimp only
      rw [wp_bind]
      iapply (k0_part31_run 𝒱₀ c (some (k + 1)) E arg4 harg4 arg5 harg5 arg10 harg10 B _ hj s)
      dsimp only
      rw [wp_bind]
      iapply (k0_part32_run 𝒱₀ c (some (k + 1)) E arg4 harg4 arg5 harg5 arg10 harg10 B _ hj s s.acc)
      isplitl [H10]; · iexact H10
      iintro H10
      dsimp only
      rw [wp_bind]
      iapply (k0_part33_run 𝒱₀ c (some (k + 1)) E arg4 harg4 arg5 harg5 arg10 harg10 B _ hj s s.acc)
      isplitl [H10]; · iexact H10
      iintro H10
      rw [wp_bind]
      iapply (k0_part34_run 𝒱₀ c (some (k + 1)) E arg4 harg4 arg5 harg5 arg10 harg10 B _ hj s s.acc)
      isplitl [H10]; · iexact H10
      iintro H10
      rw [store_eq (F := F) (w' := B.accWk (BitVec.ofNat 32 n) hj s.car 1 3 ((stp (B.accWk (BitVec.ofNat 32 n) hj s.car) 0 3
        (stp (B.accWk (BitVec.ofNat 32 n) hj s.car) 1 2 (stp (B.accWk (BitVec.ofNat 32 n) hj s.car) 0 2 (stp (B.accWk (BitVec.ofNat 32 n) hj s.car) 1 1
        (stp (B.accWk (BitVec.ofNat 32 n) hj s.car) 0 1 (stp (B.accWk (BitVec.ofNat 32 n) hj s.car) 1 0 (stp (B.accWk (BitVec.ofNat 32 n) hj s.car) 0 0 s.acc))))))) 1 3))
        (by exact k0_pay2_eq _ _ _ _ _)]
      iapply (stA 𝒱₀ c (some (k + 1)) E _ 1 3) $$ H10; iintro H10
      iapply (wp_call_spec 𝒱₀ (c : Thread nD τ) (some (k + 1)) E
        (spec c arg4 arg5 arg10 B k (BitVec.ofNat 32 (n + 1)) (B.step (BitVec.ofNat 32 n) hj s)) k
        (fun u hu => by cases hu; exact Nat.lt_succ_self k)
        (by
          intro K
          have := ih (n + 1) (by omega) (B.step (BitVec.ofNat 32 n) hj s) K
          rw [show argOf arg4 harg4 arg5 harg5 arg10 harg10 B (BitVec.ofNat 32 (n + 1)) (B.step (BitVec.ofNat 32 n) hj s)
            = argOf arg4 harg4 arg5 harg5 arg10 harg10 B (Scalar.addi (BitVec.ofNat 32 n) 1#32) (B.step (BitVec.ofNat 32 n) hj s) by rw [addi_one]] at this
          exact this))
      rw [spec_apply]
      isplitl [H4 H5 H10]
      · isplitl [H4]; · iexact H4
        isplitl [H5]; · iexact H5
        have he : upd (stp (B.accWk (BitVec.ofNat 32 n) hj s.car) 0 3
          (stp (B.accWk (BitVec.ofNat 32 n) hj s.car) 1 2 (stp (B.accWk (BitVec.ofNat 32 n) hj s.car) 0 2 (stp (B.accWk (BitVec.ofNat 32 n) hj s.car) 1 1
          (stp (B.accWk (BitVec.ofNat 32 n) hj s.car) 0 1 (stp (B.accWk (BitVec.ofNat 32 n) hj s.car) 1 0 (stp (B.accWk (BitVec.ofNat 32 n) hj s.car) 0 0 s.acc))))))) 1 3
          (B.accWk (BitVec.ofNat 32 n) hj s.car 1 3 ((stp (B.accWk (BitVec.ofNat 32 n) hj s.car) 0 3
          (stp (B.accWk (BitVec.ofNat 32 n) hj s.car) 1 2 (stp (B.accWk (BitVec.ofNat 32 n) hj s.car) 0 2 (stp (B.accWk (BitVec.ofNat 32 n) hj s.car) 1 1
          (stp (B.accWk (BitVec.ofNat 32 n) hj s.car) 0 1 (stp (B.accWk (BitVec.ofNat 32 n) hj s.car) 1 0 (stp (B.accWk (BitVec.ofNat 32 n) hj s.car) 0 0 s.acc))))))) 1 3))
          = (B.step (BitVec.ofNat 32 n) hj s).acc := stp_all s.acc (B.accWk (BitVec.ofNat 32 n) hj s.car)
        rw [he]; iexact H10
      iintro %r %hr ⟨H4, H5, H10⟩
      rw [wp_ret]; imodintro
      iapply Hk
      · ipureintro; exact hr
      · isplitl [H4]; · iexact H4
        isplitl [H5]; · iexact H5
        iexact H10
    · rename_i htest'
      have htest : ¬ B.test (BitVec.ofNat 32 n) s.lw = 1#1 := htest'
      have hwalk : B.walk (k + 1) (BitVec.ofNat 32 n) s = s := by rw [walk, if_neg htest]
      rw [hwalk, Prog.pure_eq_ret, wp_ret]
      iintro ⟨H, Hk⟩
      imodintro
      iapply Hk
      · ipureintro; exact ⟨_, rfl⟩
      · iexact H

end

end Cert.KernelIdeal.SB

end
-- ==== Proof.SB.KernelIdeal.Reads.lean ====
/-
  What a grid step reads, at an index over the extended reals: the scaled queries of each head, the rows of keys and
  values of each block, the masks, and so the scores.
-/
module

public import proofs.«01_k».proof.Proof.SB.KernelIdeal.Tiles
public import proofs.«01_k».proof.Proof.SB.KernelIdeal.While
public import Idealize.ShloMosaic.Lib.Affine

@[expose] public section

noncomputable section

namespace Cert.KernelIdeal.SB

open Cert.KernelIdeal Cert.KernelIdeal.Gen
open Idealize.ShloMosaic hiding ix0 ix1 ix2 ix3 ix4 ix5
open Idealize.ShloMosaic.ValueIdx
open Cert.SB
open scoped BigOperators

/-- What the blocks hold: real queries, keys and values, and the triangle. Positions 0..15 are the meta rows. -/
structure Holds (B : Blocks Ideal) (Q K V : ℕ → ℕ → ℝ) : Prop where
  q : ∀ (r : Fin 1024) (l : Fin 128), B.x3 (ix3 0 r l) = ((Q r.val l.val : ℝ) : EReal)
  k : ∀ (s : Fin 8192) (l : Fin 128), B.x4 (ix3 0 s l) = ((K (16 + s.val) l.val : ℝ) : EReal)
  v : ∀ (s : Fin 8192) (l : Fin 128), B.x5 (ix3 0 s l) = ((V (16 + s.val) l.val : ℝ) : EReal)
  kM : ∀ s l : Fin 128, s.val < 16 → B.x6 (ix2 s l) = ((K s.val l.val : ℝ) : EReal)
  vM : ∀ s l : Fin 128, s.val < 16 → B.x7 (ix2 s l) = ((V s.val l.val : ℝ) : EReal)
  tri : ∀ j k : Fin 256, B.x8 (ix2 j k) = if k ≤ j then (1 : EReal) else 0

/-- A lane of a head's query: nothing outside the head, inside it the query scaled. -/
def qR (Q : ℕ → ℕ → ℝ) (h : Fin 2) (r l : ℕ) : ℝ := if (l < 64 ↔ h = 0) then Q r l * ((1 / 8) * lg) else 0

/-- The score of a row of the block against a position, to base two. -/
def zz (Q K : ℕ → ℕ → ℝ) (h : Fin 2) (r s : ℕ) : ℝ := ∑ l : Fin 128, qR Q h r l.val * K s l.val

theorem scale_eq : (Named.named κ "scale" 0x3E38AA3B#32 : Ideal .f32) = (((1 / 8) * lg : ℝ) : EReal) :=
  IdealRules.named_const.ideal_named_scalar _ _ _ _ rfl

theorem rd_unit {s : Shape} {β : Type} (X : s.Idx → β) (off size : Fin s.rank → ℕ) (inb : ∀ a, off a + size a ≤ s.size a)
    (j : (Rect.unit off size inb).toLoadRect.shape.Idx) (y : s.Idx) (h : ∀ a, (y a).val = off a + (j a).val) :
    rd X (Rect.unit off size inb).toLoadRect j = X y := by
  unfold rd
  congr 1
  funext a
  exact Fin.ext (by rw [h a]; show off a + 1 * (j a).val = _; rw [Nat.one_mul])

variable (B : Blocks Ideal) (Q K V : ℕ → ℕ → ℝ)

theorem lane_lt (l : Fin 128) : Scalar.cmpi .slt (BitVec.ofNat 32 l.val) 64#32 = if l.val < 64 then 1#1 else 0#1 := by
  revert l; decide
theorem lane_ge (l : Fin 128) : Scalar.cmpi .sge (BitVec.ofNat 32 l.val) 64#32 = if l.val < 64 then 0#1 else 1#1 := by
  revert l; decide

section
variable {B Q K V}
variable (H : Holds B Q K V)

include H in
theorem pay36_apply (r : Fin 1024) (l : Fin 128) :
    (k0_pay36 (F := Ideal) (rd B.x3 (Rect.unit (s := S1x1024x128) ![0, 0, 0] S1x1024x128.size inb_S1x1024x128_S1x1024x128_0_0_0).toLoadRect) (ix2 r l) : EReal)
      = ((Q r.val l.val * ((1 / 8) * lg) : ℝ) : EReal) := by
  unfold k0_pay36
  dsimp only
  rw [truncf_apply, mulf_apply, extf_apply]
  show _ * (Named.named κ "scale" 0x3E38AA3B#32 : Ideal .f32) = _
  rw [scale_eq, EReal.coe_mul (Q r.val l.val), ← H.q r l]
  congr 1
  refine (drop3 (m := 1024) (n := 128) _ _ r l).trans ?_
  refine rd_unit B.x3 _ _ _ _ _ fun a => ?_
  match a with
  | ⟨0, _⟩ => rfl
  | ⟨1, _⟩ => exact (Nat.zero_add _).symm
  | ⟨2, _⟩ => exact (Nat.zero_add _).symm

theorem bz_eq : (Scalar.ofBits .bf16 0x0000#16 : Ideal .bf16) = (0 : EReal) := Ideal.ofBits_zero_bf16

include H in
theorem q_apply (h : Fin 2) (r : Fin 1024) (l : Fin 128) : B.q h (ix2 r l) = ((qR Q h r.val l.val : ℝ) : EReal) := by
  match h with
  | 0 =>
    show Scalar.select (Scalar.cmpi .slt (iota .tc S1024x128 32 [1] iota_S1024x128_d1_w32 (ix2 r l)) 64#32) (k0_pay36 _ (ix2 r l)) (Scalar.ofBits .bf16 0x0000#16 : Ideal .bf16) = _
    rw [iota_single_apply, pay36_apply H, bz_eq]
    show Scalar.select (Scalar.cmpi .slt (BitVec.ofNat 32 l.val) 64#32) _ _ = _
    rw [lane_lt]
    unfold qR
    by_cases hl : l.val < 64
    · rw [if_pos hl, if_pos (by simp [hl])]; rfl
    · rw [if_neg hl, if_neg (by simp [hl])]; rfl
  | 1 =>
    show Scalar.select (Scalar.cmpi .sge (iota .tc S1024x128 32 [1] iota_S1024x128_d1_w32 (ix2 r l)) 64#32) (k0_pay36 _ (ix2 r l)) (Scalar.ofBits .bf16 0x0000#16 : Ideal .bf16) = _
    rw [iota_single_apply, pay36_apply H, bz_eq]
    show Scalar.select (Scalar.cmpi .sge (BitVec.ofNat 32 l.val) 64#32) _ _ = _
    rw [lane_ge]
    unfold qR
    by_cases hl : l.val < 64
    · rw [if_pos hl, if_neg (by simp [hl])]; rfl
    · rw [if_neg hl, if_pos (by simp [hl])]; rfl

end

/-- The row of the block that row `r` of group `a` is. -/
def row (a : Fin 4) (r : Fin 256) : Fin 1024 := ⟨256 * a.val + r.val, by omega⟩

theorem rows_apply {α : Type} (v : S1024x128.Idx → α) (o : ℕ) (h : S1024x128.Slices ![o, 0] S256x128) (r : Fin 256) (l : Fin 128)
    (y : Fin 1024) (hy : y.val = o + r.val) : extractStridedSlice S256x128 ![o, 0] v h (ix2 r l) = v (ix2 y l) := by
  rw [Pointwise.extractStridedSlice_apply]
  congr 1
  funext d
  match d with
  | ⟨0, _⟩ => exact Fin.ext hy.symm
  | ⟨1, _⟩ => exact Fin.ext (Nat.zero_add _)

theorem sl_apply (v : FVec Ideal S1024x128 .bf16) (a : Fin 4) (r : Fin 256) (l : Fin 128) : sl v a (ix2 r l) = v (ix2 (row a r) l) := by
  match a with
  | 0 => exact rows_apply v 0 slices_S1024x128_o0_0_S256x128 r l _ rfl
  | 1 => exact rows_apply v 256 slices_S1024x128_o256_0_S256x128 r l _ rfl
  | 2 => exact rows_apply v 512 slices_S1024x128_o512_0_S256x128 r l _ rfl
  | 3 => exact rows_apply v 768 slices_S1024x128_o768_0_S256x128 r l _ rfl

/-! ## Where the blocks start -/

theorem off1_eq (i : grid0.Coords) (a : Fin 4) : k0_off1 i (BitVec.ofNat 32 (256 * a.val)) = ![0, 1024 * (i 2).val + 256 * a.val, 0] := by
  have h : (i 2).val < 8 := (i 2).isLt
  unfold k0_off1
  dsimp only
  generalize (i 2).val = q at h
  have key : ∀ q : Fin 8, ∀ a : Fin 4, (Scalar.indexCast (Scalar.addi (Scalar.muli (BitVec.ofNat 32 q.val) 1024#32) (BitVec.ofNat 32 (256 * a.val)))).toNat
      = 1024 * q.val + 256 * a.val := by decide
  rw [key ⟨q, h⟩ a]

theorem off2_eq (i : grid0.Coords) (a : Fin 4) : k0_off2 i (BitVec.ofNat 32 (256 * a.val)) = ![0, 1024 * (i 2).val + 256 * a.val - 128, 0] := by
  have h : (i 2).val < 8 := (i 2).isLt
  unfold k0_off2
  dsimp only
  generalize (i 2).val = q at h
  have key : ∀ q : Fin 8, ∀ a : Fin 4, (Scalar.indexCast (Scalar.maxsi (Scalar.subi (Scalar.addi (Scalar.muli (BitVec.ofNat 32 q.val) 1024#32) (BitVec.ofNat 32 (256 * a.val))) 128#32) 0#32)).toNat
      = 1024 * q.val + 256 * a.val - 128 := by decide
  rw [key ⟨q, h⟩ a]

theorem off3_eq (i : grid0.Coords) (n : ℕ) (hn : n < 4 * (i 2).val + 3) :
    k0_off3 i (BitVec.ofNat 32 n) = ![0, 256 * (4 * (i 2).val + 2 - n), 0] := by
  have h : (i 2).val < 8 := (i 2).isLt
  unfold k0_off3
  dsimp only
  generalize (i 2).val = q at h hn
  have key : ∀ q : Fin 8, ∀ n : Fin 31, n.val < 4 * q.val + 3 →
      (Scalar.indexCast (Scalar.muli (Scalar.subi (Scalar.subi (Scalar.subi (Scalar.addi (Scalar.muli (BitVec.ofNat 32 q.val) 4#32) 4#32) 1#32) 1#32) (BitVec.ofNat 32 n.val)) 256#32)).toNat
      = 256 * (4 * q.val + 2 - n.val) := by decide
  rw [key ⟨q, h⟩ ⟨n, by omega⟩ hn]

theorem atD_apply (x : S1x8192x128.Idx → Ideal .bf16) (a : Fin 4) (r : Fin 256) (l : Fin 128)
    (hs : 1024 * (B.i 2).val + 256 * a.val + r.val < 8192) :
    B.atD x a (ix2 r l) = x (ix3 0 ⟨1024 * (B.i 2).val + 256 * a.val + r.val, hs⟩ l) := by
  unfold Blocks.atD
  refine (drop3 (m := 256) (n := 128) _ _ r l).trans ?_
  refine rd_unit x _ _ _ _ _ fun d => ?_
  refine Eq.trans ?_ (congrArg (· + _) (congrFun (off1_eq B.i a) d).symm)
  match d with
  | ⟨0, _⟩ => rfl
  | ⟨1, _⟩ => rfl
  | ⟨2, _⟩ => exact (Nat.zero_add _).symm

theorem atN_apply (x : S1x8192x128.Idx → Ideal .bf16) (a : Fin 4) (r : Fin 128) (l : Fin 128)
    (hs : 1024 * (B.i 2).val + 256 * a.val - 128 + r.val < 8192) :
    B.atN x a (ix2 r l) = x (ix3 0 ⟨1024 * (B.i 2).val + 256 * a.val - 128 + r.val, hs⟩ l) := by
  unfold Blocks.atN
  refine (drop3 (m := 128) (n := 128) _ _ r l).trans ?_
  refine rd_unit x _ _ _ _ _ fun d => ?_
  refine Eq.trans ?_ (congrArg (· + _) (congrFun (off2_eq B.i a) d).symm)
  match d with
  | ⟨0, _⟩ => rfl
  | ⟨1, _⟩ => rfl
  | ⟨2, _⟩ => exact (Nat.zero_add _).symm

theorem atW_apply (x : S1x8192x128.Idx → Ideal .bf16) (n : ℕ) (hn : n < 4 * (B.i 2).val + 3) (hj : k0_chk1 B.i (BitVec.ofNat 32 n))
    (r : Fin 256) (l : Fin 128) (hs : 256 * (4 * (B.i 2).val + 2 - n) + r.val < 8192) :
    B.atW x (BitVec.ofNat 32 n) hj (ix2 r l) = x (ix3 0 ⟨256 * (4 * (B.i 2).val + 2 - n) + r.val, hs⟩ l) := by
  unfold Blocks.atW
  refine (drop3 (m := 256) (n := 128) _ _ r l).trans ?_
  refine rd_unit x _ _ _ _ _ fun d => ?_
  refine Eq.trans ?_ (congrArg (· + _) (congrFun (off3_eq B.i n hn) d).symm)
  match d with
  | ⟨0, _⟩ => rfl
  | ⟨1, _⟩ => rfl
  | ⟨2, _⟩ => exact (Nat.zero_add _).symm

/-! ## The scores -/

section
variable {B Q K V}
variable (H : Holds B Q K V)

theorem sum_scores (h : Fin 2) (r : ℕ) (s : ℕ) (f g : Fin 128 → EReal) (hf : ∀ l, f l = ((qR Q h r l.val : ℝ) : EReal))
    (hg : ∀ l, g l = ((K s l.val : ℝ) : EReal)) : ∑ l, f l * g l = ((zz Q K h r s : ℝ) : EReal) := by
  unfold zz
  rw [← coe_sum]
  exact Finset.sum_congr rfl fun l _ => by rw [hf, hg, EReal.coe_mul]

theorem qi_lt (B : Blocks Ideal) : (B.i 2).val < 8 := (B.i 2).isLt

include H in
theorem slq_apply (h : Fin 2) (a : Fin 4) (r : Fin 256) (l : Fin 128) :
    sl (B.q h) a (ix2 r l) = ((qR Q h (row a r).val l.val : ℝ) : EReal) := by
  rw [sl_apply, q_apply H]

theorem pay42_apply (r k : Fin 256) : k0_pay42 (ix2 r k) = if k.val < r.val then 1#1 else 0#1 := by
  show IntOp.cmpi .slt (iota .tc S256x256 32 [1] iota_S256x256_d1_w32 (ix2 r k)) (iota .tc S256x256 32 [0] iota_S256x256_d0_w32 (ix2 r k)) = _
  rw [iota_single_apply, iota_single_apply]
  show IntOp.cmpi .slt (BitVec.ofNat 32 k.val) (BitVec.ofNat 32 r.val) = _
  have hk := k.isLt
  have hr := r.isLt
  rw [WordCmp.cmpi_slt_ofNat (by omega) (by omega)]
  by_cases h : k.val < r.val
  · rw [if_pos h, decide_eq_true h]; rfl
  · rw [if_neg h, decide_eq_false h]; rfl

/-- The first key a row group's own rows are at. -/
def d0 (B : Blocks Ideal) (a : Fin 4) : ℕ := 1024 * (B.i 2).val + 256 * a.val

theorem maskW_apply (n : ℕ) (hn : n < 4 * (B.i 2).val + 3) (a : Fin 4) (r k : Fin 256) :
    B.maskW (BitVec.ofNat 32 n) a (ix2 r k) = if k.val + 256 * (4 * (B.i 2).val + 2 - n) < d0 B a - 128 then 1#1 else 0#1 := by
  have h := qi_lt B
  show IntOp.cmpi .slt (IntOp.addi (iota .tc S256x256 32 [1] iota_S256x256_d1_w32 (ix2 r k))
    (Scalar.muli (Scalar.subi (Scalar.subi B.nWalk 1#32) (BitVec.ofNat 32 n)) 256#32))
    (Scalar.subi (Scalar.addi (Scalar.muli (BitVec.ofNat 32 (B.i 2).val) 1024#32) (BitVec.ofNat 32 (256 * a.val))) 128#32) = _
  rw [iota_single_apply, nWalk_eq]
  unfold d0
  show IntOp.cmpi .slt (BitVec.ofNat 32 k.val + _) _ = _
  generalize (B.i 2).val = q at h hn ⊢
  have k1 : ∀ q : Fin 8, ∀ n : Fin 31, n.val < 4 * q.val + 3 →
      Scalar.muli (Scalar.subi (Scalar.subi (BitVec.ofNat 32 (4 * q.val + 3)) 1#32) (BitVec.ofNat 32 n.val)) 256#32
        = BitVec.ofNat 32 (256 * (4 * q.val + 2 - n.val)) := by decide
  have k2 : ∀ q : Fin 8, ∀ a : Fin 4,
      (Scalar.subi (Scalar.addi (Scalar.muli (BitVec.ofNat 32 q.val) 1024#32) (BitVec.ofNat 32 (256 * a.val))) 128#32).toInt
        = 1024 * q.val + 256 * a.val - 128 := by decide
  rw [k1 ⟨q, h⟩ ⟨n, by omega⟩ hn, ← BitVec.ofNat_add, WordCmp.cmpi_slt_eq, WordCmp.toInt_ofNat_of_lt (by omega), k2 ⟨q, h⟩ a]
  dsimp only
  by_cases hc : k.val + 256 * (4 * q + 2 - n) < 1024 * q + 256 * a.val - 128
  · rw [if_pos hc, decide_eq_true (by omega)]; rfl
  · rw [if_neg hc, decide_eq_false (by omega)]; rfl

section
variable (H : Holds B Q K V)

include H in
theorem zD_apply (h : Fin 2) (a : Fin 4) (r k : Fin 256) :
    B.zD h a (ix2 r k) = if k.val < r.val then ((zz Q K h (row a r).val (16 + d0 B a + k.val) : ℝ) : EReal) else ⊥ := by
  have hq := qi_lt B
  show Scalar.select (k0_pay42 (ix2 r k)) (scW (sl (B.q h) a) (B.atD B.x4 a) (ix2 r k)) (negInfC : Ideal .f32) = _
  rw [pay42_apply, negInfC_eq, scW_apply]
  split
  · refine (select_one _ _).trans (sum_scores h _ _ _ _ (fun l => slq_apply H h a r l) fun l => ?_)
    rw [atD_apply B B.x4 a k l (by omega), H.k]
    exact congrArg (fun n => ((K n l.val : ℝ) : EReal)) (Nat.add_assoc 16 _ _).symm
  · exact select_zero _ _

theorem pay43_apply (i : grid0.Coords) (r : Fin 256) (k : Fin 128) : k0_pay43 i (ix2 r k) = if (i 2).val = 0 then 0#1 else 1#1 := by
  have h : (i 2).val < 8 := (i 2).isLt
  show Scalar.cmpi .sgt (BitVec.ofNat 32 (i 2).val) 0#32 = _
  generalize (i 2).val = q at h
  revert h; revert q; decide

include H in
theorem scN_near (h : Fin 2) (a : Fin 4) (r : Fin 256) (k : Fin 128) :
    scN (sl (B.q h) a) (B.atN B.x4 a) (ix2 r k) = ((zz Q K h (row a r).val (16 + (d0 B a - 128) + k.val) : ℝ) : EReal) := by
  have hq := qi_lt B
  rw [scN_apply]
  refine sum_scores h _ _ _ _ (fun l => slq_apply H h a r l) fun l => ?_
  rw [atN_apply B B.x4 a k l (by omega), H.k]
  exact congrArg (fun n => ((K n l.val : ℝ) : EReal)) (Nat.add_assoc 16 _ _).symm

/-- How many keys a row group has in the block before its own. -/
def nN (B : Blocks Ideal) (a : Fin 4) : ℕ := if d0 B a = 0 then 0 else 128

include H in
theorem zN_apply (h : Fin 2) (a : Fin 4) (r : Fin 256) (k : Fin 128) :
    B.zN h a (ix2 r k) = if k.val < nN B a then ((zz Q K h (row a r).val (16 + (d0 B a - 128) + k.val) : ℝ) : EReal) else ⊥ := by
  have pos : ∀ a : Fin 4, 0 < a.val → k.val < nN B a := by
    intro a ha
    unfold nN d0
    rw [if_neg (by omega)]; exact k.isLt
  match a with
  | 0 =>
    show Scalar.select (k0_pay43 B.i (ix2 r k)) (scN (sl (B.q h) 0) (B.atN B.x4 0) (ix2 r k)) (negInfC : Ideal .f32) = _
    rw [pay43_apply, negInfC_eq]
    by_cases h0 : (B.i 2).val = 0
    · rw [if_pos h0, if_neg (by unfold nN d0; rw [if_pos (by rw [h0]; rfl)]; omega)]; exact select_zero _ _
    · rw [if_neg h0, if_pos (by unfold nN d0; rw [if_neg (by show ¬ _ = _; omega)]; exact k.isLt)]
      exact (select_one _ _).trans (scN_near H h 0 r k)
  | 1 => rw [if_pos (pos 1 (by decide))]; exact scN_near H h 1 r k
  | 2 => rw [if_pos (pos 2 (by decide))]; exact scN_near H h 2 r k
  | 3 => rw [if_pos (pos 3 (by decide))]; exact scN_near H h 3 r k

/-- How many keys a row group has in the block a trip of the walk takes. -/
def nW (B : Blocks Ideal) (a : Fin 4) (n : ℕ) : ℕ := min 256 (d0 B a - 128 - 256 * (4 * (B.i 2).val + 2 - n))

include H in
theorem zW_apply (n : ℕ) (hn : n < 4 * (B.i 2).val + 3) (hj : k0_chk1 B.i (BitVec.ofNat 32 n)) (h : Fin 2) (a : Fin 4) (r k : Fin 256) :
    B.zW (BitVec.ofNat 32 n) hj h a (ix2 r k)
      = if k.val < nW B a n then ((zz Q K h (row a r).val (16 + 256 * (4 * (B.i 2).val + 2 - n) + k.val) : ℝ) : EReal) else ⊥ := by
  have hq := qi_lt B
  have hk := k.isLt
  show Scalar.select (B.maskW (BitVec.ofNat 32 n) a (ix2 r k)) (scW (sl (B.q h) a) (B.atW B.x4 (BitVec.ofNat 32 n) hj) (ix2 r k)) (negInfC : Ideal .f32) = _
  rw [maskW_apply n hn, negInfC_eq, scW_apply]
  by_cases hc : k.val + 256 * (4 * (B.i 2).val + 2 - n) < d0 B a - 128
  · rw [if_pos hc, if_pos (by unfold nW; omega)]
    refine (select_one _ _).trans (sum_scores h _ _ _ _ (fun l => slq_apply H h a r l) fun l => ?_)
    rw [atW_apply B B.x4 n hn hj k l (by omega), H.k]
    exact congrArg (fun n => ((K n l.val : ℝ) : EReal)) (Nat.add_assoc 16 _ _).symm
  · rw [if_neg hc, if_neg (by unfold nW; omega)]
    exact select_zero _ _

theorem lane16 (l : Fin 128) : Scalar.cmpi .slt (BitVec.ofNat 32 l.val) 16#32 = if l.val < 16 then 1#1 else 0#1 := by
  revert l; decide

include H in
theorem mK_apply (s l : Fin 128) (hs : s.val < 16) : B.mK (ix2 s l) = ((K s.val l.val : ℝ) : EReal) := by
  rw [← H.kM s l hs]
  refine rd_unit B.x6 _ _ _ _ _ fun a => ?_
  match a with
  | ⟨0, _⟩ => exact (Nat.zero_add _).symm
  | ⟨1, _⟩ => exact (Nat.zero_add _).symm

include H in
theorem mV_apply (s l : Fin 128) (hs : s.val < 16) : B.mV (ix2 s l) = ((V s.val l.val : ℝ) : EReal) := by
  rw [← H.vM s l hs]
  refine rd_unit B.x7 _ _ _ _ _ fun a => ?_
  match a with
  | ⟨0, _⟩ => exact (Nat.zero_add _).symm
  | ⟨1, _⟩ => exact (Nat.zero_add _).symm

include H in
theorem zM_apply (h : Fin 2) (a : Fin 4) (r : Fin 256) (k : Fin 128) :
    B.zM h a (ix2 r k) = if k.val < 16 then ((zz Q K h (row a r).val (0 + k.val) : ℝ) : EReal) else ⊥ := by
  show Scalar.select (Scalar.cmpi .slt (iota .tc S256x128 32 [1] iota_S256x128_d1_w32 (ix2 r k)) 16#32) (scN (sl (B.q h) a) B.mK (ix2 r k)) (negInfC : Ideal .f32) = _
  rw [iota_single_apply]
  show Scalar.select (Scalar.cmpi .slt (BitVec.ofNat 32 k.val) 16#32) _ _ = _
  rw [lane16, negInfC_eq, scN_apply]
  by_cases hk : k.val < 16
  · rw [if_pos hk, if_pos hk]
    refine (select_one _ _).trans (sum_scores h _ _ _ _ (fun l => slq_apply H h a r l) fun l => ?_)
    rw [mK_apply H k l hk, Nat.zero_add]
  · rw [if_neg hk, if_neg hk]; exact select_zero _ _

include H in
theorem tri_apply (j k : Fin 256) : B.tri (ix2 j k) = if k ≤ j then (1 : EReal) else 0 := by
  rw [← H.tri j k]
  unfold Blocks.tri k0_pay40
  dsimp only
  rw [shapeCast_self]
  refine rd_unit B.x8 _ _ _ _ _ fun a => ?_
  match a with
  | ⟨0, _⟩ => exact (Nat.zero_add _).symm
  | ⟨1, _⟩ => exact (Nat.zero_add _).symm

include H in
theorem tri'_apply (j k : Fin 128) : B.tri' (ix2 j k) = if k ≤ j then (1 : EReal) else 0 := by
  have := H.tri ⟨j.val, by omega⟩ ⟨k.val, by omega⟩
  rw [show (if k ≤ j then (1 : EReal) else 0) = if (⟨k.val, by omega⟩ : Fin 256) ≤ ⟨j.val, by omega⟩ then 1 else 0 from rfl, ← this]
  unfold Blocks.tri' k0_pay44
  dsimp only
  rw [shapeCast_self]
  refine rd_unit B.x8 _ _ _ _ _ fun a => ?_
  match a with
  | ⟨0, _⟩ => exact (Nat.zero_add _).symm
  | ⟨1, _⟩ => exact (Nat.zero_add _).symm

include H in
theorem vD_apply (a : Fin 4) (k : Fin 256) (l : Fin 128) : B.atD B.x5 a (ix2 k l) = ((V (16 + d0 B a + k.val) l.val : ℝ) : EReal) := by
  have hq := qi_lt B
  rw [atD_apply B B.x5 a k l (by omega), H.v]
  exact congrArg (fun n => ((V n l.val : ℝ) : EReal)) (Nat.add_assoc 16 _ _).symm

include H in
theorem vN_apply (a : Fin 4) (k : Fin 128) (l : Fin 128) : B.atN B.x5 a (ix2 k l) = ((V (16 + (d0 B a - 128) + k.val) l.val : ℝ) : EReal) := by
  have hq := qi_lt B
  rw [atN_apply B B.x5 a k l (by omega), H.v]
  exact congrArg (fun n => ((V n l.val : ℝ) : EReal)) (Nat.add_assoc 16 _ _).symm

include H in
theorem vW_apply (n : ℕ) (hn : n < 4 * (B.i 2).val + 3) (hj : k0_chk1 B.i (BitVec.ofNat 32 n)) (k : Fin 256) (l : Fin 128) :
    B.atW B.x5 (BitVec.ofNat 32 n) hj (ix2 k l) = ((V (16 + 256 * (4 * (B.i 2).val + 2 - n) + k.val) l.val : ℝ) : EReal) := by
  have hq := qi_lt B
  rw [atW_apply B B.x5 n hn hj k l (by omega), H.v]
  exact congrArg (fun n => ((V n l.val : ℝ) : EReal)) (Nat.add_assoc 16 _ _).symm
end

end

end Cert.KernelIdeal.SB

end
-- ==== Proof.SB.KernelIdeal.Value.lean ====
/-
  The value of a grid step over the extended reals: with real queries, keys and values the walk takes every block to
  the left, and the output block is stick-breaking attention over the row's whole past.
-/
module

public import proofs.«01_k».proof.Proof.SB.KernelIdeal.Reads
public import Idealize.ShloMosaic.PureOps.Reduce

@[expose] public section

noncomputable section

namespace Cert.KernelIdeal.SB

open Cert.KernelIdeal Cert.KernelIdeal.Gen
open Idealize.ShloMosaic hiding ix0 ix1 ix2 ix3 ix4 ix5
open Idealize.ShloMosaic.ValueIdx
open Cert.SB
open Blocks
open scoped BigOperators

section
variable {B : Blocks Ideal} {Q K V : ℕ → ℕ → ℝ}

/-- Where a row's past ends. -/
def past (B : Blocks Ideal) (a : Fin 4) (r : Fin 256) : ℕ := 16 + d0 B a + r.val

/-- The carried sums and the accumulators hold what a row has from position `L` on. -/
def At (B : Blocks Ideal) (Q K V : ℕ → ℕ → ℝ) (c : Car Ideal) (A : Acc Ideal) (L : Fin 4 → Fin 256 → ℕ) : Prop :=
  ∀ h a r, c h a (ix2 r 0) = ((suf (zz Q K h (row a r).val) (past B a r) (L a r) : ℝ) : EReal)
    ∧ ∀ d : Fin 128, A h a (ix3 0 r d) = ((att (zz Q K h (row a r).val) (fun s => V s d.val) (past B a r) (L a r) : ℝ) : EReal)

variable (H : Holds B Q K V)

theorem at_zero : At B Q K V (fun _ _ => zero1) zeros (past B) := by
  intro h a r
  refine ⟨?_, fun d => ?_⟩
  · rw [suf_self]; exact zeroC_eq
  · rw [att_self]; exact zeroC_eq

include H in
theorem at_diag : At B Q K V B.carD (fun h a => B.accD h a (zeros h a)) (fun a _ => 16 + d0 B a) := by
  intro h a r
  have h0 := at_zero (B := B) (Q := Q) (K := K) (V := V) h a r
  have hl : (r.val = 0 ∧ 16 + d0 B a = past B a r) ∨ (past B a r = 16 + d0 B a + r.val ∧ 16 + d0 B a = 16 + d0 B a) := .inr ⟨rfl, rfl⟩
  exact ⟨rowW_car _ _ _ _ r.val _ r hl le_rfl B.tri (tri_apply H) _ _ r.isLt.le (zD_apply H h a r) h0.1,
    fun d => rowW_acc _ _ _ _ r.val _ _ r d hl le_rfl B.tri (tri_apply H) _ _ _ _ r.isLt.le (zD_apply H h a r) h0.1
      (fun k _ => vD_apply H a k d) (h0.2 d)⟩

include H in
theorem at_near : At B Q K V B.car2 (fun h a => B.acc2 h a (B.accD h a (zeros h a))) (fun a _ => 16 + (d0 B a - 128)) := by
  intro h a r
  have h0 := at_diag H h a r
  have hl : (nN B a = 0 ∧ 16 + (d0 B a - 128) = 16 + d0 B a) ∨ (16 + d0 B a = 16 + (d0 B a - 128) + nN B a ∧ 16 + (d0 B a - 128) = 16 + (d0 B a - 128)) := by
    unfold nN
    by_cases hd : d0 B a = 0
    · rw [if_pos hd]; exact .inl ⟨rfl, by omega⟩
    · rw [if_neg hd]
      have : 128 ≤ d0 B a := by unfold d0 at hd ⊢; omega
      exact .inr ⟨by omega, rfl⟩
  have hn : nN B a ≤ 128 := by unfold nN; split <;> omega
  have hT : 16 + d0 B a ≤ past B a r := by unfold past; omega
  exact ⟨rowN_car _ _ _ _ _ _ r hl hT B.tri' (tri'_apply H) _ _ hn (zN_apply H h a r) h0.1,
    fun d => rowN_acc _ _ _ _ _ _ _ r d hl hT B.tri' (tri'_apply H) _ _ _ _ hn (zN_apply H h a r) h0.1
      (fun k _ => vN_apply H a k d) (h0.2 d)⟩

/-- Where a row group stands before trip `n`. -/
def Lw (B : Blocks Ideal) (n : ℕ) (a : Fin 4) : ℕ := 16 + min (256 * (4 * (B.i 2).val + 3 - n)) (d0 B a - 128)

include H in
theorem at_step (n : ℕ) (hn : n < 4 * (B.i 2).val + 3) (hj : k0_chk1 B.i (BitVec.ofNat 32 n)) (c : Car Ideal) (A : Acc Ideal)
    (h0 : At B Q K V c A (fun a _ => Lw B n a)) :
    At B Q K V (B.carWk (BitVec.ofNat 32 n) hj c) (fun h a => B.accWk (BitVec.ofNat 32 n) hj c h a (A h a)) (fun a _ => Lw B (n + 1) a) := by
  intro h a r
  have h0 := h0 h a r
  have hl : (nW B a n = 0 ∧ Lw B (n + 1) a = Lw B n a)
      ∨ (Lw B n a = 16 + 256 * (4 * (B.i 2).val + 2 - n) + nW B a n ∧ Lw B (n + 1) a = 16 + 256 * (4 * (B.i 2).val + 2 - n)) := by
    unfold nW Lw
    omega
  have hW : nW B a n ≤ 256 := by unfold nW; omega
  have hT : Lw B n a ≤ past B a r := by unfold past Lw; omega
  exact ⟨rowW_car _ _ _ _ _ _ r hl hT B.tri (tri_apply H) _ _ hW (zW_apply H n hn hj h a r) h0.1,
    fun d => rowW_acc _ _ _ _ _ _ _ r d hl hT B.tri (tri_apply H) _ _ _ _ hW (zW_apply H n hn hj h a r) h0.1
      (fun k _ => vW_apply H n hn hj k d) (h0.2 d)⟩

include H in
theorem at_meta (c : Car Ideal) (A : Acc Ideal) (h0 : At B Q K V c A (fun _ _ => 16)) (h : Fin 2) (a : Fin 4) (r : Fin 256) (d : Fin 128) :
    B.accM c h a (A h a) (ix3 0 r d) = ((att (zz Q K h (row a r).val) (fun s => V s d.val) (past B a r) 0 : ℝ) : EReal) :=
  rowN_acc _ _ _ 0 16 _ _ r d (.inr ⟨rfl, rfl⟩) (by unfold past; omega) B.tri' (tri'_apply H) _ _ _ _ (by omega) (zM_apply H h a r)
    (h0 h a r).1 (fun k hk => by rw [Nat.zero_add]; exact mV_apply H k d hk) ((h0 h a r).2 d)

/-! ## The tests -/

theorem low_lt (x : FVec Ideal S256x1 .f32) (hx : x (ix2 0 0) < (⊤ : EReal)) :
    (extractAt ![0, 0, 0] (shapeCast S1x1x1 (multiReduction .minimumf [1, 2] S1 (shapeCast S1x256x1 x shapeCasts_S256x1_S1x256x1)
      0x7F800000#32 reduces_S1x256x1_S1 (.inl rfl) rfl) shapeCasts_S1_S1x1x1) inpos_S1x1x1_p0_0_0 : EReal) < ⊤ := by
  have key : ∀ j : S1.Idx, (multiReduction .minimumf [1, 2] S1 (shapeCast S1x256x1 x shapeCasts_S256x1_S1x256x1)
      0x7F800000#32 reduces_S1x256x1_S1 (.inl rfl) rfl j : EReal) < ⊤ := by
    intro j
    refine lt_of_eq_of_lt (multiReduction_minimumf_eq_fold _ _ _ _ _ j) ?_
    refine lt_of_le_of_lt ((Finset.fold_min_le (c := (x (ix2 0 0) : EReal))).mpr (.inr ⟨ix3 0 0 0, ?_, ?_⟩)) hx
    · rw [Finset.mem_filter]
      refine ⟨Finset.mem_univ _, ?_⟩
      funext b
      match b with
      | ⟨0, _⟩ => exact Subsingleton.elim (α := Fin 1) _ _
    · exact le_of_eq (add3 (m := 256) (n := 1) x _ 0 0)
  exact key _

theorem cmpf_lt (x : Ideal .f32) (h : (x : EReal) < ⊤) : Scalar.cmpf .olt x (stopC : Ideal .f32) = 1#1 := by
  rw [stopC_eq, Ideal.scalar_cmpf_def]
  simp [Ideal.cmp, h]

theorem lowWalk_lt (c : Car Ideal) (h : (c 0 1 (ix2 0 0) : EReal) < ⊤) : (B.lowWalk c : EReal) < ⊤ := by
  unfold lowWalk
  refine low_lt _ ?_
  simp only [minimumf_apply]
  simp [min_lt_iff, h]

theorem lowAll_lt (c : Car Ideal) (h : (c 0 1 (ix2 0 0) : EReal) < ⊤) : (lowAll c : EReal) < ⊤ := by
  unfold lowAll
  refine low_lt _ ?_
  simp only [minimumf_apply]
  simp [min_lt_iff, h]

theorem At.lt {c : Car Ideal} {A : Acc Ideal} {L : Fin 4 → Fin 256 → ℕ} (h : At B Q K V c A L) : (c 0 1 (ix2 0 0) : EReal) < ⊤ := by
  rw [(h 0 1 0).1]; exact EReal.coe_lt_top _

/-- The walk has carried every row to where trip `n` finds it, and neither test stops it. -/
def Inv (B : Blocks Ideal) (Q K V : ℕ → ℕ → ℝ) (n : ℕ) (s : St Ideal) : Prop :=
  At B Q K V s.car s.acc (fun a _ => Lw B n a) ∧ (s.lw : EReal) < ⊤ ∧ (s.la : EReal) < ⊤

include H in
theorem inv_start : Inv B Q K V 0 B.start := by
  have h0 := at_near H
  have hL : (fun (a : Fin 4) (_ : Fin 256) => Lw B 0 a) = fun a _ => 16 + (d0 B a - 128) := by
    funext a _
    unfold Lw d0; omega
  refine ⟨?_, lowWalk_lt _ h0.lt, lowAll_lt _ h0.lt⟩
  rw [hL]; exact h0

include H in
theorem inv_step (n : ℕ) (hn : n < 4 * (B.i 2).val + 3) (hj : k0_chk1 B.i (BitVec.ofNat 32 n)) (s : St Ideal) (h : Inv B Q K V n s) :
    Inv B Q K V (n + 1) (B.step (BitVec.ofNat 32 n) hj s) := by
  have h0 := at_step H n hn hj _ _ h.1
  exact ⟨h0, lowWalk_lt _ h0.lt, lowAll_lt _ h0.lt⟩

theorem test_one (n : ℕ) (hn : n < 4 * (B.i 2).val + 3) (lw : Ideal .f32) (h : (lw : EReal) < ⊤) : B.test (BitVec.ofNat 32 n) lw = 1#1 := by
  have hq := qi_lt B
  unfold test
  rw [cmpf_lt lw h, nWalk_eq]
  show IntOp.andi (IntOp.cmpi .slt _ _) _ = _
  rw [WordCmp.cmpi_slt_ofNat (by omega) (by omega), decide_eq_true hn]
  rfl

include H in
theorem inv_walk (m : ℕ) : ∀ (n : ℕ) (s : St Ideal), n + m = 4 * (B.i 2).val + 3 → Inv B Q K V n s →
    Inv B Q K V (4 * (B.i 2).val + 3) (B.walk m (BitVec.ofNat 32 n) s) := by
  induction m with
  | zero => intro n s hm h; rw [show 4 * (B.i 2).val + 3 = n by omega]; exact h
  | succ m ih =>
    intro n s hm h
    have hn : n < 4 * (B.i 2).val + 3 := by omega
    unfold walk
    rw [if_pos (test_one n hn s.lw h.2.1), dif_pos (chk_of_lt B.i n hn), addi_one]
    exact ih (n + 1) _ (by omega) (inv_step H n hn _ s h)

include H in
theorem outAcc_apply (h : Fin 2) (a : Fin 4) (r : Fin 256) (d : Fin 128) :
    B.outAcc h a (ix3 0 r d) = ((att (zz Q K h (row a r).val) (fun s => V s d.val) (past B a r) 0 : ℝ) : EReal) := by
  have hf : Inv B Q K V (4 * (B.i 2).val + 3) B.final := by
    unfold final
    rw [nWalk_toNat]
    exact inv_walk H _ 0 _ (by omega) (inv_start H)
  have hL : (fun (a : Fin 4) (_ : Fin 256) => Lw B (4 * (B.i 2).val + 3) a) = fun _ _ => 16 := by
    funext a _
    unfold Lw; omega
  have h0 := hf.1
  rw [hL] at h0
  have ht : metaTest B.final.la = 1#1 := by
    unfold metaTest
    rw [cmpf_lt _ hf.2.2]
    rfl
  unfold outAcc
  rw [if_pos ht]
  exact at_meta H _ _ h0 h a r d

theorem pay171_apply (A : Acc Ideal) (h : Fin 2) (hb : ∀ x, (![h.val, 0, 0] : Fin 3 → ℕ) x + S1x1024x128.size x ≤ S2x1024x128.size x)
    (a : Fin 4) (r : Fin 256) (d : Fin 128) :
    shapeCast S1024x128 (rd (accBuf A) (Rect.unit (s := S2x1024x128) ![h.val, 0, 0] S1x1024x128.size hb).toLoadRect) shapeCasts_S1x1024x128_S1024x128 (ix2 (row a r) d)
      = A h a (ix3 0 r d) := by
  refine (drop3 (m := 1024) (n := 128) _ _ (row a r) d).trans ?_
  refine (rd_unit (accBuf A) _ _ _ _ (ix3 h (row a r) d) fun x => ?_).trans ?_
  · match x with
    | ⟨0, _⟩ => rfl
    | ⟨1, _⟩ => exact (Nat.zero_add _).symm
    | ⟨2, _⟩ => exact (Nat.zero_add _).symm
  · have hr := r.isLt
    unfold accBuf
    have e1 : (256 * a.val + r.val) / 256 = a.val := by omega
    have e2 : (256 * a.val + r.val) % 256 = r.val := by omega
    show A h ⟨(256 * a.val + r.val) / 256, _⟩ (ix3 0 ⟨(256 * a.val + r.val) % 256, _⟩ d) = _
    exact congr (congrArg (A h) (Fin.ext e1)) (congrArg (fun x => ix3 0 x d) (Fin.ext e2))

/-- A lane's head. -/
def headOf (d : Fin 128) : Fin 2 := if d.val < 64 then 0 else 1

include H in
/-- The output block: each row attends to its whole past. -/
theorem out_apply (a : Fin 4) (r : Fin 256) (d : Fin 128) :
    B.out (ix3 0 (row a r) d)
      = ((att (zz Q K (headOf d) (row a r).val) (fun s => V s d.val) (past B a r) 0 : ℝ) : EReal) := by
  unfold out k0_pay1 k0_pay170 k0_pay171
  dsimp only
  refine (add3 (m := 1024) (n := 128) _ _ (row a r) d).trans ?_
  rw [truncf_apply, select_apply]
  have e0 := pay171_apply B.outAcc 0 inb_S2x1024x128_S1x1024x128_0_0_0 a r d
  have e1 := pay171_apply B.outAcc 1 inb_S2x1024x128_S1x1024x128_1_0_0 a r d
  show Scalar.select (Scalar.cmpi .slt (iota .tc S1024x128 32 [1] iota_S1024x128_d1_w32 (ix2 (row a r) d)) 64#32) _ _ = _
  rw [iota_single_apply]
  show Scalar.select (Scalar.cmpi .slt (BitVec.ofNat 32 d.val) 64#32) _ _ = _
  rw [lane_lt]
  unfold headOf
  by_cases hd : d.val < 64
  · rw [if_pos hd, if_pos hd]
    exact (select_one _ _).trans (e0.trans (outAcc_apply H 0 a r d))
  · rw [if_neg hd, if_neg hd]
    exact (select_zero _ _).trans (e1.trans (outAcc_apply H 1 a r d))

end

end Cert.KernelIdeal.SB

end
-- ==== Proof.SB.KernelIdeal.Body.lean ====
/-
  One grid step of the attention, run whole: from the blocks it reads it leaves the model's output block in the output
  buffer and gives everything else back.
-/
module

public import proofs.«01_k».proof.Proof.SB.KernelIdeal.While

@[expose] public section

noncomputable section

namespace Cert.KernelIdeal.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SB (rd ld st)
open Blocks

variable {F : FTy → Type} [FloatOps F] [Named F]

local notation "𝕄" => MT nD τ sig Unit (Elt F) ℕ (UR sig nD τ) ℕ

/-- Seven of the eight accumulators in turn. -/
abbrev chain7 (f : Fin 2 → Fin 4 → FVec F S1x256x128 .f32 → FVec F S1x256x128 .f32) (A : Acc F) : Acc F :=
  stp f 0 3 (stp f 1 2 (stp f 0 2 (stp f 1 1 (stp f 0 1 (stp f 1 0 (stp f 0 0 A))))))
/-- All eight in turn. -/
abbrev chain8 (f : Fin 2 → Fin 4 → FVec F S1x256x128 .f32 → FVec F S1x256x128 .f32) (A : Acc F) : Acc F :=
  stp f 1 3 (chain7 f A)

theorem chain_last (f : Fin 2 → Fin 4 → FVec F S1x256x128 .f32 → FVec F S1x256x128 .f32) (A : Acc F) :
    upd (chain7 f A) 1 3 (f 1 3 (chain7 f A 1 3)) = fun h a => f h a (A h a) := stp_all A f

theorem chain_start (B : Blocks F) :
    upd (chain7 B.acc2 (chain8 B.accD Blocks.zeros)) 1 3 (B.acc2 1 3 (chain7 B.acc2 (chain8 B.accD Blocks.zeros) 1 3)) = B.start.acc := by
  rw [chain_last, show chain8 B.accD Blocks.zeros = fun h a => B.accD h a (Blocks.zeros h a) from stp_all _ _]
  rfl

theorem chain_meta (B : Blocks F) (h : metaTest B.final.la = 1#1) :
    upd (chain7 (B.accM B.final.car) B.final.acc) 1 3 (B.accM B.final.car 1 3 (chain7 (B.accM B.final.car) B.final.acc 1 3)) = B.outAcc := by
  rw [chain_last, outAcc, if_pos h]

/-- Storing a whole block leaves that block. -/
theorem overlay_out (X w : S1x1024x128.Idx → F .bf16) :
    (Rect.unit (s := S1x1024x128) ![0, 0, 0] S1x1024x128.size inb_S1x1024x128_S1x1024x128_0_0_0).overlay X w = w := by
  funext j
  have hj : j = (Rect.unit (s := S1x1024x128) ![0, 0, 0] S1x1024x128.size inb_S1x1024x128_S1x1024x128_0_0_0).emb j := by
    funext d
    match d with
    | ⟨0, _⟩ => exact Fin.ext (by show (j 0).val = 0 + 1 * (j 0).val; omega)
    | ⟨1, _⟩ => exact Fin.ext (by show (j 1).val = 0 + 1 * (j 1).val; omega)
    | ⟨2, _⟩ => exact Fin.ext (by show (j 2).val = 0 + 1 * (j 2).val; omega)
  conv_lhs => rw [hj]
  rw [Rect.overlay_emb]

section
variable (c : Dev nD) (E : Set ℕ)
  (arg3 : Memref sig .tc .vmem S1x1024x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S128x128 .bf16) (harg6 : arg6.IsWhole)
  (arg7 : Memref sig .tc .vmem S128x128 .bf16) (harg7 : arg7.IsWhole)
  (arg8 : Memref sig .tc .vmem S256x256 .bf16) (harg8 : arg8.IsWhole)
  (arg9 : Memref sig .tc .vmem S1x1024x128 .bf16) (harg9 : arg9.IsWhole)
  (arg10 : Memref sig .tc .vmem S2x1024x128 .f32) (harg10 : arg10.IsWhole)

/-- The meta keys, up to the last store. -/
theorem k0_part7_run (B : Blocks F) (C : Car F) (A : Acc F) (K : _ → sProp 𝕄) :
    iprop(owns (c : Thread nD τ) arg6 fullShare B.x6 ∗ owns (c : Thread nD τ) arg7 fullShare B.x7 ∗ owns (c : Thread nD τ) arg8 fullShare B.x8 ∗ owns (c : Thread nD τ) arg10 fullShare (accBuf A) ∗ (iprop(owns (c : Thread nD τ) arg6 fullShare B.x6 ∗ owns (c : Thread nD τ) arg7 fullShare B.x7 ∗ owns (c : Thread nD τ) arg8 fullShare B.x8 ∗ owns (c : Thread nD τ) arg10 fullShare (accBuf (chain7 (B.accM C) A))) -∗ K (k0_pay35 (C 1 3) B.mV (B.zM 1 3) (csN B.tri' (B.zM 1 3)) (chain7 (B.accM C) A 1 3))))
      ⊢ wp frame (wpE (defs₀ (F := F)) 𝒱₀ (c : Thread nD τ) none) E
        (k0_part7 B.i arg3 harg3 arg4 harg4 arg5 harg5 arg6 harg6 arg7 harg7 arg8 harg8 arg9 harg9 arg10 harg10 (B.q 0) (B.q 1) (C 0 0) (C 1 0) (C 0 1) (C 1 1) (C 0 2) (C 1 2) (C 0 3) (C 1 3)) K := by
  rw [k0_part7_eq_skeleton]; unfold k0_part7_skel
  simp only [Prog.lift, Prog.bind_op, Prog.bind_ret, Prog.pure_eq_ret]
  iintro ⟨H6, H7, H8, H10, Hk⟩
  rw [wp_bind]
  iapply (k0_part1_run 𝒱₀ c none E arg3 harg3 arg4 harg4 arg5 harg5 arg6 harg6 arg7 harg7 arg8 harg8 arg9 harg9 arg10 harg10 B C)
  isplitl [H6]; · iexact H6
  isplitl [H7]; · iexact H7
  isplitl [H8]; · iexact H8
  iintro ⟨H6, H7, H8⟩
  try dsimp only
  rw [wp_bind]
  iapply (k0_part2_run 𝒱₀ c none E arg3 harg3 arg4 harg4 arg5 harg5 arg6 harg6 arg7 harg7 arg8 harg8 arg9 harg9 arg10 harg10 B C)
  try dsimp only
  rw [wp_bind]
  iapply (k0_part3_run 𝒱₀ c none E arg3 harg3 arg4 harg4 arg5 harg5 arg6 harg6 arg7 harg7 arg8 harg8 arg9 harg9 arg10 harg10 B C)
  try dsimp only
  rw [wp_bind]
  iapply (k0_part4_run 𝒱₀ c none E arg3 harg3 arg4 harg4 arg5 harg5 arg6 harg6 arg7 harg7 arg8 harg8 arg9 harg9 arg10 harg10 B C)
  try dsimp only
  rw [wp_bind]
  iapply (k0_part5_run 𝒱₀ c none E arg3 harg3 arg4 harg4 arg5 harg5 arg6 harg6 arg7 harg7 arg8 harg8 arg9 harg9 arg10 harg10 B C A)
  isplitl [H10]; · iexact H10
  iintro H10
  try dsimp only
  rw [wp_bind]
  iapply (k0_part6_run 𝒱₀ c none E arg3 harg3 arg4 harg4 arg5 harg5 arg6 harg6 arg7 harg7 arg8 harg8 arg9 harg9 arg10 harg10 B C A)
  isplitl [H10]; · iexact H10
  iintro H10
  try dsimp only
  iapply (ldA 𝒱₀ c none E _ 1 2) $$ H10; iintro H10
  iapply (ldA 𝒱₀ c none E _ 1 2) $$ H10; iintro H10
  rw [store_eq (F := F) (w' := B.accM C 1 2 ((stp (B.accM C) 0 2 (stp (B.accM C) 1 1 (stp (B.accM C) 0 1 (stp (B.accM C) 1 0 (stp (B.accM C) 0 0 A))))) 1 2)) (by exact rfl)]
  iapply (stA 𝒱₀ c none E _ 1 2) $$ H10; iintro H10
  iapply (ldA 𝒱₀ c none E _ 0 3) $$ H10; iintro H10
  iapply (ldA 𝒱₀ c none E _ 0 3) $$ H10; iintro H10
  rw [store_eq (F := F) (w' := B.accM C 0 3 ((stp (B.accM C) 1 2 (stp (B.accM C) 0 2 (stp (B.accM C) 1 1 (stp (B.accM C) 0 1 (stp (B.accM C) 1 0 (stp (B.accM C) 0 0 A)))))) 0 3)) (by exact rfl)]
  iapply (stA 𝒱₀ c none E _ 0 3) $$ H10; iintro H10
  iapply (ldA 𝒱₀ c none E _ 1 3) $$ H10; iintro H10
  iapply (ldA 𝒱₀ c none E _ 1 3) $$ H10; iintro H10
  rw [ret_eq (F := F) (y := k0_pay35 (C 1 3) B.mV (B.zM 1 3) (csN B.tri' (B.zM 1 3)) (chain7 (B.accM C) A 1 3)) (by exact rfl), wp_ret]; imodintro
  iapply Hk
  isplitl [H6]; · iexact H6
  isplitl [H7]; · iexact H7
  isplitl [H8]; · iexact H8
  rw [show chain7 (B.accM C) A = upd (stp (B.accM C) 1 2 (stp (B.accM C) 0 2 (stp (B.accM C) 1 1 (stp (B.accM C) 0 1 (stp (B.accM C) 1 0 (stp (B.accM C) 0 0 A)))))) 0 3 (B.accM C 0 3 ((stp (B.accM C) 1 2 (stp (B.accM C) 0 2 (stp (B.accM C) 1 1 (stp (B.accM C) 0 1 (stp (B.accM C) 1 0 (stp (B.accM C) 0 0 A)))))) 0 3)) from rfl]
  iexact H10

/-- Everything up to the output. -/
theorem k0_part26_run (B : Blocks F) (X : S2x1024x128.Idx → F .f32) (K : _ → sProp 𝕄) :
    iprop(owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg10 fullShare X ∗ (iprop(owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg10 fullShare (accBuf B.outAcc)) -∗ K ⟨k0_pay170 (iota .tc S1024x128 32 [1] iota_S1024x128_d1_w32), k0_pay171 (rd (accBuf B.outAcc) (Rect.unit (s := S2x1024x128) ![0, 0, 0] S1x1024x128.size inb_S2x1024x128_S1x1024x128_0_0_0).toLoadRect)⟩))
      ⊢ wp frame (wpE (defs₀ (F := F)) 𝒱₀ (c : Thread nD τ) none) E
        (k0_part26 B.i arg3 harg3 arg4 harg4 arg5 harg5 arg6 harg6 arg7 harg7 arg8 harg8 arg9 harg9 arg10 harg10) K := by
  rw [k0_part26_eq_skeleton]; unfold k0_part26_skel
  simp only [Prog.lift, Prog.bind_op, Prog.bind_ret, Prog.pure_eq_ret]
  iintro ⟨H3, H4, H5, H6, H7, H8, H10, Hk⟩
  rw [wp_bind]
  iapply (k0_part8_run 𝒱₀ c none E arg3 harg3 arg4 harg4 arg5 harg5 arg6 harg6 arg7 harg7 arg8 harg8 arg9 harg9 arg10 harg10 B X)
  isplitl [H3]; · iexact H3
  isplitl [H4]; · iexact H4
  isplitl [H8]; · iexact H8
  isplitl [H10]; · iexact H10
  iintro ⟨H3, H4, H8, H10⟩
  try dsimp only
  rw [wp_bind]
  iapply (k0_part9_run 𝒱₀ c none E arg3 harg3 arg4 harg4 arg5 harg5 arg6 harg6 arg7 harg7 arg8 harg8 arg9 harg9 arg10 harg10 B)
  isplitl [H4]; · iexact H4
  isplitl [H5]; · iexact H5
  iintro ⟨H4, H5⟩
  try dsimp only
  rw [wp_bind]
  iapply (k0_part10_run 𝒱₀ c none E arg3 harg3 arg4 harg4 arg5 harg5 arg6 harg6 arg7 harg7 arg8 harg8 arg9 harg9 arg10 harg10 B)
  isplitl [H4]; · iexact H4
  isplitl [H5]; · iexact H5
  iintro ⟨H4, H5⟩
  try dsimp only
  rw [wp_bind]
  iapply (k0_part11_run 𝒱₀ c none E arg3 harg3 arg4 harg4 arg5 harg5 arg6 harg6 arg7 harg7 arg8 harg8 arg9 harg9 arg10 harg10 B)
  isplitl [H4]; · iexact H4
  isplitl [H5]; · iexact H5
  iintro ⟨H4, H5⟩
  try dsimp only
  rw [wp_bind]
  iapply (k0_part12_run 𝒱₀ c none E arg3 harg3 arg4 harg4 arg5 harg5 arg6 harg6 arg7 harg7 arg8 harg8 arg9 harg9 arg10 harg10 B)
  isplitl [H4]; · iexact H4
  isplitl [H5]; · iexact H5
  iintro ⟨H4, H5⟩
  try dsimp only
  rw [wp_bind]
  iapply (k0_part13_run 𝒱₀ c none E arg3 harg3 arg4 harg4 arg5 harg5 arg6 harg6 arg7 harg7 arg8 harg8 arg9 harg9 arg10 harg10 B)
  isplitl [H4]; · iexact H4
  isplitl [H5]; · iexact H5
  iintro ⟨H4, H5⟩
  try dsimp only
  rw [wp_bind]
  iapply (k0_part14_run 𝒱₀ c none E arg3 harg3 arg4 harg4 arg5 harg5 arg6 harg6 arg7 harg7 arg8 harg8 arg9 harg9 arg10 harg10 B)
  try dsimp only
  rw [wp_bind]
  iapply (k0_part15_run 𝒱₀ c none E arg3 harg3 arg4 harg4 arg5 harg5 arg6 harg6 arg7 harg7 arg8 harg8 arg9 harg9 arg10 harg10 B)
  try dsimp only
  rw [wp_bind]
  iapply (k0_part16_run 𝒱₀ c none E arg3 harg3 arg4 harg4 arg5 harg5 arg6 harg6 arg7 harg7 arg8 harg8 arg9 harg9 arg10 harg10 B)
  try dsimp only
  rw [wp_bind]
  iapply (k0_part17_run 𝒱₀ c none E arg3 harg3 arg4 harg4 arg5 harg5 arg6 harg6 arg7 harg7 arg8 harg8 arg9 harg9 arg10 harg10 B)
  try dsimp only
  rw [wp_bind]
  iapply (k0_part18_run 𝒱₀ c none E arg3 harg3 arg4 harg4 arg5 harg5 arg6 harg6 arg7 harg7 arg8 harg8 arg9 harg9 arg10 harg10 B)
  try dsimp only
  rw [wp_bind]
  iapply (k0_part19_run 𝒱₀ c none E arg3 harg3 arg4 harg4 arg5 harg5 arg6 harg6 arg7 harg7 arg8 harg8 arg9 harg9 arg10 harg10 B)
  try dsimp only
  rw [wp_bind]
  iapply (k0_part20_run 𝒱₀ c none E arg3 harg3 arg4 harg4 arg5 harg5 arg6 harg6 arg7 harg7 arg8 harg8 arg9 harg9 arg10 harg10 B)
  try dsimp only
  rw [wp_bind]
  iapply (k0_part21_run 𝒱₀ c none E arg3 harg3 arg4 harg4 arg5 harg5 arg6 harg6 arg7 harg7 arg8 harg8 arg9 harg9 arg10 harg10 B Blocks.zeros)
  isplitl [H10]; · iexact H10
  iintro H10
  try dsimp only
  rw [wp_bind]
  iapply (k0_part22_run 𝒱₀ c none E arg3 harg3 arg4 harg4 arg5 harg5 arg6 harg6 arg7 harg7 arg8 harg8 arg9 harg9 arg10 harg10 B Blocks.zeros)
  isplitl [H10]; · iexact H10
  iintro H10
  try dsimp only
  rw [wp_bind]
  iapply (k0_part23_run 𝒱₀ c none E arg3 harg3 arg4 harg4 arg5 harg5 arg6 harg6 arg7 harg7 arg8 harg8 arg9 harg9 arg10 harg10 B Blocks.zeros)
  isplitl [H10]; · iexact H10
  iintro H10
  try dsimp only
  rw [wp_bind]
  iapply (k0_part24_run 𝒱₀ c none E arg3 harg3 arg4 harg4 arg5 harg5 arg6 harg6 arg7 harg7 arg8 harg8 arg9 harg9 arg10 harg10 B Blocks.zeros)
  isplitl [H10]; · iexact H10
  iintro H10
  try dsimp only
  rw [wp_bind]
  iapply (k0_part25_run 𝒱₀ c none E arg3 harg3 arg4 harg4 arg5 harg5 arg6 harg6 arg7 harg7 arg8 harg8 arg9 harg9 arg10 harg10 B Blocks.zeros)
  isplitl [H10]; · iexact H10
  iintro H10
  try dsimp only
  iapply (ldA 𝒱₀ c none E _ 1 3) $$ H10; iintro H10
  iapply (ldA 𝒱₀ c none E _ 1 3) $$ H10; iintro H10
  rw [store_eq (F := F) (w' := B.acc2 1 3 (chain7 B.acc2 (chain8 B.accD Blocks.zeros) 1 3)) (by exact rfl)]
  iapply (stA 𝒱₀ c none E _ 1 3) $$ H10; iintro H10
  rw [chain_start]
  iapply (wp_call_spec 𝒱₀ (c : Thread nD τ) none E (spec c arg4 arg5 arg10 B B.nWalk.toNat 0#32 B.start) B.nWalk.toNat
    (fun u hu => nomatch hu) (by
      intro K
      exact spec_le c E arg4 harg4 arg5 harg5 arg10 harg10 B B.nWalk.toNat 0 (by rw [nWalk_toNat]; omega) B.start K))
  rw [spec_apply]
  isplitl [H4 H5 H10]
  · isplitl [H4]; · iexact H4
    isplitl [H5]; · iexact H5
    iexact H10
  iintro %r %hr ⟨H4, H5, H10⟩
  obtain ⟨j', rfl⟩ := hr
  rw [show B.walk B.nWalk.toNat 0#32 B.start = B.final from rfl]
  dsimp only [resOf]
  by_cases htest : metaTest B.final.la = 1#1
  · rw [if_pos]
    swap
    · exact htest
    rw [wp_bind]
    iapply (k0_part7_run c E arg3 harg3 arg4 harg4 arg5 harg5 arg6 harg6 arg7 harg7 arg8 harg8 arg9 harg9 arg10 harg10 B B.final.car B.final.acc)
    isplitl [H6]; · iexact H6
    isplitl [H7]; · iexact H7
    isplitl [H8]; · iexact H8
    isplitl [H10]; · iexact H10
    iintro ⟨H6, H7, H8, H10⟩
    rw [store_eq (F := F) (w' := B.accM B.final.car 1 3 (chain7 (B.accM B.final.car) B.final.acc 1 3)) (by exact k0_pay169_eq _ _ _ _ _)]
    iapply (stA 𝒱₀ c none E _ 1 3) $$ H10; iintro H10
    rw [chain_meta B htest]
    iapply (ld 𝒱₀ (c : Thread nD τ) none E) $$ H10; iintro H10
    rw [wp_ret]; imodintro
    iapply Hk
    isplitl [H3]; · iexact H3
    isplitl [H4]; · iexact H4
    isplitl [H5]; · iexact H5
    isplitl [H6]; · iexact H6
    isplitl [H7]; · iexact H7
    isplitl [H8]; · iexact H8
    iexact H10
  · rw [if_neg]
    swap
    · exact htest
    rw [show B.final.acc = B.outAcc by rw [outAcc, if_neg htest]]
    iapply (ld 𝒱₀ (c : Thread nD τ) none E) $$ H10; iintro H10
    rw [wp_ret]; imodintro
    iapply Hk
    isplitl [H3]; · iexact H3
    isplitl [H4]; · iexact H4
    isplitl [H5]; · iexact H5
    isplitl [H6]; · iexact H6
    isplitl [H7]; · iexact H7
    isplitl [H8]; · iexact H8
    iexact H10

/-- The grid step. -/
theorem cc0_sb_attn_run (B : Blocks F) (X9 : S1x1024x128.Idx → F .bf16) (X10 : S2x1024x128.Idx → F .f32) (K : PUnit → sProp 𝕄) :
    iprop(owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare X9 ∗ owns (c : Thread nD τ) arg10 fullShare X10 ∗ (iprop(owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare B.out ∗ owns (c : Thread nD τ) arg10 fullShare (accBuf B.outAcc)) -∗ K ⟨⟩))
      ⊢ wp frame (wpE (defs₀ (F := F)) 𝒱₀ (c : Thread nD τ) none) E
        (cc0_sb_attn B.i arg3 harg3 arg4 harg4 arg5 harg5 arg6 harg6 arg7 harg7 arg8 harg8 arg9 harg9 arg10 harg10) K := by
  rw [cc0_sb_attn_eq_skeleton]; unfold cc0_sb_attn_skel
  simp only [Prog.lift, Prog.bind_op, Prog.bind_ret, Prog.pure_eq_ret]
  iintro ⟨H3, H4, H5, H6, H7, H8, H9, H10, Hk⟩
  rw [wp_bind]
  iapply (k0_part26_run c E arg3 harg3 arg4 harg4 arg5 harg5 arg6 harg6 arg7 harg7 arg8 harg8 arg9 harg9 arg10 harg10 B X10)
  isplitl [H3]; · iexact H3
  isplitl [H4]; · iexact H4
  isplitl [H5]; · iexact H5
  isplitl [H6]; · iexact H6
  isplitl [H7]; · iexact H7
  isplitl [H8]; · iexact H8
  isplitl [H10]; · iexact H10
  iintro ⟨H3, H4, H5, H6, H7, H8, H10⟩
  dsimp only
  iapply (ld 𝒱₀ (c : Thread nD τ) none E) $$ H10; iintro H10
  iapply (ld 𝒱₀ (c : Thread nD τ) none E) $$ H9; iintro H9
  rw [store_eq (F := F) (w' := B.out) (by exact rfl)]
  iapply (st 𝒱₀ (c : Thread nD τ) none E) $$ H9; iintro H9
  rw [overlay_out, wp_ret]; imodintro
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

end Cert.KernelIdeal.SB

end
-- ==== Proof.SB.KernelIdeal.Run.lean ====
/-
  The launch: every grid step finds the blocks of its point in the staging buffers and leaves the model's output block,
  so the whole program ends, with its arguments as they were, its counters at zero and the output array at those blocks.
-/
module

public import proofs.«01_k».proof.Proof.SB.KernelIdeal.Body
public import proofs.«01_k».proof.Proof.Gen.KernelIdeal.Points
public import Idealize.ShloMosaic.Lib.Pipeline.FrameBody
public import Idealize.ShloMosaic.Lib.Ring
public import Idealize.ShloMosaic.Lib.Claim

@[expose] public section

set_option maxRecDepth 16384

noncomputable section

namespace Cert.KernelIdeal.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host part -/

/-- The buffers as the kernel finds them: after the host's casts, slices and constants. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The host writes neither argument. -/
theorem V_arg (c : Dev nD) : V m c main_arg0 = m ((c : Thread nD τ).loc main_arg0) ∧ V m c main_arg1 = m ((c : Thread nD τ).loc main_arg1) := by
  constructor
  · refine StableHlo.after_of_forall_not_mem (b := Proc.devRef .tc main_arg0) _ _ (List.forall_iff_forall_mem.mp ?_)
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
  · refine StableHlo.after_of_forall_not_mem (b := Proc.devRef .tc main_arg1) _ _ (List.forall_iff_forall_mem.mp ?_)
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## What each point reads and leaves -/

/-- A window's block at a point, read off its array. -/
def blkOf (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- The blocks one grid step reads. -/
def blocks (c : Dev nD) (t : Fin (cfg0 (F := F)).N) : Blocks F where
  i := grid0.coords t
  x3 := blkOf m c 0 t
  x4 := blkOf m c 1 t
  x5 := blkOf m c 2 t
  x6 := blkOf m c 3 t
  x7 := blkOf m c 4 t
  x8 := blkOf m c 5 t

/-- The pipeline's proof data: inputs stay at their blocks, the output is left at the model's block. -/
def dats (_ : Fin 1) (c : Dev nD) : Dat τ (Elt F) Unit ℕ (UR sig nD τ) ℕ (cfg0 (F := F)) c where
  A w := V m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => blkOf m c 5 t
    | ⟨6, _⟩ => (blocks m c t).out
  Φ _ := Pipeline.ΦA spec0 c
  q w := Pipeline.shareOf spec0 w
  owed _ := 0

theorem dats_A (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = blkOf m c 0 t := by dsimp only [dats]; try rfl
theorem after_1 (c : Dev nD) (t : Fin (cfg0 (F := F)).N) : (dats m 0 c).after 1 t = blkOf m c 1 t := by dsimp only [dats]; try rfl
theorem after_2 (c : Dev nD) (t : Fin (cfg0 (F := F)).N) : (dats m 0 c).after 2 t = blkOf m c 2 t := by dsimp only [dats]; try rfl
theorem after_3 (c : Dev nD) (t : Fin (cfg0 (F := F)).N) : (dats m 0 c).after 3 t = blkOf m c 3 t := by dsimp only [dats]; try rfl
theorem after_4 (c : Dev nD) (t : Fin (cfg0 (F := F)).N) : (dats m 0 c).after 4 t = blkOf m c 4 t := by dsimp only [dats]; try rfl
theorem after_5 (c : Dev nD) (t : Fin (cfg0 (F := F)).N) : (dats m 0 c).after 5 t = blkOf m c 5 t := by dsimp only [dats]; try rfl
theorem after_6 (c : Dev nD) (t : Fin (cfg0 (F := F)).N) : (dats m 0 c).after 6 t = (blocks m c t).out := by dsimp only [dats]; try rfl

/-- Each input's staging buffer holds its block, whether it was fetched at this point or before. -/
theorem before_0 (c : Dev nD) (t : Fin (cfg0 (F := F)).N) (d) : (dats m 0 c).before 0 t d = blkOf m c 0 t :=
  ((dats m 0 c).before_in_eq_fetched 0 rfl (fun _ => rfl) (fun _ _ _ => rfl) (fun t => by rw [after_0]; unfold Dat.blockOf blkOf; rw [dats_A]; try rfl) t d).trans
    (by unfold Dat.fetched Dat.blockOf blkOf; rw [dats_A]; try rfl)
theorem before_1 (c : Dev nD) (t : Fin (cfg0 (F := F)).N) (d) : (dats m 0 c).before 1 t d = blkOf m c 1 t :=
  ((dats m 0 c).before_in_eq_fetched 1 rfl (fun _ => rfl) (fun _ _ _ => rfl) (fun t => by rw [after_1]; unfold Dat.blockOf blkOf; rw [dats_A]; try rfl) t d).trans
    (by unfold Dat.fetched Dat.blockOf blkOf; rw [dats_A]; try rfl)
theorem before_2 (c : Dev nD) (t : Fin (cfg0 (F := F)).N) (d) : (dats m 0 c).before 2 t d = blkOf m c 2 t :=
  ((dats m 0 c).before_in_eq_fetched 2 rfl (fun _ => rfl) (fun _ _ _ => rfl) (fun t => by rw [after_2]; unfold Dat.blockOf blkOf; rw [dats_A]; try rfl) t d).trans
    (by unfold Dat.fetched Dat.blockOf blkOf; rw [dats_A]; try rfl)
theorem before_3 (c : Dev nD) (t : Fin (cfg0 (F := F)).N) (d) : (dats m 0 c).before 3 t d = blkOf m c 3 t :=
  ((dats m 0 c).before_in_eq_fetched 3 rfl (fun _ => rfl) (fun _ _ _ => rfl) (fun t => by rw [after_3]; unfold Dat.blockOf blkOf; rw [dats_A]; try rfl) t d).trans
    (by unfold Dat.fetched Dat.blockOf blkOf; rw [dats_A]; try rfl)
theorem before_4 (c : Dev nD) (t : Fin (cfg0 (F := F)).N) (d) : (dats m 0 c).before 4 t d = blkOf m c 4 t :=
  ((dats m 0 c).before_in_eq_fetched 4 rfl (fun _ => rfl) (fun _ _ _ => rfl) (fun t => by rw [after_4]; unfold Dat.blockOf blkOf; rw [dats_A]; try rfl) t d).trans
    (by unfold Dat.fetched Dat.blockOf blkOf; rw [dats_A]; try rfl)
theorem before_5 (c : Dev nD) (t : Fin (cfg0 (F := F)).N) (d) : (dats m 0 c).before 5 t d = blkOf m c 5 t :=
  ((dats m 0 c).before_in_eq_fetched 5 rfl (fun _ => rfl) (fun _ _ _ => rfl) (fun t => by rw [after_5]; unfold Dat.blockOf blkOf; rw [dats_A]; try rfl) t d).trans
    (by unfold Dat.fetched Dat.blockOf blkOf; rw [dats_A]; try rfl)

/-! ## One point of the grid -/

abbrev stg0 (t : Fin (cfg0 (F := F)).N) : Memref sig .tc .vmem S1x1024x128 .bf16 := win0_0.stage ((cfg0 (F := F)).slots t 0)
abbrev stg1 (t : Fin (cfg0 (F := F)).N) : Memref sig .tc .vmem S1x8192x128 .bf16 := win0_1.stage ((cfg0 (F := F)).slots t 1)
abbrev stg2 (t : Fin (cfg0 (F := F)).N) : Memref sig .tc .vmem S1x8192x128 .bf16 := win0_2.stage ((cfg0 (F := F)).slots t 2)
abbrev stg3 (t : Fin (cfg0 (F := F)).N) : Memref sig .tc .vmem S128x128 .bf16 := win0_3.stage ((cfg0 (F := F)).slots t 3)
abbrev stg4 (t : Fin (cfg0 (F := F)).N) : Memref sig .tc .vmem S128x128 .bf16 := win0_4.stage ((cfg0 (F := F)).slots t 4)
abbrev stg5 (t : Fin (cfg0 (F := F)).N) : Memref sig .tc .vmem S256x256 .bf16 := win0_5.stage ((cfg0 (F := F)).slots t 5)
abbrev stg6 (t : Fin (cfg0 (F := F)).N) : Memref sig .tc .vmem S1x1024x128 .bf16 := win0_6.stage ((cfg0 (F := F)).slots t 6)
/-- The accumulators' buffer. -/
abbrev scr : Memref sig .tc .vmem S2x1024x128 .f32 := Memref.whole cc0_scratch0

theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- What a grid step is called with, -/
def pre (c : Dev nD) (t : Fin (cfg0 (F := F)).N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def post (c : Dev nD) (t : Fin (cfg0 (F := F)).N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 800000 in
theorem sound (c : Dev nD) (t : Fin (cfg0 (F := F)).N) :
    pre m c t ⊢ wp frame (wpE (defs₀ (F := F)) 𝒱₀ c none) Set.univ (bodyAt0 t) (fun _ => post m c t) := by
  unfold pre post bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, inv_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  have key := fun K => cc0_sb_attn_run c Set.univ (stg0 t) (hstage0_0 ((cfg0.slots t 0).cast nbuf0_0)) (stg1 t) (hstage0_1 ((cfg0.slots t 1).cast nbuf0_1))
    (stg2 t) (hstage0_2 ((cfg0.slots t 2).cast nbuf0_2)) (stg3 t) (hstage0_3 ((cfg0.slots t 3).cast nbuf0_3))
    (stg4 t) (hstage0_4 ((cfg0.slots t 4).cast nbuf0_4)) (stg5 t) (hstage0_5 ((cfg0.slots t 5).cast nbuf0_5))
    (stg6 t) (hstage0_6 ((cfg0.slots t 6).cast nbuf0_6)) scr (Memref.isWhole_whole _) (blocks m c t) ((dats m 0 c).before 6 t d6) ds K
  rw [show (blocks m c t).x3 = blkOf m c 0 t from rfl, show (blocks m c t).x4 = blkOf m c 1 t from rfl, show (blocks m c t).x5 = blkOf m c 2 t from rfl,
    show (blocks m c t).x6 = blkOf m c 3 t from rfl, show (blocks m c t).x7 = blkOf m c 4 t from rfl, show (blocks m c t).x8 = blkOf m c 5 t from rfl,
    show (blocks m c t).i = grid0.coords t from rfl] at key
  iapply (key _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem rowDef (t : Fin (cfg0 (F := F)).N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, rowDef]
  exact triple_restated (sound m c t) rfl .rfl fun _ => .rfl

/-! ## The run -/

set_option backward.isDefEq.respectTransparency.types false in
/-- Every execution ends, with the arrays as the proof data say and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (obligation m c).loose) (hq := fun _ _ _ => rfl)
    (howed := fun _ _ => rfl) (V := V m) (hmain := hmain m) (hA := dats_A m) (hΦ := fun _ _ => rfl)

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(((h.1 c).1 2).trans ((dats m 0 c).arrAt_in 2 rfl _)).trans ((dats_A m c 2).trans (V_arg m c).1),
      (((h.1 c).1 4).trans ((dats m 0 c).arrAt_in 4 rfl _)).trans ((dats_A m c 4).trans (V_arg m c).2)⟩, h.2⟩) (run_quiescent m ρ)

end Cert.KernelIdeal.SB

end
-- ==== Proof.SB.Spec.lean ====
/-
  The attention as one real formula of its two arguments, which the kernel and the reference are both shown to compute.
-/
module

public import proofs.«01_k».proof.Proof.SB.Math
public import Idealize.ShloMosaic.Lib.Pointwise

@[expose] public section

noncomputable section

namespace Cert.SB

open Idealize.ShloMosaic hiding ix0 ix1 ix2 ix3 ix4 ix5
open Idealize.ShloMosaic.ValueIdx
open scoped BigOperators

/-- The projected rows of every position, and those of the meta tokens. -/
abbrev SX : Shape := ⟨3, ![4, 8192, 1536]⟩
abbrev SM : Shape := ⟨2, ![128, 1536]⟩

/-- The real at an entry of the projections; nothing outside. -/
def rX (X : SX.Idx → EReal) (b : Fin 4) (t n : ℕ) : ℝ :=
  if h : t < 8192 ∧ n < 1536 then (X (ix3 b ⟨t, h.1⟩ ⟨n, h.2⟩)).toReal else 0
def rM (M : SM.Idx → EReal) (t n : ℕ) : ℝ :=
  if h : t < 128 ∧ n < 1536 then (M (ix2 ⟨t, h.1⟩ ⟨n, h.2⟩)).toReal else 0

/-- The rows attended to: the sixteen meta rows, then the positions. -/
def keyRow (X : SX.Idx → EReal) (M : SM.Idx → EReal) (b : Fin 4) (s n : ℕ) : ℝ :=
  if s < 16 then rM M s n else rX X b (s - 16) n

/-- The score of position `t` against row `s` in head `g`. -/
def score (X : SX.Idx → EReal) (M : SM.Idx → EReal) (b : Fin 4) (t g s : ℕ) : ℝ :=
  (∑ l : Fin 64, rX X b t (64 * g + l.val) * keyRow X M b s (512 + 64 * g + l.val)) * (1 / 8)

/-- The weight of row `s` under the scores `z` of the `T` rows before. -/
def wt (z : ℕ → ℝ) (T s : ℕ) : ℝ := Real.exp (-spX (-z s) - ((∑ j ∈ Finset.Ico s T, spX (z j)) - spX (z s)))

/-- The attention at position `t`, column `n`. -/
def specAt (X : SX.Idx → EReal) (M : SM.Idx → EReal) (b : Fin 4) (t n : ℕ) : ℝ :=
  ∑ s ∈ Finset.Ico 0 (16 + t), wt (score X M b t (n / 64)) (16 + t) s * keyRow X M b s (1024 + n)

theorem att_spec (X : SX.Idx → EReal) (M : SM.Idx → EReal) (b : Fin 4) (t n : ℕ) (z v : ℕ → ℝ)
    (hz : ∀ s, s < 16 + t → z s = score X M b t (n / 64) s * lg)
    (hv : ∀ s, s < 16 + t → v s = keyRow X M b s (1024 + n)) : att z v (16 + t) 0 = specAt X M b t n := by
  unfold att specAt
  refine Finset.sum_congr rfl fun s hs => ?_
  have hs' := (Finset.mem_Ico.mp hs).2
  rw [hv s hs']
  congr 1
  have e : wgt z (16 + t) s = wgt (fun s => score X M b t (n / 64) s * lg) (16 + t) s := by
    unfold wgt suf
    rw [hz s hs', Finset.sum_congr rfl fun j hj => by rw [hz j (Finset.mem_Ico.mp hj).2]]
  rw [e, wgt_lg _ _ _ hs']; rfl

theorem rX_coe (X : SX.Idx → EReal) (hX : ∀ j, X j = ((X j).toReal : EReal)) (b : Fin 4) (t n : ℕ) (ht : t < 8192) (hn : n < 1536) :
    X (ix3 b ⟨t, ht⟩ ⟨n, hn⟩) = ((rX X b t n : ℝ) : EReal) := by
  unfold rX; rw [dif_pos ⟨ht, hn⟩]; exact hX _

theorem rM_coe (M : SM.Idx → EReal) (hM : ∀ j, M j = ((M j).toReal : EReal)) (t n : ℕ) (ht : t < 128) (hn : n < 1536) :
    M (ix2 ⟨t, ht⟩ ⟨n, hn⟩) = ((rM M t n : ℝ) : EReal) := by
  unfold rM; rw [dif_pos ⟨ht, hn⟩]; exact hM _

/-- A sum over two heads' lanes of what is nonzero in one head only. -/
theorem sum_half (h : Fin 2) (f : ℕ → ℝ) :
    (∑ l : Fin 128, if (l.val < 64 ↔ h = 0) then f l.val else 0) = ∑ l : Fin 64, f (64 * h.val + l.val) := by
  rw [Fin.sum_univ_eq_sum_range (fun l => if (l < 64 ↔ h = 0) then f l else 0) 128, Fin.sum_univ_eq_sum_range (fun l => f (64 * h.val + l)) 64,
    Finset.sum_range_add (fun l => if (l < 64 ↔ h = 0) then f l else 0) 64 64]
  match h with
  | ⟨0, _⟩ =>
    rw [Finset.sum_congr rfl fun l hl => if_pos (by simp [Finset.mem_range.mp hl]),
      Finset.sum_eq_zero (s := Finset.range 64) (f := fun x => if (64 + x < 64 ↔ _) then f (64 + x) else 0) fun l _ => if_neg (by simp)]
    simp
  | ⟨1, _⟩ =>
    rw [Finset.sum_eq_zero (s := Finset.range 64) (f := fun x => if (x < 64 ↔ _) then f x else 0) fun l hl => if_neg (by simp [Finset.mem_range.mp hl]),
      Finset.sum_congr rfl fun l hl => if_pos (by simp)]
    simp

end Cert.SB

end
-- ==== Proof.SB.KernelIdeal.Array.lean ====
/-
  The output array: every block of it is the attention of its head pair and its rows, so the array is the formula.
-/
module

public import proofs.«01_k».proof.Proof.SB.KernelIdeal.Value
public import proofs.«01_k».proof.Proof.SB.KernelIdeal.Run
public import proofs.«01_k».proof.Proof.SB.Spec
public import Idealize.ShloMosaic.Lib.Pipeline.ValueKit

@[expose] public section

set_option maxRecDepth 16384

noncomputable section

namespace Cert.KernelIdeal.SB

open Cert.KernelIdeal Cert.KernelIdeal.Gen
open Idealize.ShloMosaic hiding ix0 ix1 ix2 ix3 ix4 ix5
open Idealize.ShloMosaic.ValueIdx
open Idealize.ShloMosaic.TcCoe Idealize.ShloMosaic.Tactic
open Idealize.SL Idealize.SL.Sem
open Cert.SB
open scoped BigOperators

/-! ## Which block each operand has at a point -/

theorem at0 : ∀ t : Fin (cfg0 (F := Ideal)).N, win0_0.index t = ![(grid0.coords t 0).val, (grid0.coords t 2).val, (grid0.coords t 1).val] :=
  (by decide +kernel : ∀ t : Fin grid0.N, _)
theorem at1 : ∀ t : Fin (cfg0 (F := Ideal)).N, win0_1.index t = ![(grid0.coords t 0).val, 0, 4 + (grid0.coords t 1).val] :=
  (by decide +kernel : ∀ t : Fin grid0.N, _)
theorem at2 : ∀ t : Fin (cfg0 (F := Ideal)).N, win0_2.index t = ![(grid0.coords t 0).val, 0, 8 + (grid0.coords t 1).val] :=
  (by decide +kernel : ∀ t : Fin grid0.N, _)
theorem at3 : ∀ t : Fin (cfg0 (F := Ideal)).N, win0_3.index t = ![0, 4 + (grid0.coords t 1).val] :=
  (by decide +kernel : ∀ t : Fin grid0.N, _)
theorem at4 : ∀ t : Fin (cfg0 (F := Ideal)).N, win0_4.index t = ![0, 8 + (grid0.coords t 1).val] :=
  (by decide +kernel : ∀ t : Fin grid0.N, _)
theorem at5 : ∀ t : Fin (cfg0 (F := Ideal)).N, win0_5.index t = ![0, 0] :=
  (by decide +kernel : ∀ t : Fin grid0.N, _)
theorem at6 : ∀ t : Fin (cfg0 (F := Ideal)).N, win0_6.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin (cfg0 (F := Ideal)).N)

abbrev aX : SX.Idx → EReal := m ((c : Thread nD τ).loc main_arg0)
abbrev aM : SM.Idx → EReal := m ((c : Thread nD τ).loc main_arg1)

theorem g0 : (grid0.coords t 0).val < 4 := (grid0.coords t 0).isLt
theorem g1 : (grid0.coords t 1).val < 4 := (grid0.coords t 1).isLt
theorem g2 : (grid0.coords t 2).val < 8 := (grid0.coords t 2).isLt

theorem q_read (r : Fin 1024) (l : Fin 128) : (blocks m c t).x3 (ix3 0 r l) = aX m c (ix3 (grid0.coords t 0)
    ⟨1024 * (grid0.coords t 2).val + r.val, by have := g2 t; omega⟩ ⟨128 * (grid0.coords t 1).val + l.val, by have := g1 t; omega⟩) := by
  show V m c main_arg0 ((win0_0.blk t).view.emb (ix3 0 r l)) = _
  rw [(V_arg m c).1]
  congr 1
  blk_ext [at0]
  · change _ + r.val = _; omega
  · change _ + l.val = _; omega

theorem k_read (s : Fin 8192) (l : Fin 128) : (blocks m c t).x4 (ix3 0 s l) = aX m c (ix3 (grid0.coords t 0)
    ⟨s.val, s.isLt⟩ ⟨512 + 128 * (grid0.coords t 1).val + l.val, by have := g1 t; omega⟩) := by
  show V m c main_arg0 ((win0_1.blk t).view.emb (ix3 0 s l)) = _
  rw [(V_arg m c).1]
  congr 1
  blk_ext [at1]
  change _ + l.val = _; omega

theorem v_read (s : Fin 8192) (l : Fin 128) : (blocks m c t).x5 (ix3 0 s l) = aX m c (ix3 (grid0.coords t 0)
    ⟨s.val, s.isLt⟩ ⟨1024 + 128 * (grid0.coords t 1).val + l.val, by have := g1 t; omega⟩) := by
  show V m c main_arg0 ((win0_2.blk t).view.emb (ix3 0 s l)) = _
  rw [(V_arg m c).1]
  congr 1
  blk_ext [at2]
  change _ + l.val = _; omega

theorem km_read (s l : Fin 128) : (blocks m c t).x6 (ix2 s l) = aM m c (ix2
    ⟨s.val, s.isLt⟩ ⟨512 + 128 * (grid0.coords t 1).val + l.val, by have := g1 t; omega⟩) := by
  show V m c main_arg1 ((win0_3.blk t).view.emb (ix2 s l)) = _
  rw [(V_arg m c).2]
  congr 1
  blk_ext [at3]
  change _ + l.val = _; omega

theorem vm_read (s l : Fin 128) : (blocks m c t).x7 (ix2 s l) = aM m c (ix2
    ⟨s.val, s.isLt⟩ ⟨1024 + 128 * (grid0.coords t 1).val + l.val, by have := g1 t; omega⟩) := by
  show V m c main_arg1 ((win0_4.blk t).view.emb (ix2 s l)) = _
  rw [(V_arg m c).2]
  congr 1
  blk_ext [at4]
  change _ + l.val = _; omega

theorem tri_read (j k : Fin 256) : (blocks m c t).x8 (ix2 j k) = V m c main_v7 (ix2 j k) := by
  show V m c main_v7 ((win0_5.blk t).view.emb (ix2 j k)) = _
  congr 1
  blk_ext [at5]

theorem tri_val (j k : Fin 256) : (show EReal from V m c main_v7 (ix2 j k)) = if k ≤ j then 1 else 0 := by
  have e : V m c main_v7 = (uitofp .bf16 (cmpi .sge
      (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0))))
      : FVec Ideal S256x256 .bf16) := by
    entry_read
    try rfl
  rw [e]
  have e2 : IntOp.cmpi .sge (BitVec.ofNat 32 j.val) (BitVec.ofNat 32 k.val) = BitVec.ofBool (decide (k.val ≤ j.val)) := by
    show BitVec.ofBool (decide _) = _
    congr 1
    rw [WordCmp.toInt_ofNat_of_lt (by omega), WordCmp.toInt_ofNat_of_lt (by omega)]
    simp
  show (((IntOp.cmpi .sge (BitVec.ofNat 32 j.val) (BitVec.ofNat 32 k.val)).toNat : ℝ) : EReal) = _
  rw [e2]
  by_cases h : k ≤ j
  · rw [if_pos h, decide_eq_true (Fin.le_def.mp h)]; simp
  · rw [if_neg h, decide_eq_false (fun h' => h (Fin.le_def.mpr h'))]; simp

variable (hX : ∀ j, aX m c j = ((aX m c j).toReal : EReal)) (hM : ∀ j, aM m c j = ((aM m c j).toReal : EReal))

include hX hM in
theorem holds : Holds (blocks m c t)
    (fun r l => rX (aX m c) (grid0.coords t 0) (1024 * (grid0.coords t 2).val + r) (128 * (grid0.coords t 1).val + l))
    (fun s l => keyRow (aX m c) (aM m c) (grid0.coords t 0) s (512 + 128 * (grid0.coords t 1).val + l))
    (fun s l => keyRow (aX m c) (aM m c) (grid0.coords t 0) s (1024 + 128 * (grid0.coords t 1).val + l)) where
  q r l := (q_read m c t r l).trans (rX_coe _ hX _ _ _ _ _)
  k s l := by
    refine (k_read m c t s l).trans ((rX_coe _ hX _ _ _ _ _).trans ?_)
    unfold keyRow
    rw [if_neg (by omega), Nat.add_sub_cancel_left]
  v s l := by
    refine (v_read m c t s l).trans ((rX_coe _ hX _ _ _ _ _).trans ?_)
    unfold keyRow
    rw [if_neg (by omega), Nat.add_sub_cancel_left]
  kM s l hs := by
    refine (km_read m c t s l).trans ((rM_coe _ hM _ _ _ _).trans ?_)
    unfold keyRow
    rw [if_pos hs]
  vM s l hs := by
    refine (vm_read m c t s l).trans ((rM_coe _ hM _ _ _ _).trans ?_)
    unfold keyRow
    rw [if_pos hs]
  tri j k := (tri_read m c t j k).trans (tri_val m c j k)

theorem score_zz (X : SX.Idx → EReal) (M : SM.Idx → EReal) (b : Fin 4) (t0 p : ℕ) (h : Fin 2) (r s : ℕ) :
    zz (fun r l => rX X b (t0 + r) (128 * p + l)) (fun s l => keyRow X M b s (512 + 128 * p + l)) h r s
      = score X M b (t0 + r) (2 * p + h.val) s * lg := by
  unfold zz qR score
  have e : ∀ l : Fin 128, (if (l.val < 64 ↔ h = 0) then rX X b (t0 + r) (128 * p + l.val) * ((1 / 8) * lg) else 0) * keyRow X M b s (512 + 128 * p + l.val)
      = if (l.val < 64 ↔ h = 0) then (fun n => rX X b (t0 + r) (128 * p + n) * keyRow X M b s (512 + 128 * p + n) * ((1 / 8) * lg)) l.val else 0 := by
    intro l
    by_cases hl : (l.val < 64 ↔ h = 0)
    · rw [if_pos hl, if_pos hl]; ring
    · rw [if_neg hl, if_neg hl, zero_mul]
  refine (Finset.sum_congr rfl fun l _ => e l).trans ((sum_half h (fun n => rX X b (t0 + r) (128 * p + n) * keyRow X M b s (512 + 128 * p + n) * ((1 / 8) * lg))).trans ?_)
  rw [← Finset.sum_mul, ← mul_assoc]
  congr 2
  refine Finset.sum_congr rfl fun l _ => ?_
  rw [show 128 * p + (64 * h.val + l.val) = 64 * (2 * p + h.val) + l.val by ring,
    show 512 + 128 * p + (64 * h.val + l.val) = 512 + 64 * (2 * p + h.val) + l.val by ring]

include hX hM in
theorem out_point (r : Fin 1024) (d : Fin 128) : ((blocks m c t).out (ix3 0 r d) : EReal)
    = ((specAt (aX m c) (aM m c) (grid0.coords t 0) (1024 * (grid0.coords t 2).val + r.val) (128 * (grid0.coords t 1).val + d.val) : ℝ) : EReal) := by
  have hr : r = row ⟨r.val / 256, by omega⟩ ⟨r.val % 256, by omega⟩ := Fin.ext (Nat.div_add_mod _ _).symm
  rw [hr]
  refine (out_apply (holds m c t hX hM) _ _ d).trans (congrArg _ ?_)
  rw [← hr]
  have hp : past (blocks m c t) ⟨r.val / 256, by omega⟩ ⟨r.val % 256, by omega⟩ = 16 + (1024 * (grid0.coords t 2).val + r.val) := by
    show 16 + (1024 * (grid0.coords t 2).val + 256 * (r.val / 256)) + r.val % 256 = _
    omega
  rw [hp]
  have hg : 2 * (grid0.coords t 1).val + (headOf d).val = (128 * (grid0.coords t 1).val + d.val) / 64 := by
    unfold headOf
    split
    · show 2 * (grid0.coords t 1).val + 0 = _; omega
    · show 2 * (grid0.coords t 1).val + 1 = _; omega
  refine att_spec _ _ _ _ _ _ _ (fun s _ => ?_) fun s _ => ?_
  · rw [← hg]; exact score_zz _ _ _ _ _ _ _ _
  · show keyRow _ _ _ s (1024 + 128 * (grid0.coords t 1).val + d.val) = _
    rw [Nat.add_assoc]

include hX hM in
/-- The output array is the formula. -/
theorem out_arr : (dats m 0 c).arrAt 6 (cfg0 (F := Ideal)).N
    = fun j : S4x8192x512.Idx => ((specAt (aX m c) (aM m c) (j 0) (j 1).val (j 2).val : ℝ) : EReal) := by
  refine (dats m 0 c).arrAt_eq_of_covers 6 _ (by decide +kernel) fun t _ y => ?_
  blk_simp
  rw [after_6]
  have hy : y = (ix3 0 (y 1) (y 2) : S1x1024x128.Idx) := by
    funext a
    match a with
    | ⟨0, _⟩ => exact Subsingleton.elim (α := Fin 1) _ _
    | ⟨1, _⟩ => rfl
    | ⟨2, _⟩ => rfl
  refine (congrArg (blocks m c t).out hy).trans ((out_point m c t hX hM (y 1) (y 2)).trans (congrArg _ ?_))
  have e0 : (win0_6.blk t).view.emb y 0 = grid0.coords t 0 := by
    apply Fin.ext
    blk_simp [at6]
  have e1 : win0_6.index t 1 * 1024 + (y 1).val = 1024 * (grid0.coords t 2).val + (y 1).val := by
    rw [at6, Nat.mul_comm]; rfl
  have e2 : win0_6.index t 2 * 128 + (y 2).val = 128 * (grid0.coords t 1).val + (y 2).val := by
    rw [at6, Nat.mul_comm]; rfl
  rw [e0, e1, e2]

variable (ρ : Dev nD → PrngReg)

/-- Every execution from real arguments ends with the output array at the formula. -/
theorem run_spec (hX : ∀ c j, aX m c j = ((aX m c j).toReal : EReal)) (hM : ∀ c j, aM m c j = ((aM m c j).toReal : EReal)) :
    θ_run defs (onTc (τ := τ) (main (F := Ideal))) ⟨m, fun _ => 0, ρ⟩ (fun r => ∀ c : Dev nD,
      r.2.mem ((c.tc : Thread nD τ).loc main_v8) = (fun j : S4x8192x512.Idx => ((specAt (aX m c) (aM m c) (j 0) (j 1).val (j 2).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 6).trans (out_arr m c (hX c) (hM c)),
      (((h.1 c).1 2).trans ((dats m 0 c).arrAt_in 2 rfl _)).trans ((dats_A m c 2).trans (V_arg m c).1),
      (((h.1 c).1 4).trans ((dats m 0 c).arrAt_in 4 rfl _)).trans ((dats_A m c 4).trans (V_arg m c).2)⟩) (run_quiescent m ρ)

end Cert.KernelIdeal.SB

end
-- ==== Proof.SB.RefRead.lean ====
/-
  The reference, read at an index: its heads, scores, softplus, sums from the right, weights and output.
-/
module

public import proofs.«01_k».proof.Proof.Gen.ReferenceIdeal.Run
public import proofs.«01_k».proof.Proof.SB.Spec
public import Idealize.ShloMosaic.Lib.MatmulPlain
public import Idealize.ShloMosaic.Lib.ValueIdx
public import Idealize.ShloMosaic.Lib.ValueIdxCoords
public import Idealize.ShloMosaic.Lib.IdealHost
public import Idealize.ShloMosaic.Lib.Pipeline.Value
public import Idealize.ShloMosaic.Lib.Pointwise
public import Idealize.ShloMosaic.Lib.WordCmp

@[expose] public section

set_option maxRecDepth 32768

noncomputable section

namespace Cert.ReferenceIdeal.SB

open Cert.ReferenceIdeal Cert.ReferenceIdeal.Gen
open Idealize.ShloMosaic hiding ix0 ix1 ix2 ix3 ix4 ix5
open Idealize.ShloMosaic.ValueIdx
open Idealize.ShloMosaic.TcCoe
open Cert.SB
open scoped BigOperators

/-! ## The reference, a part at a time -/

variable (X : FVec Ideal S4x8192x1536 .bf16) (M : FVec Ideal S128x1536 .bf16)

def qRows : FVec Ideal S4x8192x512 .f32 :=
  extf .f32 (extractStridedSlice S4x8192x512 ![0, 0, 0] X slices_S4x8192x1536_S4x8192x512_0_0_0) bitsLt_bf16_f32
def mRows : FVec Ideal S4x16x1536 .f32 :=
  broadcastInDim S4x16x1536 ![0, 1, 2] bcast_S1x16x1536_S4x16x1536_0_1_2 (extf .f32 (broadcastInDim S1x16x1536 ![1, 2] bcast_S16x1536_S1x16x1536_1_2
    (extractStridedSlice S16x1536 ![0, 0] M slices_S128x1536_S16x1536_0_0)) bitsLt_bf16_f32)
def kRows : FVec Ideal S4x8208x512 .f32 :=
  concatenate S4x8208x512 1 [⟨S4x16x512, extractStridedSlice S4x16x512 ![0, 0, 512] (mRows M) slices_S4x16x1536_S4x16x512_0_0_512⟩,
    ⟨S4x8192x512, extf .f32 (extractStridedSlice S4x8192x512 ![0, 0, 512] X slices_S4x8192x1536_S4x8192x512_0_0_512) bitsLt_bf16_f32⟩]
    concatenates_S4x16x512_S4x8192x512_S4x8208x512_d1
def vRows : FVec Ideal S4x8208x512 .f32 :=
  concatenate S4x8208x512 1 [⟨S4x16x512, extractStridedSlice S4x16x512 ![0, 0, 1024] (mRows M) slices_S4x16x1536_S4x16x512_0_0_1024⟩,
    ⟨S4x8192x512, extf .f32 (extractStridedSlice S4x8192x512 ![0, 0, 1024] X slices_S4x8192x1536_S4x8192x512_0_0_1024) bitsLt_bf16_f32⟩]
    concatenates_S4x16x512_S4x8192x512_S4x8208x512_d1
def qHeads : FVec Ideal S4x8x8192x64 .f32 :=
  transpose S4x8x8192x64 [0, 2, 1, 3] (shapeCast S4x8192x8x64 (qRows X) shapeCasts_S4x8192x512_S4x8192x8x64) transposes_S4x8192x8x64_S4x8x8192x64_0_2_1_3
/-- The heads of the rows attended to. -/
def sHeads (Y : FVec Ideal S4x8208x512 .f32) : FVec Ideal S4x8x8208x64 .f32 :=
  transpose S4x8x8208x64 [0, 2, 1, 3] (shapeCast S4x8208x8x64 Y shapeCasts_S4x8208x512_S4x8208x8x64) transposes_S4x8208x8x64_S4x8x8208x64_0_2_1_3
def zArr : FVec Ideal S4x8x8192x8208 .f32 :=
  mulf (Host.dotGeneral dot_S4x8x8192x64_S4x8x8208x64_S4x8x8192x8208_3_3_2_2_01_01 none (qHeads X) (sHeads (kRows X M)))
    (broadcastInDim S4x8x8192x8208 ![] bcast_S_S4x8x8192x8208 (constant S_ .f32 0x3E000000#32))
def seen : IVec S4x8x8192x8208 1 :=
  broadcastInDim S4x8x8192x8208 ![2, 3] bcast_S8192x8208_S4x8x8192x8208_2_3 (cmpi .slt (iotaInDim S8192x8208 32 1)
    (addi (iotaInDim S8192x8208 32 0) (broadcastInDim S8192x8208 ![] bcast_S_S8192x8208 (constantI S_ 32 16#32))))
def zero4 : FVec Ideal S4x8x8192x8208 .f32 := broadcastInDim S4x8x8192x8208 ![] bcast_S_S4x8x8192x8208 (constant S_ .f32 0x00000000#32)
/-- The softplus as the reference's library writes it. -/
def softp (z : FVec Ideal S4x8x8192x8208 .f32) : FVec Ideal S4x8x8192x8208 .f32 :=
  select (cmpf .une (subf z zero4) (subf z zero4)) (addf z zero4)
    (addf (maximumf z zero4) (Host.log1p (Host.exp (Host.negf (Host.absf (subf z zero4))))))
def nlb : FVec Ideal S4x8x8192x8208 .f32 := select seen (softp (zArr X M)) zero4
def cums (x : FVec Ideal S4x8x8192x8208 .f32) : FVec Ideal S4x8x8192x8208 .f32 :=
  Host.reduceWindowAdd ![1, 1, 1, 8208] ![1, 1, 1, 1] ![0, 0, 0, 0] ![0, 0, 0, 8207] x (broadcastInDim S_ ![] bcast_S_S_ (constant S_ .f32 0x00000000#32))
    reduceWindows_S4x8x8192x8208_S4x8x8192x8208_w1s1p0_0_w1s1p0_0_w1s1p0_0_w8208s1p0_8207 h_S_
def wArr : FVec Ideal S4x8x8192x8208 .f32 :=
  select seen (Host.exp (subf (Host.negf (softp (Host.negf (zArr X M)))) (subf (cums (nlb X M)) (nlb X M)))) zero4
def outArr : FVec Ideal S4x8192x512 .bf16 :=
  truncf .bf16 (shapeCast S4x8192x512 (transpose S4x8192x8x64 [0, 2, 1, 3]
    (Host.dotGeneral dot_S4x8x8192x8208_S4x8x8208x64_S4x8x8192x64_3_2_2_3_01_01 none (wArr X M) (sHeads (vRows X M)))
    transposes_S4x8x8192x64_S4x8192x8x64_0_2_1_3) shapeCasts_S4x8192x8x64_S4x8192x512) bitsLt_bf16_f32

theorem res_eq (m : (ℓ : Loc nD τ sig) → Buf (Elt Ideal) ℓ) (c : Dev nD) :
    Cert.ReferenceIdeal.Value.res_main_v39 m c = outArr (m ((c : Thread nD τ).loc main_arg0)) (m ((c : Thread nD τ).loc main_arg1)) := by
  unfold Cert.ReferenceIdeal.Value.res_main_v39
  rfl

/-! ## The heads -/

theorem qHeads_apply (b : Fin 4) (g : Fin 8) (t : Fin 8192) (l : Fin 64) :
    qHeads X (ix4 b g t l) = X (ix3 b t ⟨64 * g.val + l.val, by omega⟩) := by
  unfold qHeads qRows
  pointwise
  congr 1; funext a
  match a with
  | ⟨0, _⟩ => rfl
  | ⟨1, _⟩ => rfl
  | ⟨2, _⟩ => exact Fin.ext (congrArg (· + l.val) (Nat.mul_comm g.val 64))

theorem sHeads_apply (Y : FVec Ideal S4x8208x512 .f32) (b : Fin 4) (g : Fin 8) (t : Fin 8208) (l : Fin 64) :
    sHeads Y (ix4 b g t l) = Y (ix3 b t ⟨64 * g.val + l.val, by omega⟩) := by
  unfold sHeads
  pointwise
  congr 1; funext a
  match a with
  | ⟨0, _⟩ => rfl
  | ⟨1, _⟩ => rfl
  | ⟨2, _⟩ => exact Fin.ext (congrArg (· + l.val) (Nat.mul_comm g.val 64))

theorem mRows_apply (b : Fin 4) (s : Fin 16) (n : Fin 1536) : mRows M (ix3 b s n) = M (ix2 ⟨s.val, by omega⟩ n) := by
  unfold mRows
  pointwise
  congr 1

theorem cat_lo (A : FVec Ideal S4x16x512 .f32) (B : FVec Ideal S4x8192x512 .f32) (b : Fin 4) (s : Fin 8208) (n : Fin 512) (h : s.val < 16) :
    concatenate S4x8208x512 1 [⟨S4x16x512, A⟩, ⟨S4x8192x512, B⟩] concatenates_S4x16x512_S4x8192x512_S4x8208x512_d1 (ix3 b s n) = A (ix3 b ⟨s.val, h⟩ n) := by
  refine concatenate_pair_apply_left (t := S4x8208x512) (s₁ := S4x16x512) (s₂ := S4x8192x512) 1 A B _ (ix3 b s n) rfl (ix3 b ⟨s.val, h⟩ n) fun a => ?_
  match a with
  | ⟨0, _⟩ => rfl
  | ⟨1, _⟩ => rfl
  | ⟨2, _⟩ => rfl

theorem cat_hi (A : FVec Ideal S4x16x512 .f32) (B : FVec Ideal S4x8192x512 .f32) (b : Fin 4) (s : Fin 8208) (n : Fin 512) (h : ¬ s.val < 16) :
    concatenate S4x8208x512 1 [⟨S4x16x512, A⟩, ⟨S4x8192x512, B⟩] concatenates_S4x16x512_S4x8192x512_S4x8208x512_d1 (ix3 b s n)
      = B (ix3 b ⟨s.val - 16, by omega⟩ n) := by
  refine concatenate_pair_apply_right (t := S4x8208x512) (s₁ := S4x16x512) (s₂ := S4x8192x512) 1 A B _ (ix3 b s n) rfl rfl
    (ix3 b ⟨s.val - 16, by omega⟩ n) (fun a ha => ?_) (Nat.sub_add_cancel (Nat.not_lt.mp h))
  match a with
  | ⟨0, _⟩ => rfl
  | ⟨1, _⟩ => exact absurd rfl ha
  | ⟨2, _⟩ => rfl

section
variable {X M}
variable (hX : ∀ j, X j = ((EReal.toReal (X j) : ℝ) : EReal)) (hM : ∀ j, M j = ((EReal.toReal (M j) : ℝ) : EReal))

include hX hM

theorem kRows_apply (b : Fin 4) (s : Fin 8208) (n : Fin 512) :
    kRows X M (ix3 b s n) = ((keyRow X M b s.val (512 + n.val) : ℝ) : EReal) := by
  unfold kRows keyRow
  by_cases h : s.val < 16
  · rw [if_pos h]
    refine (cat_lo _ _ b s n h).trans (Eq.trans ?_ ((mRows_apply M b ⟨s.val, h⟩ ⟨512 + n.val, by omega⟩).trans (rM_coe M hM _ _ _ _)))
    rw [Pointwise.extractStridedSlice_apply]
    congr 1; funext a
    match a with
    | ⟨0, _⟩ => exact Fin.ext (Nat.zero_add _)
    | ⟨1, _⟩ => exact Fin.ext (Nat.zero_add _)
    | ⟨2, _⟩ => rfl
  · rw [if_neg h]
    refine (cat_hi _ _ b s n h).trans (Eq.trans ?_ (rX_coe X hX b (s.val - 16) (512 + n.val) (by omega) (by omega)))
    show extractStridedSlice S4x8192x512 ![0, 0, 512] X slices_S4x8192x1536_S4x8192x512_0_0_512 _ = _
    rw [Pointwise.extractStridedSlice_apply]
    congr 1; funext a
    match a with
    | ⟨0, _⟩ => exact Fin.ext (Nat.zero_add _)
    | ⟨1, _⟩ => exact Fin.ext (Nat.zero_add _)
    | ⟨2, _⟩ => rfl

theorem vRows_apply (b : Fin 4) (s : Fin 8208) (n : Fin 512) :
    vRows X M (ix3 b s n) = ((keyRow X M b s.val (1024 + n.val) : ℝ) : EReal) := by
  unfold vRows keyRow
  by_cases h : s.val < 16
  · rw [if_pos h]
    refine (cat_lo _ _ b s n h).trans (Eq.trans ?_ ((mRows_apply M b ⟨s.val, h⟩ ⟨1024 + n.val, by omega⟩).trans (rM_coe M hM _ _ _ _)))
    rw [Pointwise.extractStridedSlice_apply]
    congr 1; funext a
    match a with
    | ⟨0, _⟩ => exact Fin.ext (Nat.zero_add _)
    | ⟨1, _⟩ => exact Fin.ext (Nat.zero_add _)
    | ⟨2, _⟩ => rfl
  · rw [if_neg h]
    refine (cat_hi _ _ b s n h).trans (Eq.trans ?_ (rX_coe X hX b (s.val - 16) (1024 + n.val) (by omega) (by omega)))
    show extractStridedSlice S4x8192x512 ![0, 0, 1024] X slices_S4x8192x1536_S4x8192x512_0_0_1024 _ = _
    rw [Pointwise.extractStridedSlice_apply]
    congr 1; funext a
    match a with
    | ⟨0, _⟩ => exact Fin.ext (Nat.zero_add _)
    | ⟨1, _⟩ => exact Fin.ext (Nat.zero_add _)
    | ⟨2, _⟩ => rfl

end

/-! ## The two products -/

theorem dot_qk (l : FVec Ideal S4x8x8192x64 .f32) (r : FVec Ideal S4x8x8208x64 .f32) (b : Fin 4) (g : Fin 8) (t : Fin 8192) (s : Fin 8208) :
    Host.dotGeneral dot_S4x8x8192x64_S4x8x8208x64_S4x8x8192x8208_3_3_2_2_01_01 none l r (ix4 b g t s)
      = ∑ k : Fin 64, (l (ix4 b g t k) * r (ix4 b g s k) : EReal) := by
  refine (zero_add _).trans ?_
  rw [← Equiv.sum_comp (contrEquiv1 dot_S4x8x8192x64_S4x8x8208x64_S4x8x8192x8208_3_3_2_2_01_01 64 rfl rfl).symm]
  refine Finset.sum_congr rfl fun k _ => ?_
  have hk := contrEquiv1_symm_val dot_S4x8x8192x64_S4x8x8208x64_S4x8x8192x8208_3_3_2_2_01_01 64 rfl rfl k
  refine congrArg₂ (fun x y : EReal => x * y) (congrArg l ?_) (congrArg r ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem dot_wv (l : FVec Ideal S4x8x8192x8208 .f32) (r : FVec Ideal S4x8x8208x64 .f32) (b : Fin 4) (g : Fin 8) (t : Fin 8192) (d : Fin 64) :
    Host.dotGeneral dot_S4x8x8192x8208_S4x8x8208x64_S4x8x8192x64_3_2_2_3_01_01 none l r (ix4 b g t d)
      = ∑ s : Fin 8208, (l (ix4 b g t s) * r (ix4 b g s d) : EReal) := by
  refine (zero_add _).trans ?_
  rw [← Equiv.sum_comp (contrEquiv1 dot_S4x8x8192x8208_S4x8x8208x64_S4x8x8192x64_3_2_2_3_01_01 8208 rfl rfl).symm]
  refine Finset.sum_congr rfl fun k _ => ?_
  have hk := contrEquiv1_symm_val dot_S4x8x8192x8208_S4x8x8208x64_S4x8x8192x64_3_2_2_3_01_01 8208 rfl rfl k
  refine congrArg₂ (fun x y : EReal => x * y) (congrArg l ?_) (congrArg r ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => exact hk
    | ⟨3, _⟩ => rfl

/-! ## The masks and the softplus -/

theorem seen_apply (b : Fin 4) (g : Fin 8) (t : Fin 8192) (s : Fin 8208) : seen (ix4 b g t s) = BitVec.ofBool (decide (s.val < 16 + t.val)) := by
  have e : seen (ix4 b g t s) = IntOp.cmpi .slt (BitVec.ofNat 32 s.val) (IntOp.addi (BitVec.ofNat 32 t.val) 16#32) := by
    unfold seen
    pointwise
  rw [e, show IntOp.addi (BitVec.ofNat 32 t.val) 16#32 = BitVec.ofNat 32 (16 + t.val) from by
    rw [Nat.add_comm]; exact (BitVec.ofNat_add t.val 16).symm]
  exact WordCmp.cmpi_slt_ofNat (by omega) (by omega)

theorem zero4_apply (j) : (zero4 j : EReal) = 0 := by
  unfold zero4
  exact Ideal.ofBits_zero_f32

theorem select_seen (b : Fin 4) (g : Fin 8) (t : Fin 8192) (s : Fin 8208) (x y : FVec Ideal S4x8x8192x8208 .f32) :
    select seen x y (ix4 b g t s) = if s.val < 16 + t.val then x (ix4 b g t s) else y (ix4 b g t s) := by
  show Scalar.select (seen (ix4 b g t s)) _ _ = _
  rw [seen_apply]
  by_cases h : s.val < 16 + t.val
  · rw [if_pos h, decide_eq_true h]; rfl
  · rw [if_neg h, decide_eq_false h]; rfl

theorem softp_apply (z : FVec Ideal S4x8x8192x8208 .f32) (j) (x : ℝ) (h : (z j : EReal) = (x : EReal)) : (softp z j : EReal) = ((spX x : ℝ) : EReal) := by
  have e : softp z j = (Scalar.select (Ideal.cmp .une (z j - zero4 j : EReal) (z j - zero4 j : EReal)) (z j + zero4 j : EReal)
      (max (z j : EReal) (zero4 j) + Ideal.log (1 + Ideal.exp (-(max (z j - zero4 j : EReal) (-(z j - zero4 j : EReal)))))) : EReal) := rfl
  rw [e, zero4_apply, h, sub_zero]
  have e1 : Ideal.cmp .une (x : EReal) (x : EReal) = 0#1 := by simp [Ideal.cmp]
  rw [e1]
  show max (x : EReal) 0 + _ = _
  have hp : (0 : ℝ) < 1 + Real.exp (-max x (-x)) := by positivity
  rw [← EReal.coe_neg, coe_max, ← EReal.coe_neg, exp_coe, ← EReal.coe_one, ← EReal.coe_add, log_coe hp, ← EReal.coe_zero, coe_max, ← EReal.coe_add]
  rfl

/-! ## The sum from the right -/

theorem foldl_add {ι : Type} (f : ι → EReal) (l : List ι) (v : EReal) : l.foldl (fun r k => r + f k) v = v + (l.map f).sum := by
  induction l generalizing v with
  | nil => simp
  | cons a l ih => rw [List.foldl_cons, ih, List.map_cons, List.sum_cons, add_assoc]

/-- A window's index as its last coordinate. -/
def winEquiv : (⟨4, ![1, 1, 1, 8208]⟩ : Shape).Idx ≃ Fin 8208 where
  toFun w := w 3
  invFun u := ix4 (0 : Fin 1) (0 : Fin 1) (0 : Fin 1) u
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv u := rfl

/-- What a window adds at an offset: the operand's entry there, the initial value outside. -/
def winAt {s t : Shape} (window strides lo : Fin s.rank → ℕ) (hr : s.rank = t.rank) (x : s.Idx → EReal) (v : EReal) (j : t.Idx)
    (w : (⟨s.rank, window⟩ : Shape).Idx) : EReal :=
  if hin : ∀ a : Fin s.rank, lo a ≤ (j (a.cast hr)).val * strides a + (w a).val ∧ (j (a.cast hr)).val * strides a + (w a).val - lo a < s.size a
    then x (fun a => ⟨(j (a.cast hr)).val * strides a + (w a).val - lo a, (hin a).2⟩) else v

theorem window_sum {s t u : Shape} (window strides lo hi : Fin s.rank → ℕ) (x : FVec Ideal s .f32) (init : FVec Ideal u .f32)
    (h : s.ReduceWindows window strides lo hi t) (hu : 0 < u.numel) (j : t.Idx) :
    (Host.reduceWindowAdd window strides lo hi x init h hu j : EReal)
      = init (Shape.Idx.first hu) + ∑ w, winAt window strides lo h.1.symm x (init (Shape.Idx.first hu)) j w := by
  show Ideal.hostReduceWindowAdd window strides lo hi h x (init (Shape.Idx.first hu)) j = _
  unfold Ideal.hostReduceWindowAdd Host.reduceWindow
  dsimp only
  refine (congrArg (fun f : EReal → Fin _ → EReal => List.foldl f (init (Shape.Idx.first hu)) (List.finRange _)) (funext fun r => funext fun n => congrArg (r + ·) ?_)).trans
    ((foldl_add (fun n => winAt window strides lo h.1.symm x (init (Shape.Idx.first hu)) j ((⟨s.rank, window⟩ : Shape).rowMajor.symm n)) (List.finRange _)
    (init (Shape.Idx.first hu))).trans ?_)
  · unfold winAt
    by_cases hin : ∀ a : Fin s.rank, lo a ≤ (j (a.cast h.1.symm)).val * strides a + ((⟨s.rank, window⟩ : Shape).rowMajor.symm n a).val
        ∧ (j (a.cast h.1.symm)).val * strides a + ((⟨s.rank, window⟩ : Shape).rowMajor.symm n a).val - lo a < s.size a
    · rw [dif_pos hin, dif_pos hin]
    · rw [dif_neg hin, dif_neg hin]
  rw [← Fin.sum_univ_def, Equiv.sum_comp (⟨s.rank, window⟩ : Shape).rowMajor.symm (winAt window strides lo h.1.symm x (init (Shape.Idx.first hu)) j)]

/-- The window of the sums from the right, at an offset. -/
abbrev winR (x : FVec Ideal S4x8x8192x8208 .f32) (v : EReal) (j : S4x8x8192x8208.Idx) : (⟨4, ![1, 1, 1, 8208]⟩ : Shape).Idx → EReal :=
  winAt (s := S4x8x8192x8208) (t := S4x8x8192x8208) ![1, 1, 1, 8208] ![1, 1, 1, 1] ![0, 0, 0, 0] rfl x v j

theorem winR_eq (x : FVec Ideal S4x8x8192x8208 .f32) (v : EReal) (b : Fin 4) (g : Fin 8) (t : Fin 8192) (s u : Fin 8208) :
    winR x v (ix4 b g t s) (ix4 (0 : Fin 1) (0 : Fin 1) (0 : Fin 1) u)
      = if h : s.val + u.val < 8208 then x (ix4 b g t ⟨s.val + u.val, h⟩) else v := by
  unfold winR winAt
  by_cases h : s.val + u.val < 8208
  · rw [dif_pos h, dif_pos]
    · congr 1; funext a
      match a with
      | ⟨0, _⟩ => exact Fin.ext (Nat.mul_one _)
      | ⟨1, _⟩ => exact Fin.ext (Nat.mul_one _)
      | ⟨2, _⟩ => exact Fin.ext (Nat.mul_one _)
      | ⟨3, _⟩ => exact Fin.ext (congrArg (· + u.val) (Nat.mul_one _))
    · intro a
      refine ⟨?_, ?_⟩
      · match a with
        | ⟨0, _⟩ => exact Nat.zero_le _
        | ⟨1, _⟩ => exact Nat.zero_le _
        | ⟨2, _⟩ => exact Nat.zero_le _
        | ⟨3, _⟩ => exact Nat.zero_le _
      · match a with
        | ⟨0, _⟩ => exact lt_of_eq_of_lt (Nat.mul_one _) b.isLt
        | ⟨1, _⟩ => exact lt_of_eq_of_lt (Nat.mul_one _) g.isLt
        | ⟨2, _⟩ => exact lt_of_eq_of_lt (Nat.mul_one _) t.isLt
        | ⟨3, _⟩ => exact lt_of_eq_of_lt (congrArg (· + u.val) (Nat.mul_one _)) h
  · rw [dif_neg h, dif_neg]
    intro hin
    exact h (lt_of_eq_of_lt (congrArg (· + u.val) (Nat.mul_one _)).symm (hin 3).2)

theorem cums_apply (x : FVec Ideal S4x8x8192x8208 .f32) (b : Fin 4) (g : Fin 8) (t : Fin 8192) (s : Fin 8208) (y : ℕ → ℝ)
    (h : ∀ u : Fin 8208, (x (ix4 b g t u) : EReal) = ((y u.val : ℝ) : EReal)) :
    (cums x (ix4 b g t s) : EReal) = ((∑ j ∈ Finset.Ico s.val 8208, y j : ℝ) : EReal) := by
  have hv : (broadcastInDim S_ ![] bcast_S_S_ (constant (F := Ideal) S_ .f32 0x00000000#32) (Shape.Idx.first h_S_) : EReal) = 0 := Ideal.ofBits_zero_f32
  refine (window_sum _ _ _ _ x _ reduceWindows_S4x8x8192x8208_S4x8x8192x8208_w1s1p0_0_w1s1p0_0_w1s1p0_0_w8208s1p0_8207 h_S_ (ix4 b g t s)).trans ?_
  rw [hv, zero_add]
  refine (Equiv.sum_comp winEquiv.symm (winR x 0 (ix4 b g t s))).symm.trans ?_
  have e2 : ∀ u : Fin 8208, winR x 0 (ix4 b g t s) (winEquiv.symm u) = (((if s.val + u.val < 8208 then y (s.val + u.val) else 0 : ℝ)) : EReal) := by
    intro u
    refine (winR_eq x 0 b g t s u).trans ?_
    by_cases hu : s.val + u.val < 8208
    · rw [dif_pos hu, if_pos hu]; exact h _
    · rw [dif_neg hu, if_neg hu]; rfl
  rw [Finset.sum_congr rfl fun u _ => e2 u, coe_sum]
  congr 1
  rw [Fin.sum_univ_eq_sum_range (fun u => if s.val + u < 8208 then y (s.val + u) else 0) 8208, Finset.sum_Ico_eq_sum_range]
  refine (Finset.sum_subset (Finset.range_subset_range.mpr (Nat.sub_le _ _)) fun u _ hu => ?_).symm.trans (Finset.sum_congr rfl fun u hu => ?_)
  · rw [Finset.mem_range] at hu; exact if_neg (by omega)
  · rw [Finset.mem_range] at hu; exact if_pos (by omega)

/-! ## The whole -/

theorem eighth : Ideal.ofBits .f32 0x3E000000#32 = ((1 / 8 : ℝ) : EReal) := by
  simp [Ideal.ofBits, Ideal.ieee, -EReal.coe_mul]; norm_num

section
variable {X M}
variable (hX : ∀ j, X j = ((EReal.toReal (X j) : ℝ) : EReal)) (hM : ∀ j, M j = ((EReal.toReal (M j) : ℝ) : EReal))

include hX hM

theorem zArr_apply (b : Fin 4) (g : Fin 8) (t : Fin 8192) (s : Fin 8208) :
    (zArr X M (ix4 b g t s) : EReal) = ((score X M b t.val g.val s.val : ℝ) : EReal) := by
  have e : (zArr X M (ix4 b g t s) : EReal) = (Host.dotGeneral dot_S4x8x8192x64_S4x8x8208x64_S4x8x8192x8208_3_3_2_2_01_01 none (qHeads X) (sHeads (kRows X M)) (ix4 b g t s) : EReal)
      * Ideal.ofBits .f32 0x3E000000#32 := rfl
  rw [e, dot_qk, eighth]
  unfold score
  rw [EReal.coe_mul, ← coe_sum]
  congr 1
  refine Finset.sum_congr rfl fun l _ => ?_
  rw [EReal.coe_mul, qHeads_apply, sHeads_apply, kRows_apply hX hM]
  refine congrArg₂ (fun x y : EReal => x * y) (rX_coe X hX b t.val (64 * g.val + l.val) t.isLt (by omega)) ?_
  show ((keyRow X M b s.val (512 + (64 * g.val + l.val)) : ℝ) : EReal) = _
  rw [← Nat.add_assoc]

theorem nlb_apply (b : Fin 4) (g : Fin 8) (t : Fin 8192) (s : Fin 8208) :
    (nlb X M (ix4 b g t s) : EReal) = (((if s.val < 16 + t.val then spX (score X M b t.val g.val s.val) else 0 : ℝ)) : EReal) := by
  unfold nlb
  rw [select_seen]
  split
  · exact softp_apply _ _ _ (zArr_apply hX hM b g t s)
  · exact zero4_apply _

theorem wArr_apply (b : Fin 4) (g : Fin 8) (t : Fin 8192) (s : Fin 8208) :
    (wArr X M (ix4 b g t s) : EReal) = (((if s.val < 16 + t.val then wt (score X M b t.val g.val) (16 + t.val) s.val else 0 : ℝ)) : EReal) := by
  unfold wArr
  rw [select_seen]
  split
  · next hs =>
    have hz : (Host.negf (zArr X M) (ix4 b g t s) : EReal) = ((-score X M b t.val g.val s.val : ℝ) : EReal) := by
      show -(zArr X M (ix4 b g t s) : EReal) = _
      rw [zArr_apply hX hM, EReal.coe_neg]
    have e : (Host.exp (subf (Host.negf (softp (Host.negf (zArr X M)))) (subf (cums (nlb X M)) (nlb X M))) (ix4 b g t s) : EReal)
        = Ideal.exp (-(softp (Host.negf (zArr X M)) (ix4 b g t s) : EReal) - ((cums (nlb X M) (ix4 b g t s) : EReal) - (nlb X M (ix4 b g t s) : EReal))) := rfl
    rw [e, softp_apply _ _ _ hz, cums_apply _ b g t s (fun j => if j < 16 + t.val then spX (score X M b t.val g.val j) else 0) (nlb_apply hX hM b g t),
      nlb_apply hX hM, if_pos hs, ← EReal.coe_neg, ← EReal.coe_sub, ← EReal.coe_sub, exp_coe]
    unfold wt
    congr 4
    refine (Finset.sum_subset (Finset.Ico_subset_Ico_right (by omega)) fun j _ hj => ?_).symm.trans (Finset.sum_congr rfl fun j hj => ?_)
    · rw [Finset.mem_Ico] at hj
      have hj' : j ∈ Finset.Ico s.val 8208 := by assumption
      rw [Finset.mem_Ico] at hj'
      exact if_neg (by omega)
    · exact if_pos (Finset.mem_Ico.mp hj).2
  · exact zero4_apply _

theorem outArr_apply (b : Fin 4) (t : Fin 8192) (n : Fin 512) :
    (outArr X M (ix3 b t n) : EReal) = ((specAt X M b t.val n.val : ℝ) : EReal) := by
  have e : (outArr X M (ix3 b t n) : EReal)
      = (Host.dotGeneral dot_S4x8x8192x8208_S4x8x8208x64_S4x8x8192x64_3_2_2_3_01_01 none (wArr X M) (sHeads (vRows X M))
          (ix4 b ⟨n.val / 64, by omega⟩ t ⟨n.val % 64, by omega⟩) : EReal) := by
    unfold outArr
    pointwise
  rw [e, dot_wv]
  have e2 : ∀ s : Fin 8208, ((wArr X M (ix4 b ⟨n.val / 64, by omega⟩ t s) : EReal) * (sHeads (vRows X M) (ix4 b ⟨n.val / 64, by omega⟩ s ⟨n.val % 64, by omega⟩) : EReal))
      = (((if s.val < 16 + t.val then wt (score X M b t.val (n.val / 64)) (16 + t.val) s.val * keyRow X M b s.val (1024 + n.val) else 0 : ℝ)) : EReal) := by
    intro s
    rw [wArr_apply hX hM, sHeads_apply, vRows_apply hX hM, ← EReal.coe_mul]
    congr 1
    rw [ite_mul, zero_mul]
    refine if_congr Iff.rfl (congrArg _ ?_) rfl
    show keyRow X M b s.val (1024 + (64 * (n.val / 64) + n.val % 64)) = _
    rw [Nat.div_add_mod]
  rw [Finset.sum_congr rfl fun s _ => e2 s, coe_sum]
  congr 1
  unfold specAt
  rw [Fin.sum_univ_eq_sum_range (fun s => if s < 16 + t.val then wt (score X M b t.val (n.val / 64)) (16 + t.val) s * keyRow X M b s (1024 + n.val) else 0) 8208,
    ← Finset.range_eq_Ico]
  refine (Finset.sum_subset (Finset.range_subset_range.mpr (by omega)) fun s _ hs => ?_).symm.trans (Finset.sum_congr rfl fun s hs => ?_)
  · rw [Finset.mem_range] at hs; exact if_neg hs
  · exact if_pos (Finset.mem_range.mp hs)

end

end Cert.ReferenceIdeal.SB

end
-- ==== Proof.SB.Finite.lean ====
/-
  The precondition: arguments below infinity in magnitude are reals.
-/
module

public import proofs.«01_k».proof.Defs
public import Idealize.ShloMosaic.PureOps.Ideal.Laws

@[expose] public section

noncomputable section

namespace Cert.SB

open Idealize.ShloMosaic

theorem finite_facts : Cert.Pre_finite.Facts := ⟨by decide, by decide, by decide⟩
attribute [local instance] finite_facts

theorem infty : Ideal.ofBits .f32 0x7F800000#32 = ⊤ := by simp [Ideal.ofBits, Ideal.ieee]

theorem real_of_lt (x : EReal) (h : Ideal.cmp .olt (max x (-x)) (Ideal.ofBits .f32 0x7F800000#32) = 1#1) : x = ((x.toReal : ℝ) : EReal) := by
  rw [infty] at h
  have hl : max x (-x) < ⊤ := by
    by_contra hn
    simp [Ideal.cmp, hn] at h
  refine (EReal.coe_toReal (fun e => ?_) (fun e => ?_)).symm
  · rw [e] at hl; exact absurd hl (by simp)
  · rw [e] at hl; exact absurd hl (by simp)

theorem finite_args (X : FVec Ideal Cert.Pre_finite.S4x8192x1536 .bf16) (M : FVec Ideal Cert.Pre_finite.S128x1536 .bf16)
    (h : (Cert.Pre_finite.fn (F := Ideal) X M).1 = (fun _ => 1#1) ∧ (Cert.Pre_finite.fn (F := Ideal) X M).2 = (fun _ => 1#1)) :
    (∀ j, X j = ((EReal.toReal (X j) : ℝ) : EReal)) ∧ ∀ j, M j = ((EReal.toReal (M j) : ℝ) : EReal) :=
  ⟨fun j => real_of_lt (X j) (congrFun h.1 j), fun j => real_of_lt (M j) (congrFun h.2 j)⟩

end Cert.SB

end
-- ==== Proof.lean ====
/-
  The certificate. Of each of the three launches, the attention, the merge with the feed-forward layer, and the
  projection: the launch, both as printed and in its ideal reading, and its reference end with their arguments as they
  were and every counter at zero; each constant the ideal reading names has the value stated for it; and the launch and
  its reference end with the same arrays, the attention from finite arguments, the other two from any.
-/
module

public import proofs.«01_k».proof.Defs
public import proofs.«01_k».proof.Proof.Gen.Kernel
public import proofs.«01_k».proof.Proof.Gen.KernelIdeal
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeReferenceIdeal
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjReferenceIdeal.Run
public import proofs.«01_k».proof.Proof.SB.Proj.Kernel
public import proofs.«01_k».proof.Proof.SB.Proj.Reference
public import proofs.«01_k».proof.Proof.SB.Merge.Kernel
public import proofs.«01_k».proof.Proof.SB.Merge.Reference
public import proofs.«01_k».proof.Proof.SB.Kernel.Run
public import proofs.«01_k».proof.Proof.SB.KernelIdeal.Array
public import proofs.«01_k».proof.Proof.SB.RefRead
public import proofs.«01_k».proof.Proof.SB.Finite
public import Idealize.ShloMosaic.Lib.Quiescent
public import Idealize.ShloMosaic.Adequacy
public import Idealize.ShloMosaic.Init

@[expose] public section

noncomputable section

namespace Cert.Proof

open Idealize.ShloMosaic Idealize.SL.Sem

/-- The named constants have their stated values. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

/-- The reference ends with its arguments as they were and every counter at zero. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- From finite arguments the attention and the reference end with the same array. -/
theorem algebraic : Cert.algebraic_KernelIdeal_ReferenceIdeal_pre_finite (hKernelIdeal := Cert.KernelIdeal.Gen.facts)
    (hReferenceIdeal := Cert.ReferenceIdeal.Gen.facts) (hPre_finite := Cert.SB.finite_facts) := by
  intro m ρ m' ρ' hpre hagree
  have hf := fun c => Cert.SB.finite_args _ _ (hpre c)
  refine ⟨_, Cert.KernelIdeal.SB.run_spec m ρ (fun c => (hf c).1) (fun c => (hf c).2), ?_⟩
  refine (θ_run Cert.ReferenceIdeal.defs _ _).mono (fun _ h c => ⟨(h c).1.trans ?_, (h c).2⟩) (Cert.ReferenceIdeal.Value.run (F := Ideal) m' ρ')
  refine (Cert.ReferenceIdeal.SB.res_eq m' c).trans ?_
  rw [(hagree c).1, (hagree c).2]
  funext j
  rw [ValueIdx.eq_ix3 j]
  exact Cert.ReferenceIdeal.SB.outArr_apply (hf c).1 (hf c).2 (j 0) (j 1) (j 2)

/-- The projection and its reference end with the same three arrays. -/
theorem algebraic_proj : Cert.algebraic_ProjIdeal_ProjReferenceIdeal (hProjIdeal := Cert.ProjIdeal.Gen.facts)
    (hProjReferenceIdeal := Cert.ProjReferenceIdeal.Gen.facts) := by
  intro m ρ m' ρ' _ hagree
  refine ⟨fun c => Cert.ProjIdeal.SB.proj0 (Cert.ProjIdeal.SB.aX m c) (Cert.ProjIdeal.SB.aG m c) (Cert.ProjIdeal.SB.aW m c),
    fun c => Cert.ProjIdeal.SB.proj1 (Cert.ProjIdeal.SB.aX m c) (Cert.ProjIdeal.SB.aG m c) (Cert.ProjIdeal.SB.aW m c),
    fun c => Cert.ProjIdeal.SB.proj2 (Cert.ProjIdeal.SB.aX m c) (Cert.ProjIdeal.SB.aG m c) (Cert.ProjIdeal.SB.aW m c), ?_, ?_⟩
  · exact (θ_run Cert.ProjIdeal.defs _ _).mono (fun _ h c => ⟨(h c).1.trans (Cert.ProjIdeal.SB.arr3 m c),
      (h c).2.1.trans (Cert.ProjIdeal.SB.arr4 m c), (h c).2.2.1.trans (Cert.ProjIdeal.SB.arr5 m c), (h c).2.2.2⟩)
      (Cert.ProjIdeal.Value.run_blocks (F := Ideal) m ρ)
  · refine (θ_run Cert.ProjReferenceIdeal.defs _ _).mono (fun _ h c => ?_) (Cert.ProjReferenceIdeal.SB.run_spec m' ρ')
    obtain ⟨h0, h1, h2, hk⟩ := h c
    have e0 : Cert.ProjReferenceIdeal.SB.aX m' c = Cert.ProjIdeal.SB.aX m c := (hagree c).1
    have e1 : Cert.ProjReferenceIdeal.SB.aG m' c = Cert.ProjIdeal.SB.aG m c := (hagree c).2.1
    have e2 : Cert.ProjReferenceIdeal.SB.aW m' c = Cert.ProjIdeal.SB.aW m c := (hagree c).2.2
    rw [e0, e1, e2] at h0 h1 h2
    exact ⟨h0, h1, h2, hk⟩

/-- The merge and its reference end with the same array. -/
theorem algebraic_merge : Cert.algebraic_MergeIdeal_MergeReferenceIdeal (hMergeIdeal := Cert.MergeIdeal.Gen.facts)
    (hMergeReferenceIdeal := Cert.MergeReferenceIdeal.Gen.facts) := by
  intro m ρ m' ρ' _ hagree
  refine ⟨fun c => Cert.MergeIdeal.SB.out m c, ?_, ?_⟩
  · exact (θ_run Cert.MergeIdeal.defs _ _).mono (fun _ h c => ⟨(h c).1.trans (Cert.MergeIdeal.SB.arr14 m c), (h c).2⟩)
      (Cert.MergeIdeal.Value.run_blocks (F := Ideal) m ρ)
  · refine (θ_run Cert.MergeReferenceIdeal.defs _ _).mono (fun _ h c => ⟨(h c).1.trans ?_, (h c).2⟩) (Cert.MergeReferenceIdeal.SB.run_spec m' ρ')
    obtain ⟨e0, e1, e2, e3, e4, e5, e6, e7, e8, e9, e10, e11, e12⟩ := hagree c
    funext j
    unfold Cert.MergeReferenceIdeal.SB.out Cert.MergeIdeal.SB.out
    rw [e0, e1, e2, e3, e4, e5, e6, e7, e8, e9, e10, e11, e12]

/-- The projection's reference ends with its arguments as they were and every counter at zero. -/
theorem frame_proj_ref : Cert.quiescent_ProjReferenceIdeal (hProjReferenceIdeal := Cert.ProjReferenceIdeal.Gen.facts) := fun m ρ _ =>
  (θ_run Cert.ProjReferenceIdeal.defs _ _).mono (fun r h => ⟨fun c => (h c).2.2.2, sem_eq_zero_of_no_sems (by decide) r.2⟩)
    (Cert.ProjReferenceIdeal.SB.run_spec m ρ)

/-- The merge's reference ends with its arguments as they were and every counter at zero. -/
theorem frame_merge_ref : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.SB.run_spec m ρ)

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Proj.Gen.facts, Cert.ProjIdeal.Gen.facts, Cert.ProjReferenceIdeal.Gen.facts, Cert.SB.finite_facts,
  fun m ρ _ => Cert.Kernel.SB.frame m ρ, fun m ρ _ => Cert.KernelIdeal.SB.frame m ρ, fun m ρ _ => Cert.KernelIdeal.SB.frame m ρ,
  fun m ρ _ => frame_ref m ρ, fun m ρ _ => frame_ref m ρ,
  fun m ρ _ => Cert.Merge.Gen.frame m ρ, fun m ρ _ => Cert.MergeIdeal.Gen.frame m ρ, frame_merge_ref,
  fun m ρ _ => Cert.Proj.Gen.frame m ρ, fun m ρ _ => Cert.ProjIdeal.Gen.frame m ρ, frame_proj_ref,
  preserves, algebraic, trivial, algebraic_merge, trivial, algebraic_proj⟩

end Cert.Proof

end
